-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def preserves_Mlp_MlpIdeal : Prop :=
  IdealRules.named_const.Statement Cert.MlpIdeal.κ "inv_448" .f32 0x3B124925#32 ((1 / 448 : ℝ) : EReal)

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)
      ∧ m' ((c.tc : Thread Cert.MlpReferenceIdeal.nD Cert.MlpReferenceIdeal.τ).loc Cert.MlpReferenceIdeal.main_arg10) = m ((c.tc : Thread Cert.MlpIdeal.nD Cert.MlpIdeal.τ).loc Cert.MlpIdeal.main_arg10)) →
    ∃ (v0 : (c : Dev Cert.MlpIdeal.nD) → Buf (Elt Ideal) ((c.tc : Thread Cert.MlpIdeal.nD Cert.MlpIdeal.τ).loc Cert.MlpIdeal.main_v9_0)) (v1 : (c : Dev Cert.MlpIdeal.nD) → Buf (Elt Ideal) ((c.tc : Thread Cert.MlpIdeal.nD Cert.MlpIdeal.τ).loc Cert.MlpIdeal.main_v9_1)) (v2 : (c : Dev Cert.MlpIdeal.nD) → Buf (Elt Ideal) ((c.tc : Thread Cert.MlpIdeal.nD Cert.MlpIdeal.τ).loc Cert.MlpIdeal.main_v9_2)) (v3 : (c : Dev Cert.MlpIdeal.nD) → Buf (Elt Ideal) ((c.tc : Thread Cert.MlpIdeal.nD Cert.MlpIdeal.τ).loc Cert.MlpIdeal.main_v9_3)) (v4 : (c : Dev Cert.MlpIdeal.nD) → Buf (Elt Ideal) ((c.tc : Thread Cert.MlpIdeal.nD Cert.MlpIdeal.τ).loc Cert.MlpIdeal.main_v9_4)) (v5 : (c : Dev Cert.MlpIdeal.nD) → Buf (Elt Ideal) ((c.tc : Thread Cert.MlpIdeal.nD Cert.MlpIdeal.τ).loc Cert.MlpIdeal.main_v9_5)) (v6 : (c : Dev Cert.MlpIdeal.nD) → Buf (Elt Ideal) ((c.tc : Thread Cert.MlpIdeal.nD Cert.MlpIdeal.τ).loc Cert.MlpIdeal.main_v9_6)) (v7 : (c : Dev Cert.MlpIdeal.nD) → Buf (Elt Ideal) ((c.tc : Thread Cert.MlpIdeal.nD Cert.MlpIdeal.τ).loc Cert.MlpIdeal.main_v9_7)) (v8 : (c : Dev Cert.MlpIdeal.nD) → Buf (Elt Ideal) ((c.tc : Thread Cert.MlpIdeal.nD Cert.MlpIdeal.τ).loc Cert.MlpIdeal.main_v9_8)) (v9 : (c : Dev Cert.MlpIdeal.nD) → Buf (Elt Ideal) ((c.tc : Thread Cert.MlpIdeal.nD Cert.MlpIdeal.τ).loc Cert.MlpIdeal.main_v9_9)) (v10 : (c : Dev Cert.MlpIdeal.nD) → Buf (Elt Ideal) ((c.tc : Thread Cert.MlpIdeal.nD Cert.MlpIdeal.τ).loc Cert.MlpIdeal.main_v9_10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9_0) = v0 c
          ∧ r.2.mem ((c.tc : Thread Cert.MlpIdeal.nD Cert.MlpIdeal.τ).loc Cert.MlpIdeal.main_v9_1) = v1 c
          ∧ r.2.mem ((c.tc : Thread Cert.MlpIdeal.nD Cert.MlpIdeal.τ).loc Cert.MlpIdeal.main_v9_2) = v2 c
          ∧ r.2.mem ((c.tc : Thread Cert.MlpIdeal.nD Cert.MlpIdeal.τ).loc Cert.MlpIdeal.main_v9_3) = v3 c
          ∧ r.2.mem ((c.tc : Thread Cert.MlpIdeal.nD Cert.MlpIdeal.τ).loc Cert.MlpIdeal.main_v9_4) = v4 c
          ∧ r.2.mem ((c.tc : Thread Cert.MlpIdeal.nD Cert.MlpIdeal.τ).loc Cert.MlpIdeal.main_v9_5) = v5 c
          ∧ r.2.mem ((c.tc : Thread Cert.MlpIdeal.nD Cert.MlpIdeal.τ).loc Cert.MlpIdeal.main_v9_6) = v6 c
          ∧ r.2.mem ((c.tc : Thread Cert.MlpIdeal.nD Cert.MlpIdeal.τ).loc Cert.MlpIdeal.main_v9_7) = v7 c
          ∧ r.2.mem ((c.tc : Thread Cert.MlpIdeal.nD Cert.MlpIdeal.τ).loc Cert.MlpIdeal.main_v9_8) = v8 c
          ∧ r.2.mem ((c.tc : Thread Cert.MlpIdeal.nD Cert.MlpIdeal.τ).loc Cert.MlpIdeal.main_v9_9) = v9 c
          ∧ r.2.mem ((c.tc : Thread Cert.MlpIdeal.nD Cert.MlpIdeal.τ).loc Cert.MlpIdeal.main_v9_10) = v10 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v9_0) = v0 c
          ∧ r.2.mem ((c.tc : Thread Cert.MlpReferenceIdeal.nD Cert.MlpReferenceIdeal.τ).loc Cert.MlpReferenceIdeal.main_v9_1) = v1 c
          ∧ r.2.mem ((c.tc : Thread Cert.MlpReferenceIdeal.nD Cert.MlpReferenceIdeal.τ).loc Cert.MlpReferenceIdeal.main_v9_2) = v2 c
          ∧ r.2.mem ((c.tc : Thread Cert.MlpReferenceIdeal.nD Cert.MlpReferenceIdeal.τ).loc Cert.MlpReferenceIdeal.main_v9_3) = v3 c
          ∧ r.2.mem ((c.tc : Thread Cert.MlpReferenceIdeal.nD Cert.MlpReferenceIdeal.τ).loc Cert.MlpReferenceIdeal.main_v9_4) = v4 c
          ∧ r.2.mem ((c.tc : Thread Cert.MlpReferenceIdeal.nD Cert.MlpReferenceIdeal.τ).loc Cert.MlpReferenceIdeal.main_v9_5) = v5 c
          ∧ r.2.mem ((c.tc : Thread Cert.MlpReferenceIdeal.nD Cert.MlpReferenceIdeal.τ).loc Cert.MlpReferenceIdeal.main_v9_6) = v6 c
          ∧ r.2.mem ((c.tc : Thread Cert.MlpReferenceIdeal.nD Cert.MlpReferenceIdeal.τ).loc Cert.MlpReferenceIdeal.main_v9_7) = v7 c
          ∧ r.2.mem ((c.tc : Thread Cert.MlpReferenceIdeal.nD Cert.MlpReferenceIdeal.τ).loc Cert.MlpReferenceIdeal.main_v9_8) = v8 c
          ∧ r.2.mem ((c.tc : Thread Cert.MlpReferenceIdeal.nD Cert.MlpReferenceIdeal.τ).loc Cert.MlpReferenceIdeal.main_v9_9) = v9 c
          ∧ r.2.mem ((c.tc : Thread Cert.MlpReferenceIdeal.nD Cert.MlpReferenceIdeal.τ).loc Cert.MlpReferenceIdeal.main_v9_10) = v10 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10))

def preserves_InProj_InProjIdeal : Prop :=
  IdealRules.named_const.Statement Cert.InProjIdeal.κ "inv_448" .f32 0x3B124925#32 ((1 / 448 : ℝ) : EReal)

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4_0) = v0 c
          ∧ r.2.mem ((c.tc : Thread Cert.InProjReferenceIdeal.nD Cert.InProjReferenceIdeal.τ).loc Cert.InProjReferenceIdeal.main_v4_1) = v1 c
          ∧ r.2.mem ((c.tc : Thread Cert.InProjReferenceIdeal.nD Cert.InProjReferenceIdeal.τ).loc Cert.InProjReferenceIdeal.main_v4_2) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def Claim : Prop :=
  ∃ (hMlp : Cert.Mlp.Facts) (hMlpIdeal : Cert.MlpIdeal.Facts) (hMlpReferenceIdeal : Cert.MlpReferenceIdeal.Facts) (hInProj : Cert.InProj.Facts) (hInProjIdeal : Cert.InProjIdeal.Facts) (hInProjReferenceIdeal : Cert.InProjReferenceIdeal.Facts),
    quiescent_Mlp (hMlp := hMlp)
    ∧ quiescent_MlpIdeal (hMlpIdeal := hMlpIdeal)
    ∧ quiescent_MlpReferenceIdeal (hMlpReferenceIdeal := hMlpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Mlp_MlpIdeal
    ∧ algebraic_MlpIdeal_MlpReferenceIdeal (hMlpIdeal := hMlpIdeal) (hMlpReferenceIdeal := hMlpReferenceIdeal)
    ∧ preserves_InProj_InProjIdeal
    ∧ algebraic_InProjIdeal_InProjReferenceIdeal (hInProjIdeal := hInProjIdeal) (hInProjReferenceIdeal := hInProjReferenceIdeal)
-- ==== Mlp.lean ====
abbrev S40x6x3072 : Shape := ⟨3, ![40, 6, 3072]⟩
abbrev S40x6x1536 : Shape := ⟨3, ![40, 6, 1536]⟩
abbrev S3072x1536 : Shape := ⟨2, ![3072, 1536]⟩
abbrev S1536 : Shape := ⟨1, ![1536]⟩
abbrev S1536x6144 : Shape := ⟨2, ![1536, 6144]⟩
abbrev S6144 : Shape := ⟨1, ![6144]⟩
abbrev S6144x1536 : Shape := ⟨2, ![6144, 1536]⟩
abbrev S6x40x1536 : Shape := ⟨3, ![6, 40, 1536]⟩
abbrev S240x1536 : Shape := ⟨2, ![240, 1536]⟩
abbrev S6x40x3072 : Shape := ⟨3, ![6, 40, 3072]⟩
abbrev S240x3072 : Shape := ⟨2, ![240, 3072]⟩
abbrev S1x1536 : Shape := ⟨2, ![1, 1536]⟩
abbrev S1x6144 : Shape := ⟨2, ![1, 6144]⟩
abbrev S6x40 : Shape := ⟨2, ![6, 40]⟩
abbrev S240x6144 : Shape := ⟨2, ![240, 6144]⟩
abbrev S3072x512 : Shape := ⟨2, ![3072, 512]⟩
abbrev S1x512 : Shape := ⟨2, ![1, 512]⟩
abbrev S1536x512 : Shape := ⟨2, ![1536, 512]⟩
abbrev S6144x256 : Shape := ⟨2, ![6144, 256]⟩
abbrev S1x256 : Shape := ⟨2, ![1, 256]⟩
abbrev S240x256 : Shape := ⟨2, ![240, 256]⟩
abbrev S240x512 : Shape := ⟨2, ![240, 512]⟩
abbrev S256x3072 : Shape := ⟨2, ![256, 3072]⟩
abbrev S240x1 : Shape := ⟨2, ![240, 1]⟩
abbrev S256x1536 : Shape := ⟨2, ![256, 1536]⟩
abbrev S256x6144 : Shape := ⟨2, ![256, 6144]⟩
abbrev S240 : Shape := ⟨1, ![240]⟩
abbrev S40x1 : Shape := ⟨2, ![40, 1]⟩
abbrev S40x40 : Shape := ⟨2, ![40, 40]⟩
abbrev S40 : Shape := ⟨1, ![40]⟩
abbrev S1x40 : Shape := ⟨2, ![1, 40]⟩
abbrev S256x512 : Shape := ⟨2, ![256, 512]⟩
abbrev S256x256 : Shape := ⟨2, ![256, 256]⟩

abbrev nBuf : Space → Nat
  | .hbm => 31
  | .vmem => 43
  | .smem => 0
  | _ => 0

abbrev bufTy : (tb : Table) → Fin (tcTables nBuf tb) → BufTy
  | .hbm, ⟨0, _⟩ => ⟨S40x6x3072, .f32⟩
  | .hbm, ⟨1, _⟩ => ⟨S40x6x1536, .bf16⟩
  | .hbm, ⟨2, _⟩ => ⟨S3072x1536, .fp8e4m3⟩
  | .hbm, ⟨3, _⟩ => ⟨S1536, .f32⟩
  | .hbm, ⟨4, _⟩ => ⟨S1536, .f32⟩
  | .hbm, ⟨5, _⟩ => ⟨S1536x6144, .fp8e4m3⟩
  | .hbm, ⟨6, _⟩ => ⟨S6144, .f32⟩
  | .hbm, ⟨7, _⟩ => ⟨S1536x6144, .fp8e4m3⟩
  | .hbm, ⟨8, _⟩ => ⟨S6144, .f32⟩
  | .hbm, ⟨9, _⟩ => ⟨S6144x1536, .fp8e4m3⟩
  | .hbm, ⟨10, _⟩ => ⟨S1536, .f32⟩
  | .hbm, ⟨11, _⟩ => ⟨S6x40x1536, .bf16⟩
  | .hbm, ⟨12, _⟩ => ⟨S240x1536, .bf16⟩
  | .hbm, ⟨13, _⟩ => ⟨S6x40x3072, .f32⟩
  | .hbm, ⟨14, _⟩ => ⟨S240x3072, .f32⟩
  | .hbm, ⟨15, _⟩ => ⟨S1x1536, .f32⟩
  | .hbm, ⟨16, _⟩ => ⟨S1x1536, .f32⟩
  | .hbm, ⟨17, _⟩ => ⟨S1x6144, .f32⟩
  | .hbm, ⟨18, _⟩ => ⟨S1x6144, .f32⟩
  | .hbm, ⟨19, _⟩ => ⟨S1x1536, .f32⟩
  | .hbm, ⟨20, _⟩ => ⟨S240x1536, .bf16⟩
  | .hbm, ⟨21, _⟩ => ⟨S240x3072, .fp8e4m3⟩
  | .hbm, ⟨22, _⟩ => ⟨S6x40, .f32⟩
  | .hbm, ⟨23, _⟩ => ⟨S240x1536, .fp8e4m3⟩
  | .hbm, ⟨24, _⟩ => ⟨S6x40, .f32⟩
  | .hbm, ⟨25, _⟩ => ⟨S240x6144, .fp8e4m3⟩
  | .hbm, ⟨26, _⟩ => ⟨S6x40, .f32⟩
  | .hbm, ⟨27, _⟩ => ⟨S240x1536, .f32⟩
  | .hbm, ⟨28, _⟩ => ⟨S240x6144, .f32⟩
  | .hbm, ⟨29, _⟩ => ⟨S240x6144, .f32⟩
  | .hbm, ⟨30, _⟩ => ⟨S240x1536, .f32⟩
  | .local _ .vmem, ⟨0, _⟩ => ⟨S240x3072, .f32⟩
  | .local _ .vmem, ⟨1, _⟩ => ⟨S240x1536, .bf16⟩
  | .local _ .vmem, ⟨2, _⟩ => ⟨S3072x512, .fp8e4m3⟩
  | .local _ .vmem, ⟨3, _⟩ => ⟨S3072x512, .fp8e4m3⟩
  | .local _ .vmem, ⟨4, _⟩ => ⟨S1x512, .f32⟩
  | .local _ .vmem, ⟨5, _⟩ => ⟨S1x512, .f32⟩
  | .local _ .vmem, ⟨6, _⟩ => ⟨S1x1536, .f32⟩
  | .local _ .vmem, ⟨7, _⟩ => ⟨S1536x512, .fp8e4m3⟩
  | .local _ .vmem, ⟨8, _⟩ => ⟨S1536x512, .fp8e4m3⟩
  | .local _ .vmem, ⟨9, _⟩ => ⟨S1x512, .f32⟩
  | .local _ .vmem, ⟨10, _⟩ => ⟨S1x512, .f32⟩
  | .local _ .vmem, ⟨11, _⟩ => ⟨S1536x512, .fp8e4m3⟩
  | .local _ .vmem, ⟨12, _⟩ => ⟨S1536x512, .fp8e4m3⟩
  | .local _ .vmem, ⟨13, _⟩ => ⟨S1x512, .f32⟩
  | .local _ .vmem, ⟨14, _⟩ => ⟨S1x512, .f32⟩
  | .local _ .vmem, ⟨15, _⟩ => ⟨S6144x256, .fp8e4m3⟩
  | .local _ .vmem, ⟨16, _⟩ => ⟨S6144x256, .fp8e4m3⟩
  | .local _ .vmem, ⟨17, _⟩ => ⟨S1x256, .f32⟩
  | .local _ .vmem, ⟨18, _⟩ => ⟨S1x256, .f32⟩
  | .local _ .vmem, ⟨19, _⟩ => ⟨S240x256, .bf16⟩
  | .local _ .vmem, ⟨20, _⟩ => ⟨S240x256, .bf16⟩
  | .local _ .vmem, ⟨21, _⟩ => ⟨S240x3072, .fp8e4m3⟩
  | .local _ .vmem, ⟨22, _⟩ => ⟨S6x40, .f32⟩
  | .local _ .vmem, ⟨23, _⟩ => ⟨S240x1536, .fp8e4m3⟩
  | .local _ .vmem, ⟨24, _⟩ => ⟨S6x40, .f32⟩
  | .local _ .vmem, ⟨25, _⟩ => ⟨S240x6144, .fp8e4m3⟩
  | .local _ .vmem, ⟨26, _⟩ => ⟨S6x40, .f32⟩
  | .local _ .vmem, ⟨27, _⟩ => ⟨S240x512, .f32⟩
  | .local _ .vmem, ⟨28, _⟩ => ⟨S240x512, .f32⟩
  | .local _ .vmem, ⟨29, _⟩ => ⟨S240x512, .f32⟩
  | .local _ .vmem, ⟨30, _⟩ => ⟨S240x512, .f32⟩
  | .local _ .vmem, ⟨31, _⟩ => ⟨S240x512, .f32⟩
  | .local _ .vmem, ⟨32, _⟩ => ⟨S240x512, .f32⟩
  | .local _ .vmem, ⟨33, _⟩ => ⟨S240x256, .f32⟩
  | .local _ .vmem, ⟨34, _⟩ => ⟨S240x256, .f32⟩
  | .local _ .vmem, ⟨35, _⟩ => ⟨S256x3072, .fp8e4m3⟩
  | .local _ .vmem, ⟨36, _⟩ => ⟨S240x1, .f32⟩
  | .local _ .vmem, ⟨37, _⟩ => ⟨S240x1536, .f32⟩
  | .local _ .vmem, ⟨38, _⟩ => ⟨S256x1536, .fp8e4m3⟩
  | .local _ .vmem, ⟨39, _⟩ => ⟨S240x1, .f32⟩
  | .local _ .vmem, ⟨40, _⟩ => ⟨S240x6144, .f32⟩
  | .local _ .vmem, ⟨41, _⟩ => ⟨S256x6144, .fp8e4m3⟩
  | .local _ .vmem, ⟨42, _⟩ => ⟨S240x1, .f32⟩
  | _, _ => ⟨S40x6x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev main_v9_10 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_scratch7 : Ref sig .tc := ⟨.vmem, 42, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![21], ![false]⟩

def k0_cond2 (i : grid0.Coords) : BitVec 1 :=
  let arg0 : BitVec 32 := BitVec.ofNat 32 (i 0).val
  let c3_i32 : BitVec 32 := 3#32
  let v3 : BitVec 1 := Scalar.cmpi .slt arg0 c3_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c512_i32 : BitVec 32 := 512#32
  let v32 : BitVec 32 := Scalar.muli arg0 c512_i32
  v32
def k0_off1 (i : grid0.Coords) : Fin 2 → Nat :=
  let c0_19 : Index := 0#32
  let arg0 : BitVec 32 := BitVec.ofNat 32 (i 0).val
  let c512_i32 : BitVec 32 := 512#32
  let v32 : BitVec 32 := Scalar.muli arg0 c512_i32
  let v33 : BitVec 32 := v32
  let v34 : Index := Scalar.indexCast v33
  ![0, v34.toNat]
def k0_cond4 (i : grid0.Coords) : BitVec 1 :=
  let arg0 : BitVec 32 := BitVec.ofNat 32 (i 0).val
  let c3_i32_4 : BitVec 32 := 3#32
  let v9 : BitVec 1 := Scalar.cmpi .sge arg0 c3_i32_4
  let c15_i32 : BitVec 32 := 15#32
  let v10 : BitVec 1 := Scalar.cmpi .slt arg0 c15_i32
  let v11 : BitVec 1 := Scalar.andi v9 v10
  let v12 : BitVec 32 := Scalar.extui v11
  let c0_i32_5 : BitVec 32 := 0#32
  let v13 : BitVec 1 := Scalar.cmpi .ne v12 c0_i32_5
  v13

def k0_mult2 (i : grid0.Coords) : BitVec 32 :=
  let arg0 : BitVec 32 := BitVec.ofNat 32 (i 0).val
  let c3_i32_30 : BitVec 32 := 3#32
  let v44 : BitVec 32 := Scalar.subi arg0 c3_i32_30
  let c512_i32 : BitVec 32 := 512#32
  let v45 : BitVec 32 := Scalar.muli v44 c512_i32
  v45
def k0_off2 (i : grid0.Coords) : Fin 2 → Nat :=
  let c0_31 : Index := 0#32
  let arg0 : BitVec 32 := BitVec.ofNat 32 (i 0).val
  let c3_i32_30 : BitVec 32 := 3#32
  let v44 : BitVec 32 := Scalar.subi arg0 c3_i32_30
  let c512_i32 : BitVec 32 := 512#32
  let v45 : BitVec 32 := Scalar.muli v44 c512_i32
  let v46 : BitVec 32 := v45
  let v50 : Index := Scalar.indexCast v46
  ![0, v50.toNat]
def k0_cond6 (i : grid0.Coords) : BitVec 1 :=
  let arg0 : BitVec 32 := BitVec.ofNat 32 (i 0).val
  let c15_i32_8 : BitVec 32 := 15#32
  let v17 : BitVec 1 := Scalar.cmpi .sge arg0 c15_i32_8
  let v18 : BitVec 32 := Scalar.extui v17
  let c0_i32_9 : BitVec 32 := 0#32
  let v19 : BitVec 1 := Scalar.cmpi .ne v18 c0_i32_9
  v19

def k0_mult3 (i : grid0.Coords) : BitVec 32 :=
  let arg0 : BitVec 32 := BitVec.ofNat 32 (i 0).val
  let c15_i32_19 : BitVec 32 := 15#32
  let v32 : BitVec 32 := Scalar.subi arg0 c15_i32_19
  let c256_i32 : BitVec 32 := 256#32
  let v33 : BitVec 32 := Scalar.muli v32 c256_i32
  v33
def k0_off3 (i : grid0.Coords) : Fin 2 → Nat :=
  let c0_20 : Index := 0#32
  let arg0 : BitVec 32 := BitVec.ofNat 32 (i 0).val
  let c15_i32_19 : BitVec 32 := 15#32
  let v32 : BitVec 32 := Scalar.subi arg0 c15_i32_19
  let c256_i32 : BitVec 32 := 256#32
  let v33 : BitVec 32 := Scalar.muli v32 c256_i32
  let v34 : BitVec 32 := v33
  let v35 : Index := Scalar.indexCast v34
  ![0, v35.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c3_i32_2 : BitVec 32 := 3#32
  let v6 : BitVec 1 := Scalar.cmpi .eq arg0 c3_i32_2
  let v7 : BitVec 32 := Scalar.extui v6
  let c0_i32_3 : BitVec 32 := 0#32
  let v8 : BitVec 1 := Scalar.cmpi .ne v7 c0_i32_3
  v8

def k0_cond5 (i : grid0.Coords) : BitVec 1 :=
  let arg0 : BitVec 32 := BitVec.ofNat 32 (i 0).val
  let c15_i32_6 : BitVec 32 := 15#32
  let v14 : BitVec 1 := Scalar.cmpi .eq arg0 c15_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_11 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  ![c0_i32.toNat, v0.toNat]

def cc0_transform_19 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_20 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_21 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

abbrev stage0_0 : Fin 1 → Memref sig .tc .vmem S240x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S240x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6144x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S240x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S240x3072 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S240x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x40 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S240x6144 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x40 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S240x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S240x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S240x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S240x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MlpIdeal.lean ====
variable {F : FTy → Type} [FloatOps F] [Named F]
def κ : String → Option EReal := fun
  | "inv_448" => some ((1 / 448 : ℝ) : EReal)
  | _ => none
-- ==== MlpReferenceIdeal.lean ====
abbrev S40x6x3072 : Shape := ⟨3, ![40, 6, 3072]⟩
abbrev S40x6x1536 : Shape := ⟨3, ![40, 6, 1536]⟩
abbrev S3072x1536 : Shape := ⟨2, ![3072, 1536]⟩
abbrev S1536 : Shape := ⟨1, ![1536]⟩
abbrev S1536x6144 : Shape := ⟨2, ![1536, 6144]⟩
abbrev S6144 : Shape := ⟨1, ![6144]⟩
abbrev S6144x1536 : Shape := ⟨2, ![6144, 1536]⟩
abbrev S6x40x3072 : Shape := ⟨3, ![6, 40, 3072]⟩
abbrev S240x3072 : Shape := ⟨2, ![240, 3072]⟩
abbrev S6x40x1536 : Shape := ⟨3, ![6, 40, 1536]⟩
abbrev S240x1536 : Shape := ⟨2, ![240, 1536]⟩
abbrev S1x1536 : Shape := ⟨2, ![1, 1536]⟩
abbrev S1x6144 : Shape := ⟨2, ![1, 6144]⟩
abbrev S6x40 : Shape := ⟨2, ![6, 40]⟩
abbrev S240x6144 : Shape := ⟨2, ![240, 6144]⟩
abbrev S240 : Shape := ⟨1, ![240]⟩
abbrev S240x1 : Shape := ⟨2, ![240, 1]⟩

abbrev nBuf : Space → Nat
  | .hbm => 31
  | .vmem => 22
  | .smem => 0
  | _ => 0

abbrev bufTy : (tb : Table) → Fin (tcTables nBuf tb) → BufTy
  | .hbm, ⟨0, _⟩ => ⟨S40x6x3072, .f32⟩
  | .hbm, ⟨1, _⟩ => ⟨S40x6x1536, .bf16⟩
  | .hbm, ⟨2, _⟩ => ⟨S3072x1536, .fp8e4m3⟩
  | .hbm, ⟨3, _⟩ => ⟨S1536, .f32⟩
  | .hbm, ⟨4, _⟩ => ⟨S1536, .f32⟩
  | .hbm, ⟨5, _⟩ => ⟨S1536x6144, .fp8e4m3⟩
  | .hbm, ⟨6, _⟩ => ⟨S6144, .f32⟩
  | .hbm, ⟨7, _⟩ => ⟨S1536x6144, .fp8e4m3⟩
  | .hbm, ⟨8, _⟩ => ⟨S6144, .f32⟩
  | .hbm, ⟨9, _⟩ => ⟨S6144x1536, .fp8e4m3⟩
  | .hbm, ⟨10, _⟩ => ⟨S1536, .f32⟩
  | .hbm, ⟨11, _⟩ => ⟨S6x40x3072, .f32⟩
  | .hbm, ⟨12, _⟩ => ⟨S240x3072, .f32⟩
  | .hbm, ⟨13, _⟩ => ⟨S6x40x1536, .bf16⟩
  | .hbm, ⟨14, _⟩ => ⟨S240x1536, .bf16⟩
  | .hbm, ⟨15, _⟩ => ⟨S1x1536, .f32⟩
  | .hbm, ⟨16, _⟩ => ⟨S1x1536, .f32⟩
  | .hbm, ⟨17, _⟩ => ⟨S1x6144, .f32⟩
  | .hbm, ⟨18, _⟩ => ⟨S1x6144, .f32⟩
  | .hbm, ⟨19, _⟩ => ⟨S1x1536, .f32⟩
  | .hbm, ⟨20, _⟩ => ⟨S240x1536, .bf16⟩
  | .hbm, ⟨21, _⟩ => ⟨S240x3072, .fp8e4m3⟩
  | .hbm, ⟨22, _⟩ => ⟨S6x40, .f32⟩
  | .hbm, ⟨23, _⟩ => ⟨S240x1536, .fp8e4m3⟩
  | .hbm, ⟨24, _⟩ => ⟨S6x40, .f32⟩
  | .hbm, ⟨25, _⟩ => ⟨S240x6144, .fp8e4m3⟩
  | .hbm, ⟨26, _⟩ => ⟨S6x40, .f32⟩
  | .hbm, ⟨27, _⟩ => ⟨S240x1536, .f32⟩
  | .hbm, ⟨28, _⟩ => ⟨S240x6144, .f32⟩
  | .hbm, ⟨29, _⟩ => ⟨S240x6144, .f32⟩
  | .hbm, ⟨30, _⟩ => ⟨S240x1536, .f32⟩
  | .local _ .vmem, ⟨0, _⟩ => ⟨S240x3072, .f32⟩
  | .local _ .vmem, ⟨1, _⟩ => ⟨S240x1536, .bf16⟩
  | .local _ .vmem, ⟨2, _⟩ => ⟨S3072x1536, .fp8e4m3⟩
  | .local _ .vmem, ⟨3, _⟩ => ⟨S1x1536, .f32⟩
  | .local _ .vmem, ⟨4, _⟩ => ⟨S1x1536, .f32⟩
  | .local _ .vmem, ⟨5, _⟩ => ⟨S1536x6144, .fp8e4m3⟩
  | .local _ .vmem, ⟨6, _⟩ => ⟨S1x6144, .f32⟩
  | .local _ .vmem, ⟨7, _⟩ => ⟨S1536x6144, .fp8e4m3⟩
  | .local _ .vmem, ⟨8, _⟩ => ⟨S1x6144, .f32⟩
  | .local _ .vmem, ⟨9, _⟩ => ⟨S6144x1536, .fp8e4m3⟩
  | .local _ .vmem, ⟨10, _⟩ => ⟨S1x1536, .f32⟩
  | .local _ .vmem, ⟨11, _⟩ => ⟨S240x1536, .bf16⟩
  | .local _ .vmem, ⟨12, _⟩ => ⟨S240x3072, .fp8e4m3⟩
  | .local _ .vmem, ⟨13, _⟩ => ⟨S6x40, .f32⟩
  | .local _ .vmem, ⟨14, _⟩ => ⟨S240x1536, .fp8e4m3⟩
  | .local _ .vmem, ⟨15, _⟩ => ⟨S6x40, .f32⟩
  | .local _ .vmem, ⟨16, _⟩ => ⟨S240x6144, .fp8e4m3⟩
  | .local _ .vmem, ⟨17, _⟩ => ⟨S6x40, .f32⟩
  | .local _ .vmem, ⟨18, _⟩ => ⟨S240x1536, .f32⟩
  | .local _ .vmem, ⟨19, _⟩ => ⟨S240x6144, .f32⟩
  | .local _ .vmem, ⟨20, _⟩ => ⟨S240x6144, .f32⟩
  | .local _ .vmem, ⟨21, _⟩ => ⟨S240x1536, .f32⟩
  | _, _ => ⟨S40x6x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev main_v9_10 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S240x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S240x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S240x3072 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S240x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x40 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S240x6144 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x40 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S240x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S240x6144 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S240x6144 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S240x1536 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== InProj.lean ====
abbrev S40x6x1536 : Shape := ⟨3, ![40, 6, 1536]⟩
abbrev S1536 : Shape := ⟨1, ![1536]⟩
abbrev S1536x8416 : Shape := ⟨2, ![1536, 8416]⟩
abbrev S8416 : Shape := ⟨1, ![8416]⟩
abbrev S6x40x1536 : Shape := ⟨3, ![6, 40, 1536]⟩
abbrev S240x1536 : Shape := ⟨2, ![240, 1536]⟩
abbrev S8416x1536 : Shape := ⟨2, ![8416, 1536]⟩
abbrev S1x1536 : Shape := ⟨2, ![1, 1536]⟩
abbrev S1x8416 : Shape := ⟨2, ![1, 8416]⟩
abbrev S240x8416 : Shape := ⟨2, ![240, 8416]⟩
abbrev S6x40 : Shape := ⟨2, ![6, 40]⟩
abbrev S1024x1536 : Shape := ⟨2, ![1024, 1536]⟩
abbrev S1x1024 : Shape := ⟨2, ![1, 1024]⟩
abbrev S240x1024 : Shape := ⟨2, ![240, 1024]⟩
abbrev S256x1536 : Shape := ⟨2, ![256, 1536]⟩
abbrev S240x1 : Shape := ⟨2, ![240, 1]⟩
abbrev S240 : Shape := ⟨1, ![240]⟩
abbrev S40x1 : Shape := ⟨2, ![40, 1]⟩
abbrev S40x40 : Shape := ⟨2, ![40, 40]⟩
abbrev S40 : Shape := ⟨1, ![40]⟩
abbrev S1x40 : Shape := ⟨2, ![1, 40]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S40x6x1536, .bf16⟩
  | .hbm, ⟨1, _⟩ => ⟨S1536, .f32⟩
  | .hbm, ⟨2, _⟩ => ⟨S1536x8416, .fp8e4m3⟩
  | .hbm, ⟨3, _⟩ => ⟨S8416, .f32⟩
  | .hbm, ⟨4, _⟩ => ⟨S6x40x1536, .bf16⟩
  | .hbm, ⟨5, _⟩ => ⟨S240x1536, .bf16⟩
  | .hbm, ⟨6, _⟩ => ⟨S8416x1536, .fp8e4m3⟩
  | .hbm, ⟨7, _⟩ => ⟨S1x1536, .f32⟩
  | .hbm, ⟨8, _⟩ => ⟨S1x8416, .f32⟩
  | .hbm, ⟨9, _⟩ => ⟨S240x8416, .f32⟩
  | .hbm, ⟨10, _⟩ => ⟨S240x1536, .fp8e4m3⟩
  | .hbm, ⟨11, _⟩ => ⟨S6x40, .f32⟩
  | .local _ .vmem, ⟨0, _⟩ => ⟨S240x1536, .bf16⟩
  | .local _ .vmem, ⟨1, _⟩ => ⟨S1x1536, .f32⟩
  | .local _ .vmem, ⟨2, _⟩ => ⟨S1024x1536, .fp8e4m3⟩
  | .local _ .vmem, ⟨3, _⟩ => ⟨S1024x1536, .fp8e4m3⟩
  | .local _ .vmem, ⟨4, _⟩ => ⟨S1x1024, .f32⟩
  | .local _ .vmem, ⟨5, _⟩ => ⟨S1x1024, .f32⟩
  | .local _ .vmem, ⟨6, _⟩ => ⟨S240x1024, .f32⟩
  | .local _ .vmem, ⟨7, _⟩ => ⟨S240x1024, .f32⟩
  | .local _ .vmem, ⟨8, _⟩ => ⟨S240x1536, .fp8e4m3⟩
  | .local _ .vmem, ⟨9, _⟩ => ⟨S6x40, .f32⟩
  | .local _ .vmem, ⟨10, _⟩ => ⟨S256x1536, .fp8e4m3⟩
  | .local _ .vmem, ⟨11, _⟩ => ⟨S240x1, .f32⟩
  | _, _ => ⟨S40x6x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S240x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S240x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S240x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InProjIdeal.lean ====
variable {F : FTy → Type} [FloatOps F] [Named F]
def κ : String → Option EReal := fun
  | "inv_448" => some ((1 / 448 : ℝ) : EReal)
  | _ => none
-- ==== InProjReferenceIdeal.lean ====
abbrev S40x6x1536 : Shape := ⟨3, ![40, 6, 1536]⟩
abbrev S1536 : Shape := ⟨1, ![1536]⟩
abbrev S1536x8416 : Shape := ⟨2, ![1536, 8416]⟩
abbrev S8416 : Shape := ⟨1, ![8416]⟩
abbrev S6x40x1536 : Shape := ⟨3, ![6, 40, 1536]⟩
abbrev S240x1536 : Shape := ⟨2, ![240, 1536]⟩
abbrev S1x1536 : Shape := ⟨2, ![1, 1536]⟩
abbrev S1x8416 : Shape := ⟨2, ![1, 8416]⟩
abbrev S240x8416 : Shape := ⟨2, ![240, 8416]⟩
abbrev S6x40 : Shape := ⟨2, ![6, 40]⟩
abbrev S240 : Shape := ⟨1, ![240]⟩
abbrev S240x1 : Shape := ⟨2, ![240, 1]⟩

abbrev nBuf : Space → Nat
  | .hbm => 11
  | .vmem => 7
  | .smem => 0
  | _ => 0

abbrev bufTy : (tb : Table) → Fin (tcTables nBuf tb) → BufTy
  | .hbm, ⟨0, _⟩ => ⟨S40x6x1536, .bf16⟩
  | .hbm, ⟨1, _⟩ => ⟨S1536, .f32⟩
  | .hbm, ⟨2, _⟩ => ⟨S1536x8416, .fp8e4m3⟩
  | .hbm, ⟨3, _⟩ => ⟨S8416, .f32⟩
  | .hbm, ⟨4, _⟩ => ⟨S6x40x1536, .bf16⟩
  | .hbm, ⟨5, _⟩ => ⟨S240x1536, .bf16⟩
  | .hbm, ⟨6, _⟩ => ⟨S1x1536, .f32⟩
  | .hbm, ⟨7, _⟩ => ⟨S1x8416, .f32⟩
  | .hbm, ⟨8, _⟩ => ⟨S240x8416, .f32⟩
  | .hbm, ⟨9, _⟩ => ⟨S240x1536, .fp8e4m3⟩
  | .hbm, ⟨10, _⟩ => ⟨S6x40, .f32⟩
  | .local _ .vmem, ⟨0, _⟩ => ⟨S240x1536, .bf16⟩
  | .local _ .vmem, ⟨1, _⟩ => ⟨S1x1536, .f32⟩
  | .local _ .vmem, ⟨2, _⟩ => ⟨S1536x8416, .fp8e4m3⟩
  | .local _ .vmem, ⟨3, _⟩ => ⟨S1x8416, .f32⟩
  | .local _ .vmem, ⟨4, _⟩ => ⟨S240x8416, .f32⟩
  | .local _ .vmem, ⟨5, _⟩ => ⟨S240x1536, .fp8e4m3⟩
  | .local _ .vmem, ⟨6, _⟩ => ⟨S6x40, .f32⟩
  | _, _ => ⟨S40x6x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S240x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8416 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8416 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S240x8416 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.MlpVals.lean ====
module

public import proofs.«01_k».proof.Proof.Gen.Mlp.Launch
public import proofs.«01_k».proof.Proof.Gen.Mlp.Skeleton
public import proofs.«01_k».proof.Proof.Gen.Mlp.Points
public import proofs.«01_k».proof.Proof.Gen.Mlp.Frame
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Mlp.Hand

open Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the kernel stores, as functions of what it loads -/

/-- The 512 columns of the residual a point of the first product takes and stores. -/
abbrev rect1 (i : grid0.Coords) (h2 : k0_cond2 i = 1#1) : Rect S240x1536 :=
  Rect.unit (s := S240x1536) (k0_off1 i) S240x512.size (k0_off1_inb i h2)

/-- The 512 columns of the hidden layer a point of the gate and up products stores. -/
abbrev rect2 (i : grid0.Coords) (h4 : k0_cond4 i = 1#1) : Rect S240x6144 :=
  Rect.unit (s := S240x6144) (k0_off2 i) S240x512.size (k0_off2_inb i h4)

/-- The 256 columns of the residual a point of the last product adds. -/
abbrev rect3 (i : grid0.Coords) (h6 : k0_cond6 i = 1#1) : Rect S240x1536 :=
  Rect.unit (s := S240x1536) (k0_off3 i) S240x256.size (k0_off3_inb i h6)

/-- Six rows of forty, stored one by one. -/
def sixRows (a b c d e f : Vec F S1x40 .f32) : Vec F S6x40 .f32 :=
  View.canon [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]

/-- The codes of `o`, padded with zero rows to 256 rows. -/
def padO (o : Vec F S240x3072 .f32) : Vec F S256x3072 .fp8e4m3 :=
  View.canon [⟨Rect.unit (s := S256x3072) ![0, 0] S240x3072.size inb_S256x3072_S240x3072_0_0, k0_pay17 o⟩,
    ⟨Rect.unit (s := S256x3072) ![0, 0] S256x3072.size inb_S256x3072_S256x3072_0_0, k0_pay16⟩]

/-- The scales of `o` by group of forty rows. -/
def rowsO (o : Vec F S240x3072 .f32) : Vec F S6x40 .f32 :=
  sixRows (k0_pay20 (k0_pay19 o)) (k0_pay21 (k0_pay14 o)) (k0_pay22 (k0_pay14 o)) (k0_pay23 (k0_pay14 o))
    (k0_pay1 k0_pay24 (FloatOps.ofBits .f32 0x00000000#32) (k0_pay25 (k0_pay14 o))) (k0_pay2 (k0_pay14 o))

/-- The codes of the normalised residual, padded with zero rows to 256 rows. -/
def padA (r : Vec F S240x1536 .f32) (w : Vec F S1x1536 .f32) : Vec F S256x1536 .fp8e4m3 :=
  View.canon [⟨Rect.unit (s := S256x1536) ![0, 0] S240x1536.size inb_S256x1536_S240x1536_0_0, k0_pay30 (k0_pay28 r w)⟩,
    ⟨Rect.unit (s := S256x1536) ![0, 0] S256x1536.size inb_S256x1536_S256x1536_0_0, k0_pay29⟩]

/-- The scales of the normalised residual by group of forty rows. -/
def rowsA (r : Vec F S240x1536 .f32) (w : Vec F S1x1536 .f32) : Vec F S6x40 .f32 :=
  sixRows (k0_pay32 (k0_pay27 r w)) (k0_pay33 (k0_pay27 r w)) (k0_pay34 (k0_pay27 r w))
    (k0_pay5 (k0_pay35 (k0_pay27 r w)) k0_pay36) (k0_pay6 (k0_pay27 r w)) (k0_pay7 (k0_pay27 r w))

/-- The codes of the hidden layer, padded with zero rows to 256 rows. -/
def padH (h : Vec F S240x6144 .f32) : Vec F S256x6144 .fp8e4m3 :=
  View.canon [⟨Rect.unit (s := S256x6144) ![0, 0] S240x6144.size inb_S256x6144_S240x6144_0_0, k0_pay43 h⟩,
    ⟨Rect.unit (s := S256x6144) ![0, 0] S256x6144.size inb_S256x6144_S256x6144_0_0, k0_pay42⟩]

/-- The scales of the hidden layer by group of forty rows. -/
def rowsH (h : Vec F S240x6144 .f32) : Vec F S6x40 .f32 :=
  sixRows (k0_pay46 (k0_pay45 h)) (k0_pay47 (k0_pay40 h)) (k0_pay48 (k0_pay40 h)) (k0_pay49 (k0_pay40 h))
    (k0_pay9 k0_pay50 (FloatOps.ofBits .f32 0x00000000#32) (k0_pay51 (k0_pay40 h))) (k0_pay10 (k0_pay40 h))

/-! ## Reading a buffer back -/

section Read

theorem zero2 (a : Fin 2) : (![0, 0] : Fin 2 → ℕ) a = 0 := by revert a; decide

variable {d : Fin 2 → ℕ} {sp : Space} {e : EltTy} (v : View sig .tc sp (⟨2, d⟩ : Shape) e)

/-- A load of the whole buffer reads its contents. -/
theorem readAt_whole (f : v.ty.Contents (Elt F)) (inb : ∀ a, (![0, 0] : Fin 2 → ℕ) a + d a ≤ d a) :
    v.readAt (Elt F) (Rect.unit (s := ⟨2, d⟩) ![0, 0] d inb).toLoadRect f = v.read (Elt F) f :=
  View.ld_unit_lit inb _ zero2

/-- A load of the whole buffer reads what the stores before it left. -/
theorem readCov_whole (L : List (View.Piece (Elt F) (⟨2, d⟩ : Shape) e)) (inb : ∀ a, (![0, 0] : Fin 2 → ℕ) a + d a ≤ d a) :
    v.readCov L (Rect.unit (s := ⟨2, d⟩) ![0, 0] d inb).toLoadRect = View.canon L := by
  rw [View.readCov_eq_canon']
  exact View.ld_unit_lit (S := ⟨2, d⟩) inb (View.canon L) zero2

/-- After a store to the whole buffer, and any stores since, it holds what the stores leave. -/
theorem read_writes_whole (f : v.ty.Contents (Elt F)) (L : List (View.Piece (Elt F) (⟨2, d⟩ : Shape) e))
    (inb : ∀ a, (![0, 0] : Fin 2 → ℕ) a + d a ≤ d a) (w : (Rect.unit (s := ⟨2, d⟩) ![0, 0] d inb).shape.Idx → Elt F e)
    (h : (⟨Rect.unit (s := ⟨2, d⟩) ![0, 0] d inb, w⟩ : View.Piece (Elt F) (⟨2, d⟩ : Shape) e) ∈ L) :
    v.read (Elt F) (v.writes (Elt F) f L) = View.canon L := by
  refine View.read_writes_eq_canon _ _ _ fun y => ⟨_, h, ?_⟩
  rw [Rect.mem_set_unit]
  intro a
  have := (y a).isLt
  have h0 := zero2 a
  rw [h0]
  exact ⟨Nat.zero_le _, by rw [Nat.zero_add]; exact this⟩

/-- One store to the whole buffer leaves its payload. -/
theorem read_write_whole (f : v.ty.Contents (Elt F))
    (inb : ∀ a, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w :=
  (read_writes_whole v f _ inb w (List.mem_singleton_self _)).trans (View.canon_unit_zero (S := ⟨2, d⟩) (funext zero2) inb w)

/-- A store through a rectangle replaces the contents there. -/
theorem read_write_rect (f : v.ty.Contents (Elt F)) (r : Rect (⟨2, d⟩ : Shape)) (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · rw [r.overlay_of_not_mem _ _ hy]
    exact View.read_writes_apply_of_forall_not_mem v f y _ (by simpa using hy)

omit v in
/-- One store to the whole of a buffer is all it holds. -/
theorem canon_whole (inb : ∀ a, (![0, 0] : Fin 2 → ℕ) a + d a ≤ d a) (w : (⟨2, d⟩ : Shape).Idx → Elt F e) :
    View.canon [(⟨Rect.unit (s := ⟨2, d⟩) ![0, 0] d inb, w⟩ : View.Piece (Elt F) (⟨2, d⟩ : Shape) e)] = w :=
  View.canon_unit_zero (S := ⟨2, d⟩) (funext zero2) inb w

end Read

/-- Stores to the six rows leave the rows. -/
theorem read_sixRows {sp : Space} (v : View sig .tc sp S6x40 .f32) (g : v.ty.Contents (Elt F)) (a b c d e f : Vec F S1x40 .f32) :
    v.read (Elt F) (v.writes (Elt F) g [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]) = sixRows a b c d e f :=
  View.read_writes_eq_canon _ _ _ (View.cover_of_tiled _ S1x40.size (by rfl))

end Cert.Mlp.Hand
-- ==== Proof.MlpSched.lean ====
module

public import proofs.«01_k».proof.Proof.Gen.Mlp.Launch
public import proofs.«01_k».proof.Proof.Gen.Mlp.Points
public import proofs.«01_k».proof.Proof.Gen.Mlp.Frame

@[expose] public section

set_option maxRecDepth 16384

noncomputable section

namespace Cert.Mlp.Hand

open Cert.Mlp.Gen
open Idealize.ShloMosaic

/-! ## Which blocks a point runs, where it stores, and what is written back after it -/

theorem cond1 : ∀ t : Fin grid0.N, k0_cond1 (grid0.coords t) = 1#1 ↔ t.val = 0 := by decide
theorem cond2 : ∀ t : Fin grid0.N, k0_cond2 (grid0.coords t) = 1#1 ↔ t.val < 3 := by decide
theorem cond3 : ∀ t : Fin grid0.N, k0_cond3 (grid0.coords t) = 1#1 ↔ t.val = 3 := by decide
theorem cond4 : ∀ t : Fin grid0.N, k0_cond4 (grid0.coords t) = 1#1 ↔ 3 ≤ t.val ∧ t.val < 15 := by decide
theorem cond5 : ∀ t : Fin grid0.N, k0_cond5 (grid0.coords t) = 1#1 ↔ t.val = 15 := by decide
theorem cond6 : ∀ t : Fin grid0.N, k0_cond6 (grid0.coords t) = 1#1 ↔ 15 ≤ t.val := by decide
theorem off1 : ∀ t : Fin grid0.N, t.val < 3 → k0_off1 (grid0.coords t) = ![0, 512 * t.val] := by decide
theorem off2 : ∀ t : Fin grid0.N, 3 ≤ t.val → t.val < 15 → k0_off2 (grid0.coords t) = ![0, 512 * (t.val - 3)] := by decide
theorem off3 : ∀ t : Fin grid0.N, 15 ≤ t.val → k0_off3 (grid0.coords t) = ![0, 256 * (t.val - 15)] := by decide

theorem fetch_out : ∀ (w : Fin 22) (t : Fin cfg0.N), 11 ≤ w.val → (cfg0.win w).fetch t = false := by
  intro w t h
  fin_cases w <;> first | (exfalso; revert h; decide) | rfl

theorem flush18 : ∀ t : Fin grid0.N, 2 ≤ t.val → t.val < 20 → win0_18.flush t = false := by decide
theorem flush19 : ∀ t : Fin grid0.N, 14 ≤ t.val → t.val < 20 → win0_19.flush t = false := by decide
theorem flush20 : ∀ t : Fin grid0.N, 14 ≤ t.val → t.val < 20 → win0_20.flush t = false := by decide
theorem flush11 : ∀ t : Fin grid0.N, t.val < 15 → win0_11.flush t = false := by decide
theorem flush21 : ∀ t : Fin grid0.N, t.val < 15 → win0_21.flush t = false := by decide
theorem flush19' : ∀ t : Fin grid0.N, t.val < 3 → win0_19.flush t = false := by decide
theorem flush20' : ∀ t : Fin grid0.N, t.val < 3 → win0_20.flush t = false := by decide

end Cert.Mlp.Hand
-- ==== Proof.Rel.lean ====
module

public import Idealize.ShloMosaic.Lib.Pipeline.FrameBody
public import Idealize.ShloMosaic.Lib.Pipeline.Frame
public import Idealize.ShloMosaic.Lib.Pipeline.Cells
public import Idealize.ShloMosaic.Lib.Pipeline.ValueKit

@[expose] public section

/-! A pipeline whose body writes some outputs at some points only. The proof data names what each output's
buffer holds from a first point on (`first`); before that point nothing is said of it. -/

noncomputable section

namespace Cert.Rel

open Idealize.ShloMosaic Idealize.ShloMosaic.TcCoe Idealize.ShloMosaic.Pipeline
open Idealize.SL Idealize.SL.RA

variable {nD : Nat} {τ : Topo} {sig : RefSig} {Val : EltTy → Type} {Λ₀ : Idealize.SL.Sem.Labels}
variable {U : Type} [URA U]
variable {cfg : Cfg sig Λ₀} {c : Dev nD}

/-- The exact data, an output `w` with `first w = some k` constrained from point `k` on only. -/
def late (dat : Dat τ Val Unit ℕ U ℕ cfg c) (first : Fin cfg.W → Option ℕ) : RDat τ Val Unit ℕ U ℕ cfg c :=
  dat.toR.override fun w => match first w with
    | none => none
    | some k => some fun t _ X => k ≤ t.val → X = dat.after w t

variable (dat : Dat τ Val Unit ℕ U ℕ cfg c) (first : Fin cfg.W → Option ℕ)

theorem late_after {w : Fin cfg.W} {k : ℕ} (h : first w = some k) :
    (late dat first).after w = fun t _ X => k ≤ t.val → X = dat.after w t :=
  RDat.override_after_of_eq_some _ (by rw [h])

theorem late_after_none {w : Fin cfg.W} (h : first w = none) (t : Fin cfg.N) (Y : (cfg.win w).block.Idx → Val (cfg.win w).elt) :
    (late dat first).after w t Y = dat.Leaves w t := by
  unfold late
  rw [RDat.override_after_of_eq_none _ (by rw [h])]
  rfl

/-- A window not singled out is found at what the exact data says. -/
theorem late_finds_none {w : Fin cfg.W} (h : first w = none) {t : Fin cfg.N} {Y : (cfg.win w).block.Idx → Val (cfg.win w).elt}
    (hY : (late dat first).Finds w t Y) : ∃ d, Y = dat.before w t d :=
  dat.toR_finds w t Y ((RDat.override_finds _ (by rw [h]) t Y).mp hY)

/-- An output not written at a point after its first is found at what the point before left. -/
theorem late_found {w : Fin cfg.W} {k : ℕ} (h : first w = some k) {t t' : Fin cfg.N} (ht : t.val = t'.val + 1) (hk : k ≤ t'.val)
    (hfe : (cfg.win w).fetch t = false) (hfl : (cfg.win w).flush t' = false) {Y : (cfg.win w).block.Idx → Val (cfg.win w).elt}
    (hY : (late dat first).Finds w t Y) : Y = dat.after w t' := by
  have e : (⟨t.val - 1, Nat.lt_of_le_of_lt (Nat.sub_le _ _) t.isLt⟩ : Fin cfg.N) = t' := Fin.ext (by simp [ht])
  rw [RDat.finds_of_pos _ hfe (by omega), e] at hY
  rcases hY with hY | ⟨Z, -, hZ⟩
  · rw [hfl] at hY; exact absurd hY (by decide)
  · rw [late_after dat first h] at hZ; exact hZ hk

variable [∀ e, Nonempty (Val e)]

/-- If at every point that writes an output back the body has left what the exact data names, the array ends as the
    exact data says. -/
theorem late_arrAt {w : Fin cfg.W} {k : ℕ} (h : first w = some k)
    (hfl : ∀ u : Fin cfg.N, (cfg.win w).flush u = true → k ≤ u.val) :
    ∀ (t : Nat) (G : Buf Val ((cfg.win w).arr.view.loc (c.tc : Thread nD τ))), (late dat first).ArrAt w t G → G = dat.arrAt w t
  | 0, _, hG => hG
  | t + 1, G, hG => by
    by_cases ht : t < cfg.N
    · have hR := (late dat first).ArrAt_succ w ⟨t, ht⟩
      have hD := dat.arrAt_succ w ⟨t, ht⟩
      dsimp only at hR hD
      rw [hR] at hG; rw [hD]
      by_cases hf : (cfg.win w).flush ⟨t, ht⟩ = true
      · rw [if_pos hf] at hG ⊢
        obtain ⟨G₀, X, hG₀, ⟨Z, -, hX⟩, rfl⟩ := hG
        rw [late_after dat first h] at hX
        rw [late_arrAt h hfl t G₀ hG₀, hX (hfl _ hf)]
      · rw [if_neg hf] at hG ⊢; exact late_arrAt h hfl t G hG
    · have hN : cfg.N ≤ t := Nat.not_lt.mp ht
      rw [dat.arrAt_stable w (t + 1) (by omega), ← dat.arrAt_stable w t hN]
      exact late_arrAt h hfl t G (by unfold RDat.ArrAt at hG; rw [dif_neg ht] at hG; exact hG)

theorem late_arrAt_none {w : Fin cfg.W} (h : first w = none) (t : Nat) (G : Buf Val ((cfg.win w).arr.view.loc (c.tc : Thread nD τ)))
    (hG : (late dat first).ArrAt w t G) : G = dat.arrAt w t :=
  (dat.toR_arrAt_iff w t G).mp ((RDat.override_arrAt _ (by rw [h]) t G).mp hG)

end Cert.Rel
-- ==== Proof.MlpDat.lean ====
module

public import proofs.«01_k».proof.Proof.Gen.Mlp.Launch
public import proofs.«01_k».proof.Proof.Gen.Mlp.Skeleton
public import proofs.«01_k».proof.Proof.Gen.Mlp.Points
public import proofs.«01_k».proof.Proof.Gen.Mlp.Frame
public import proofs.«01_k».proof.Proof.MlpVals
public import proofs.«01_k».proof.Proof.MlpSched
public import proofs.«01_k».proof.Proof.Rel
public import Idealize.ShloMosaic.Lib.ValueIdxCore
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Mlp.Hand

open Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An array filled block of columns by block of columns -/

/-- The array whose columns `512 k … 512 k + 511` are the block `G k`. -/
def ofBlocks {N : ℕ} (G : ℕ → Vec F S240x512 .f32) : Vec F ⟨2, ![240, N]⟩ .f32 :=
  fun j => G ((j 1).val / 512) (ix2 (j 0) ⟨(j 1).val % 512, Nat.mod_lt _ (by norm_num)⟩)

/-- Storing the next block of columns extends what is filled. -/
theorem overlay_ofBlocks {N : ℕ} (G : ℕ → Vec F S240x512 .f32) (X : Vec F ⟨2, ![240, N]⟩ .f32) (k : ℕ) (off : Fin 2 → ℕ)
    (hoff : off = ![0, 512 * k]) (inb : ∀ a, off a + S240x512.size a ≤ (⟨2, ![240, N]⟩ : Shape).size a)
    (W : Vec F S240x512 .f32) (hW : W = G k)
    (hX : ∀ j : (⟨2, ![240, N]⟩ : Shape).Idx, (j 1).val < 512 * k → X j = ofBlocks G j) (j : (⟨2, ![240, N]⟩ : Shape).Idx)
    (hj : (j 1).val < 512 * (k + 1)) :
    (Rect.unit (s := ⟨2, ![240, N]⟩) off S240x512.size inb).overlay X W j = ofBlocks G j := by
  subst hoff hW
  by_cases hlt : (j 1).val < 512 * k
  · rw [Rect.overlay_of_not_mem, hX j hlt]
    rw [Rect.mem_set_unit]
    intro h
    have h1 : 512 * k ≤ (j 1).val := (h 1).1
    omega
  · have e : (j 1).val / 512 = k := by omega
    have he : (Rect.unit (s := ⟨2, ![240, N]⟩) ![0, 512 * k] S240x512.size inb).emb
        (ix2 (j 0) ⟨(j 1).val % 512, Nat.mod_lt _ (by norm_num)⟩) = j := by
      funext a
      match a with
      | ⟨0, _⟩ => exact Fin.ext (by show 0 + 1 * (j 0).val = (j 0).val; omega)
      | ⟨1, _⟩ => exact Fin.ext (by show 512 * k + 1 * ((j 1).val % 512) = (j 1).val; omega)
    conv_lhs => rw [← he, Rect.overlay_emb]
    unfold ofBlocks
    rw [e]

/-! ## What each buffer holds, from the arrays the region finds -/

/-- A grid point by its number. -/
def pt (n : ℕ) : Fin cfg0.N := ⟨min n 20, Nat.lt_of_le_of_lt (Nat.min_le_right _ _) (by decide)⟩

theorem pt_val (t : Fin cfg0.N) : pt t.val = t := Fin.ext (Nat.min_eq_left (Nat.le_of_lt_succ (lt_of_lt_of_eq t.isLt N_0)))

/-- Columns `512 k …` of the residual (the last block for `k` past it). -/
def colsX (k : ℕ) : Rect S240x1536 :=
  Rect.unit (s := S240x1536) ![0, 512 * min k 2] S240x512.size (by
    intro a; match a with
    | ⟨0, _⟩ => exact (by decide : 0 + 240 ≤ 240)
    | ⟨1, _⟩ => show 512 * min k 2 + 512 ≤ 1536; omega)

/-- Columns `256 k …` of the residual (the last block for `k` past it). -/
def colsR (k : ℕ) : Rect S240x1536 :=
  Rect.unit (s := S240x1536) ![0, 256 * min k 5] S240x256.size (by
    intro a; match a with
    | ⟨0, _⟩ => exact (by decide : 0 + 240 ≤ 240)
    | ⟨1, _⟩ => show 256 * min k 5 + 256 ≤ 1536; omega)

variable (c : Dev nD)

/-- `o`, as the first point finds it. -/
def vO : Vec F S240x3072 .f32 := iblk m c 0 (pt 0)
/-- The second normalisation's weight, as the fourth point finds it. -/
def vW : Vec F S1x1536 .f32 := iblk m c 4 (pt 3)
/-- The product of `o`, the block of columns point `t` computes. -/
def vOP (t : Fin cfg0.N) : Vec F S240x512 .f32 := k0_pay3 (padO (vO m c)) (iblk m c 2 t) (k0_pay18 (vO m c)) (iblk m c 3 t)
/-- The residual, by blocks of columns. -/
def vRb (k : ℕ) : Vec F S240x512 .f32 :=
  k0_pay4 (padO (vO m c)) (iblk m c 2 (pt k)) (k0_pay18 (vO m c)) (iblk m c 3 (pt k)) (View.ld (iblk m c 1 (pt k)) (colsX k))
/-- The residual. -/
def vR : Vec F S240x1536 .f32 := ofBlocks (vRb m c)
/-- The normalised residual's codes, padded. -/
def vA : Vec F S256x1536 .fp8e4m3 := padA (vR m c) (vW m c)
/-- The normalised residual's scales. -/
def vAs : Vec F S240x1 .f32 := k0_pay31 (k0_pay27 (vR m c) (vW m c))
/-- The gate product, the block of columns point `t` computes. -/
def vG (t : Fin cfg0.N) : Vec F S240x512 .f32 := k0_pay37 (vA m c) (iblk m c 5 t) (vAs m c) (iblk m c 6 t)
/-- The up product, the block of columns point `t` computes. -/
def vU (t : Fin cfg0.N) : Vec F S240x512 .f32 := k0_pay38 (vA m c) (iblk m c 7 t) (vAs m c) (iblk m c 8 t)
/-- The hidden layer, by blocks of columns. -/
def vHb (k : ℕ) : Vec F S240x512 .f32 :=
  k0_pay8 (k0_pay39 (vA m c) (iblk m c 5 (pt (k + 3))) (vAs m c) (iblk m c 6 (pt (k + 3)))
    (vA m c) (iblk m c 7 (pt (k + 3))) (vAs m c) (iblk m c 8 (pt (k + 3))))
/-- The hidden layer. -/
def vH : Vec F S240x6144 .f32 := ofBlocks (vHb m c)
/-- The hidden layer's codes, padded. -/
def vHc : Vec F S256x6144 .fp8e4m3 := padH (vH m c)
/-- The hidden layer's scales. -/
def vHs : Vec F S240x1 .f32 := k0_pay44 (vH m c)
/-- The product of the hidden layer, the block of columns point `t` computes. -/
def vMD (t : Fin cfg0.N) : Vec F S240x256 .f32 := k0_pay11 (vHc m c) (iblk m c 9 t) (vHs m c) (iblk m c 10 t)
/-- The result, the block of columns point `t` computes. -/
def vOut (t : Fin cfg0.N) : Vec F S240x256 .bf16 :=
  k0_pay12 (vHc m c) (iblk m c 9 t) (vHs m c) (iblk m c 10 t) (View.ld (vR m c) (colsR (t.val - 15)))

/-- What the kernel's own buffers hold before point `n`. -/
def Inv (n : ℕ) (s0 : Vec F S256x3072 .fp8e4m3) (s1 : Vec F S240x1 .f32) (s2 : Vec F S240x1536 .f32) (s3 : Vec F S256x1536 .fp8e4m3)
    (s4 : Vec F S240x1 .f32) (s5 : Vec F S240x6144 .f32) (s6 : Vec F S256x6144 .fp8e4m3) (s7 : Vec F S240x1 .f32) : Prop :=
  (1 ≤ n → s0 = padO (vO m c) ∧ s1 = k0_pay18 (vO m c))
  ∧ (∀ j, (j 1).val < 512 * n → s2 j = vR m c j)
  ∧ (4 ≤ n → s3 = vA m c ∧ s4 = vAs m c)
  ∧ (∀ j, (j 1).val < 512 * (n - 3) → s5 j = vH m c j)
  ∧ (16 ≤ n → s6 = vHc m c ∧ s7 = vHs m c)

/-- The kernel's own buffers before point `n`, and the core's generator register. -/
def Keep (n : ℕ) : sProp 𝕄 :=
  iprop(∃ s0 s1 s2 s3 s4 s5 s6 s7, ⌜Inv m c n s0 s1 s2 s3 s4 s5 s6 s7⌝
    ∗ owns (c : Thread nD τ) (Memref.whole cc0_scratch0) fullShare s0 ∗ owns (c : Thread nD τ) (Memref.whole cc0_scratch1) fullShare s1
    ∗ owns (c : Thread nD τ) (Memref.whole cc0_scratch2) fullShare s2 ∗ owns (c : Thread nD τ) (Memref.whole cc0_scratch3) fullShare s3
    ∗ owns (c : Thread nD τ) (Memref.whole cc0_scratch4) fullShare s4 ∗ owns (c : Thread nD τ) (Memref.whole cc0_scratch5) fullShare s5
    ∗ owns (c : Thread nD τ) (Memref.whole cc0_scratch6) fullShare s6 ∗ owns (c : Thread nD τ) (Memref.whole cc0_scratch7) fullShare s7
    ∗ ∃ r, prngReg c r)

/-- The proof data: the arrays as the region finds them, and after the body at point `t` each input's buffer at its
    block and each output's at what the kernel last stored there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => vOut m c (pt (max t.val 15))
    | ⟨12, _⟩ => k0_pay15 (vO m c)
    | ⟨13, _⟩ => rowsO (vO m c)
    | ⟨14, _⟩ => k0_pay28 (vR m c) (vW m c)
    | ⟨15, _⟩ => rowsA (vR m c) (vW m c)
    | ⟨16, _⟩ => k0_pay41 (vH m c)
    | ⟨17, _⟩ => rowsH (vH m c)
    | ⟨18, _⟩ => vOP m c (pt (min t.val 2))
    | ⟨19, _⟩ => vG m c (pt (min t.val 14))
    | ⟨20, _⟩ => vU m c (pt (min t.val 14))
    | ⟨21, _⟩ => vMD m c (pt (max t.val 15))
    | ⟨_ + 22, h⟩ => absurd h (Nat.not_lt.2 (Nat.le_add_left _ _))
  Φ n := Keep m c n.val
  q _ := fullShare
  owed _ := 0

/-- The first point from which an output's buffer holds what the proof data says. -/
def first (w : Fin 22) : Option ℕ :=
  if w.val < 11 then none else if w.val = 12 ∨ w.val = 13 ∨ w.val = 18 then some 0
  else if w.val = 14 ∨ w.val = 15 ∨ w.val = 19 ∨ w.val = 20 then some 3 else some 15

/-- The proof data, each output constrained from its first point on. -/
def rdat (c : Dev nD) : RDat τ (Elt F) Unit ℕ (UR sig nD τ) ℕ cfg0 c := Cert.Rel.late (dats m 0 c) first

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = vOut m c (pt (max t.val 15)) := by dsimp only [dats]
theorem after_12 (t : Fin cfg0.N) : (dats m 0 c).after 12 t = k0_pay15 (vO m c) := by dsimp only [dats]
theorem after_13 (t : Fin cfg0.N) : (dats m 0 c).after 13 t = rowsO (vO m c) := by dsimp only [dats]
theorem after_14 (t : Fin cfg0.N) : (dats m 0 c).after 14 t = k0_pay28 (vR m c) (vW m c) := by dsimp only [dats]
theorem after_15 (t : Fin cfg0.N) : (dats m 0 c).after 15 t = rowsA (vR m c) (vW m c) := by dsimp only [dats]
theorem after_16 (t : Fin cfg0.N) : (dats m 0 c).after 16 t = k0_pay41 (vH m c) := by dsimp only [dats]
theorem after_17 (t : Fin cfg0.N) : (dats m 0 c).after 17 t = rowsH (vH m c) := by dsimp only [dats]
theorem after_18 (t : Fin cfg0.N) : (dats m 0 c).after 18 t = vOP m c (pt (min t.val 2)) := by dsimp only [dats]
theorem after_19 (t : Fin cfg0.N) : (dats m 0 c).after 19 t = vG m c (pt (min t.val 14)) := by dsimp only [dats]
theorem after_20 (t : Fin cfg0.N) : (dats m 0 c).after 20 t = vU m c (pt (min t.val 14)) := by dsimp only [dats]
theorem after_21 (t : Fin cfg0.N) : (dats m 0 c).after 21 t = vMD m c (pt (max t.val 15)) := by dsimp only [dats]

/-! ## What a point finds, and what leaving a buffer alone leaves -/

theorem found_0 {t : Fin cfg0.N} {Y} (h : (rdat m c).Finds 0 t Y) : Y = iblk m c 0 t :=
  (Cert.Rel.late_finds_none _ _ rfl h).elim fun d e => e.trans (before0_0_of m (dats m 0 c) (A_eq m c _) (after_0 m c) t d)
theorem leave_0 (t : Fin cfg0.N) (Y) {X} (hX : X = iblk m c 0 t) : (rdat m c).after 0 t Y X := by
  rw [rdat, Cert.Rel.late_after_none _ _ rfl, hX]; exact (after_0 m c t).symm
theorem found_1 {t : Fin cfg0.N} {Y} (h : (rdat m c).Finds 1 t Y) : Y = iblk m c 1 t :=
  (Cert.Rel.late_finds_none _ _ rfl h).elim fun d e => e.trans (before0_1_of m (dats m 0 c) (A_eq m c _) (after_1 m c) t d)
theorem leave_1 (t : Fin cfg0.N) (Y) {X} (hX : X = iblk m c 1 t) : (rdat m c).after 1 t Y X := by
  rw [rdat, Cert.Rel.late_after_none _ _ rfl, hX]; exact (after_1 m c t).symm
theorem found_2 {t : Fin cfg0.N} {Y} (h : (rdat m c).Finds 2 t Y) : Y = iblk m c 2 t :=
  (Cert.Rel.late_finds_none _ _ rfl h).elim fun d e => e.trans (before0_2_of m (dats m 0 c) (A_eq m c _) (after_2 m c) t d)
theorem leave_2 (t : Fin cfg0.N) (Y) {X} (hX : X = iblk m c 2 t) : (rdat m c).after 2 t Y X := by
  rw [rdat, Cert.Rel.late_after_none _ _ rfl, hX]; exact (after_2 m c t).symm
theorem found_3 {t : Fin cfg0.N} {Y} (h : (rdat m c).Finds 3 t Y) : Y = iblk m c 3 t :=
  (Cert.Rel.late_finds_none _ _ rfl h).elim fun d e => e.trans (before0_3_of m (dats m 0 c) (A_eq m c _) (after_3 m c) t d)
theorem leave_3 (t : Fin cfg0.N) (Y) {X} (hX : X = iblk m c 3 t) : (rdat m c).after 3 t Y X := by
  rw [rdat, Cert.Rel.late_after_none _ _ rfl, hX]; exact (after_3 m c t).symm
theorem found_4 {t : Fin cfg0.N} {Y} (h : (rdat m c).Finds 4 t Y) : Y = iblk m c 4 t :=
  (Cert.Rel.late_finds_none _ _ rfl h).elim fun d e => e.trans (before0_4_of m (dats m 0 c) (A_eq m c _) (after_4 m c) t d)
theorem leave_4 (t : Fin cfg0.N) (Y) {X} (hX : X = iblk m c 4 t) : (rdat m c).after 4 t Y X := by
  rw [rdat, Cert.Rel.late_after_none _ _ rfl, hX]; exact (after_4 m c t).symm
theorem found_5 {t : Fin cfg0.N} {Y} (h : (rdat m c).Finds 5 t Y) : Y = iblk m c 5 t :=
  (Cert.Rel.late_finds_none _ _ rfl h).elim fun d e => e.trans (before0_5_of m (dats m 0 c) (A_eq m c _) (after_5 m c) t d)
theorem leave_5 (t : Fin cfg0.N) (Y) {X} (hX : X = iblk m c 5 t) : (rdat m c).after 5 t Y X := by
  rw [rdat, Cert.Rel.late_after_none _ _ rfl, hX]; exact (after_5 m c t).symm
theorem found_6 {t : Fin cfg0.N} {Y} (h : (rdat m c).Finds 6 t Y) : Y = iblk m c 6 t :=
  (Cert.Rel.late_finds_none _ _ rfl h).elim fun d e => e.trans (before0_6_of m (dats m 0 c) (A_eq m c _) (after_6 m c) t d)
theorem leave_6 (t : Fin cfg0.N) (Y) {X} (hX : X = iblk m c 6 t) : (rdat m c).after 6 t Y X := by
  rw [rdat, Cert.Rel.late_after_none _ _ rfl, hX]; exact (after_6 m c t).symm
theorem found_7 {t : Fin cfg0.N} {Y} (h : (rdat m c).Finds 7 t Y) : Y = iblk m c 7 t :=
  (Cert.Rel.late_finds_none _ _ rfl h).elim fun d e => e.trans (before0_7_of m (dats m 0 c) (A_eq m c _) (after_7 m c) t d)
theorem leave_7 (t : Fin cfg0.N) (Y) {X} (hX : X = iblk m c 7 t) : (rdat m c).after 7 t Y X := by
  rw [rdat, Cert.Rel.late_after_none _ _ rfl, hX]; exact (after_7 m c t).symm
theorem found_8 {t : Fin cfg0.N} {Y} (h : (rdat m c).Finds 8 t Y) : Y = iblk m c 8 t :=
  (Cert.Rel.late_finds_none _ _ rfl h).elim fun d e => e.trans (before0_8_of m (dats m 0 c) (A_eq m c _) (after_8 m c) t d)
theorem leave_8 (t : Fin cfg0.N) (Y) {X} (hX : X = iblk m c 8 t) : (rdat m c).after 8 t Y X := by
  rw [rdat, Cert.Rel.late_after_none _ _ rfl, hX]; exact (after_8 m c t).symm
theorem found_9 {t : Fin cfg0.N} {Y} (h : (rdat m c).Finds 9 t Y) : Y = iblk m c 9 t :=
  (Cert.Rel.late_finds_none _ _ rfl h).elim fun d e => e.trans (before0_9_of m (dats m 0 c) (A_eq m c _) (after_9 m c) t d)
theorem leave_9 (t : Fin cfg0.N) (Y) {X} (hX : X = iblk m c 9 t) : (rdat m c).after 9 t Y X := by
  rw [rdat, Cert.Rel.late_after_none _ _ rfl, hX]; exact (after_9 m c t).symm
theorem found_10 {t : Fin cfg0.N} {Y} (h : (rdat m c).Finds 10 t Y) : Y = iblk m c 10 t :=
  (Cert.Rel.late_finds_none _ _ rfl h).elim fun d e => e.trans (before0_10_of m (dats m 0 c) (A_eq m c _) (after_10 m c) t d)
theorem leave_10 (t : Fin cfg0.N) (Y) {X} (hX : X = iblk m c 10 t) : (rdat m c).after 10 t Y X := by
  rw [rdat, Cert.Rel.late_after_none _ _ rfl, hX]; exact (after_10 m c t).symm

/-- Leaving an output alone before its first point. -/
theorem early {w : Fin 22} {k : ℕ} (h : first w = some k) {t : Fin cfg0.N} (ht : t.val < k) (Y X) : (rdat m c).after w t Y X := by
  rw [rdat, Cert.Rel.late_after _ _ h]; intro hk; omega

/-- Storing an output. -/
theorem store {w : Fin 22} {k : ℕ} (h : first w = some k) {t : Fin cfg0.N} (Y) {X} (hX : X = (dats m 0 c).after w t) : (rdat m c).after w t Y X := by
  rw [rdat, Cert.Rel.late_after _ _ h]; intro _; exact hX

/-- Leaving an output alone after its first point. -/
theorem hold {w : Fin 22} {k : ℕ} (h : first w = some k) (hw : 11 ≤ w.val) {t : Fin cfg0.N} (hk : k < t.val)
    (hfl : (cfg0.win w).flush (pt (t.val - 1)) = false) (hc : (dats m 0 c).after w (pt (t.val - 1)) = (dats m 0 c).after w t)
    {Y} (hY : (rdat m c).Finds w t Y) : (rdat m c).after w t Y Y := by
  have hp : (pt (t.val - 1)).val = t.val - 1 := by
    have := lt_of_lt_of_eq t.isLt N_0
    show min (t.val - 1) 20 = _; omega
  refine store m c h Y ?_
  rw [← hc]
  exact Cert.Rel.late_found (dats m 0 c) first h (by omega) (by omega) (fetch_out w t hw) hfl hY

end Cert.Mlp.Hand
-- ==== Proof.MlpRun.lean ====
module

public import proofs.«01_k».proof.Proof.Gen.Mlp.Launch
public import proofs.«01_k».proof.Proof.Gen.Mlp.Skeleton
public import proofs.«01_k».proof.Proof.Gen.Mlp.Points
public import proofs.«01_k».proof.Proof.Gen.Mlp.Frame
public import proofs.«01_k».proof.Proof.MlpVals
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Mlp.Hand

open Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body, by which of its six blocks a point runs -/

variable (c : Dev nD) (E : Set ℕ) (i : grid0.Coords)
  (arg1 : Memref sig .tc .vmem S240x3072 .f32) (harg1 : arg1.IsWhole)
  (arg2 : Memref sig .tc .vmem S240x1536 .bf16) (harg2 : arg2.IsWhole)
  (arg3 : Memref sig .tc .vmem S3072x512 .fp8e4m3) (harg3 : arg3.IsWhole)
  (arg4 : Memref sig .tc .vmem S1x512 .f32) (harg4 : arg4.IsWhole)
  (arg5 : Memref sig .tc .vmem S1x1536 .f32) (harg5 : arg5.IsWhole)
  (arg6 : Memref sig .tc .vmem S1536x512 .fp8e4m3) (harg6 : arg6.IsWhole)
  (arg7 : Memref sig .tc .vmem S1x512 .f32) (harg7 : arg7.IsWhole)
  (arg8 : Memref sig .tc .vmem S1536x512 .fp8e4m3) (harg8 : arg8.IsWhole)
  (arg9 : Memref sig .tc .vmem S1x512 .f32) (harg9 : arg9.IsWhole)
  (arg10 : Memref sig .tc .vmem S6144x256 .fp8e4m3) (harg10 : arg10.IsWhole)
  (arg11 : Memref sig .tc .vmem S1x256 .f32) (harg11 : arg11.IsWhole)
  (arg12 : Memref sig .tc .vmem S240x256 .bf16) (harg12 : arg12.IsWhole)
  (arg13 : Memref sig .tc .vmem S240x3072 .fp8e4m3) (harg13 : arg13.IsWhole)
  (arg14 : Memref sig .tc .vmem S6x40 .f32) (harg14 : arg14.IsWhole)
  (arg15 : Memref sig .tc .vmem S240x1536 .fp8e4m3) (harg15 : arg15.IsWhole)
  (arg16 : Memref sig .tc .vmem S6x40 .f32) (harg16 : arg16.IsWhole)
  (arg17 : Memref sig .tc .vmem S240x6144 .fp8e4m3) (harg17 : arg17.IsWhole)
  (arg18 : Memref sig .tc .vmem S6x40 .f32) (harg18 : arg18.IsWhole)
  (arg19 : Memref sig .tc .vmem S240x512 .f32) (harg19 : arg19.IsWhole)
  (arg20 : Memref sig .tc .vmem S240x512 .f32) (harg20 : arg20.IsWhole)
  (arg21 : Memref sig .tc .vmem S240x512 .f32) (harg21 : arg21.IsWhole)
  (arg22 : Memref sig .tc .vmem S240x256 .f32) (harg22 : arg22.IsWhole)
  (arg23 : Memref sig .tc .vmem S256x3072 .fp8e4m3) (harg23 : arg23.IsWhole)
  (arg24 : Memref sig .tc .vmem S240x1 .f32) (harg24 : arg24.IsWhole)
  (arg25 : Memref sig .tc .vmem S240x1536 .f32) (harg25 : arg25.IsWhole)
  (arg26 : Memref sig .tc .vmem S256x1536 .fp8e4m3) (harg26 : arg26.IsWhole)
  (arg27 : Memref sig .tc .vmem S240x1 .f32) (harg27 : arg27.IsWhole)
  (arg28 : Memref sig .tc .vmem S240x6144 .f32) (harg28 : arg28.IsWhole)
  (arg29 : Memref sig .tc .vmem S256x6144 .fp8e4m3) (harg29 : arg29.IsWhole)
  (arg30 : Memref sig .tc .vmem S240x1 .f32) (harg30 : arg30.IsWhole)

set_option maxHeartbeats 1000000 in
/-- The first point: quantise `o`, then the first block of columns of its product. -/
theorem run_first (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x1 : Vec F S240x3072 .f32) (x2 : Vec F S240x1536 .bf16) (x3 : Vec F S3072x512 .fp8e4m3) (x4 : Vec F S1x512 .f32) (x25 : Vec F S240x1536 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ (∃ d, owns (c : Thread nD τ) arg13 fullShare d)
      ∗ (∃ d, owns (c : Thread nD τ) arg14 fullShare d)
      ∗ (∃ d, owns (c : Thread nD τ) arg23 fullShare d)
      ∗ (∃ d, owns (c : Thread nD τ) arg24 fullShare d)
      ∗ (∃ d, owns (c : Thread nD τ) arg19 fullShare d)
      ∗ owns (c : Thread nD τ) arg25 fullShare x25
      ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg13 fullShare (k0_pay15 x1)
        ∗ owns (c : Thread nD τ) arg14 fullShare (rowsO x1)
        ∗ owns (c : Thread nD τ) arg23 fullShare (padO x1)
        ∗ owns (c : Thread nD τ) arg24 fullShare (k0_pay18 x1)
        ∗ owns (c : Thread nD τ) arg19 fullShare (k0_pay3 (padO x1) x3 (k0_pay18 x1) x4)
        ∗ owns (c : Thread nD τ) arg25 fullShare ((rect1 i h2).overlay x25 (k0_pay4 (padO x1) x3 (k0_pay18 x1) x4 (View.ld x2 (rect1 i h2))))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_pos h1, dif_pos h2, dif_neg h3, dif_neg h4, dif_neg h5, dif_neg h6]
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%d13, %f13, -, H13⟩, ⟨%d14, %f14, -, H14⟩, ⟨%d23, %f23, -, H23⟩, ⟨%d24, %f24, -, H24⟩, ⟨%d19, %f19, -, H19⟩, ⟨%f25, %hf25, H25⟩, Hk⟩
  subst hf1 hf2 hf3 hf4 hf25
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H13]
  · iexists _; isplitr; swap; · iexact H13
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_write_whole (F := F) _ _ _ _
  isplitl [H14]
  · iexists _; isplitr; swap; · iexact H14
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_sixRows (F := F) _ _ _ _ _ _ _ _
  isplitl [H23]
  · iexists _; isplitr; swap; · iexact H23
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_writes_whole (F := F) _ _ _ _ _ (List.mem_cons_of_mem _ (List.mem_singleton_self _))
  isplitl [H24]
  · iexists _; isplitr; swap; · iexact H24
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_write_whole (F := F) _ _ _ _
  isplitl [H19]
  · iexists _; isplitr; swap; · iexact H19
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_write_whole (F := F) _ _ _ _
  iexists _; isplitr; swap; · iexact H25
  ipureintro; repeat delta run_first.sl.cst_38 run_first.sl.H23_2 run_first.sl.H24_1 run_first.sl.v35 run_first.sl.v20 run_first.sl.r_1 run_first.sl.r_2 run_first.sl.r run_first.sl.v24
  simp only [readAt_whole, readCov_whole, canon_whole, padO, rowsO, padA, rowsA, padH, rowsH]
  try simp only [View.readAt_eq_ld]
  exact read_write_rect (F := F) _ _ _ _

set_option maxHeartbeats 1000000 in
/-- A later block of columns of the product of `o`. -/
theorem run_op (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x2 : Vec F S240x1536 .bf16) (x3 : Vec F S3072x512 .fp8e4m3) (x4 : Vec F S1x512 .f32) (x23 : Vec F S256x3072 .fp8e4m3) (x24 : Vec F S240x1 .f32) (x25 : Vec F S240x1536 .f32) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg23 fullShare x23
      ∗ owns (c : Thread nD τ) arg24 fullShare x24
      ∗ (∃ d, owns (c : Thread nD τ) arg19 fullShare d)
      ∗ owns (c : Thread nD τ) arg25 fullShare x25
      ∗ (iprop(owns (c : Thread nD τ) arg2 fullShare x2
        ∗ owns (c : Thread nD τ) arg3 fullShare x3
        ∗ owns (c : Thread nD τ) arg4 fullShare x4
        ∗ owns (c : Thread nD τ) arg23 fullShare x23
        ∗ owns (c : Thread nD τ) arg24 fullShare x24
        ∗ owns (c : Thread nD τ) arg19 fullShare (k0_pay3 x23 x3 x24 x4)
        ∗ owns (c : Thread nD τ) arg25 fullShare ((rect1 i h2).overlay x25 (k0_pay4 x23 x3 x24 x4 (View.ld x2 (rect1 i h2))))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_pos h2, dif_neg h3, dif_neg h4, dif_neg h5, dif_neg h6]
  unfold owns
  iintro ⟨⟨%f2, %hf2, H2⟩, ⟨%f3, %hf3, H3⟩, ⟨%f4, %hf4, H4⟩, ⟨%f23, %hf23, H23⟩, ⟨%f24, %hf24, H24⟩, ⟨%d19, %f19, -, H19⟩, ⟨%f25, %hf25, H25⟩, Hk⟩
  subst hf2 hf3 hf4 hf23 hf24 hf25
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H23]
  · iexists f23; isplitr; · ipureintro; rfl
    iexact H23
  isplitl [H24]
  · iexists f24; isplitr; · ipureintro; rfl
    iexact H24
  isplitl [H19]
  · iexists _; isplitr; swap; · iexact H19
    ipureintro; repeat delta run_op.sl.v35
    simp only [readAt_whole, readCov_whole, canon_whole, padO, rowsO, padA, rowsA, padH, rowsH]
    try simp only [View.readAt_eq_ld]
    exact read_write_whole (F := F) _ _ _ _
  iexists _; isplitr; swap; · iexact H25
  ipureintro; repeat delta run_op.sl.v35
  simp only [readAt_whole, readCov_whole, canon_whole, padO, rowsO, padA, rowsA, padH, rowsH]
  try simp only [View.readAt_eq_ld]
  exact read_write_rect (F := F) _ _ _ _

set_option maxHeartbeats 1000000 in
/-- The fourth point: normalise and quantise the residual, then the first block of columns of the gate and up products. -/
theorem run_norm (h1 : ¬ k0_cond1 i = 1#1) (h2 : ¬ k0_cond2 i = 1#1) (h3 : k0_cond3 i = 1#1) (h4 : k0_cond4 i = 1#1) (h5 : ¬ k0_cond5 i = 1#1) (h6 : ¬ k0_cond6 i = 1#1)
    (x5 : Vec F S1x1536 .f32) (x6 : Vec F S1536x512 .fp8e4m3) (x7 : Vec F S1x512 .f32) (x8 : Vec F S1536x512 .fp8e4m3) (x9 : Vec F S1x512 .f32) (x25 : Vec F S240x1536 .f32) (x28 : Vec F S240x6144 .f32) (K : PUnit → sProp 𝕄) :
    iprop(owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg25 fullShare x25
      ∗ (∃ d, owns (c : Thread nD τ) arg15 fullShare d)
      ∗ (∃ d, owns (c : Thread nD τ) arg16 fullShare d)
      ∗ (∃ d, owns (c : Thread nD τ) arg26 fullShare d)
      ∗ (∃ d, owns (c : Thread nD τ) arg27 fullShare d)
      ∗ (∃ d, owns (c : Thread nD τ) arg20 fullShare d)
      ∗ (∃ d, owns (c : Thread nD τ) arg21 fullShare d)
      ∗ owns (c : Thread nD τ) arg28 fullShare x28
      ∗ (iprop(owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg25 fullShare x25
        ∗ owns (c : Thread nD τ) arg15 fullShare (k0_pay28 x25 x5)
        ∗ owns (c : Thread nD τ) arg16 fullShare (rowsA x25 x5)
        ∗ owns (c : Thread nD τ) arg26 fullShare (padA x25 x5)
        ∗ owns (c : Thread nD τ) arg27 fullShare (k0_pay31 (k0_pay27 x25 x5))
        ∗ owns (c : Thread nD τ) arg20 fullShare (k0_pay37 (padA x25 x5) x6 (k0_pay31 (k0_pay27 x25 x5)) x7)
        ∗ owns (c : Thread nD τ) arg21 fullShare (k0_pay38 (padA x25 x5) x8 (k0_pay31 (k0_pay27 x25 x5)) x9)
        ∗ owns (c : Thread nD τ) arg28 fullShare ((rect2 i h4).overlay x28 (k0_pay8 (k0_pay39 (padA x25 x5) x6 (k0_pay31 (k0_pay27 x25 x5)) x7 (padA x25 x5) x8 (k0_pay31 (k0_pay27 x25 x5)) x9)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_pos h3, dif_pos h4, dif_neg h5, dif_neg h6]
  simp only [k0_part3_eq_skeleton, k0_part4_eq_skeleton, k0_part5_eq_skeleton]
  unfold owns
  iintro ⟨⟨%f5, %hf5, H5⟩, ⟨%f6, %hf6, H6⟩, ⟨%f7, %hf7, H7⟩, ⟨%f8, %hf8, H8⟩, ⟨%f9, %hf9, H9⟩, ⟨%f25, %hf25, H25⟩, ⟨%d15, %f15, -, H15⟩, ⟨%d16, %f16, -, H16⟩, ⟨%d26, %f26, -, H26⟩, ⟨%d27, %f27, -, H27⟩, ⟨%d20, %f20, -, H20⟩, ⟨%d21, %f21, -, H21⟩, ⟨%f28, %hf28, H28⟩, Hk⟩
  subst hf5 hf6 hf7 hf8 hf9 hf25 hf28
  sl_exec
  sl_step
  iapply Hk
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H25]
  · iexists f25; isplitr; · ipureintro; rfl
    iexact H25
  isplitl [H15]
  · iexists _; isplitr; swap; · iexact H15
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  isplitl [H16]
  · iexists _; isplitr; swap; · iexact H16
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_sixRows (F := F) _ _ _ _ _ _ _ _
  isplitl [H26]
  · iexists _; isplitr; swap; · iexact H26
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_writes_whole (F := F) _ _ _ _ _ (List.mem_cons_of_mem _ (List.mem_singleton_self _))
  isplitl [H27]
  · iexists _; isplitr; swap; · iexact H27
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  isplitl [H20]
  · iexists _; isplitr; swap; · iexact H20
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  isplitl [H21]
  · iexists _; isplitr; swap; · iexact H21
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  iexists _; isplitr; swap; · iexact H28
  ipureintro; repeat delta run_norm.sl.v20 run_norm.sl.H26_2 run_norm.sl.r_3 run_norm.sl.v24 run_norm.sl.r run_norm.sl.H27_1 run_norm.sl.r_1 run_norm.sl.r_2
  simp only [readAt_whole, readCov_whole, canon_whole, padO, rowsO, padA, rowsA, padH, rowsH]
  try simp only [View.readAt_eq_ld]
  exact read_write_rect (F := F) _ _ _ _

set_option maxHeartbeats 1000000 in
/-- A later block of columns of the gate and up products. -/
theorem run_gu (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (x6 : Vec F S1536x512 .fp8e4m3) (x7 : Vec F S1x512 .f32) (x8 : Vec F S1536x512 .fp8e4m3) (x9 : Vec F S1x512 .f32) (x26 : Vec F S256x1536 .fp8e4m3) (x27 : Vec F S240x1 .f32) (x28 : Vec F S240x6144 .f32) (K : PUnit → sProp 𝕄) :
    iprop(owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg26 fullShare x26
      ∗ owns (c : Thread nD τ) arg27 fullShare x27
      ∗ (∃ d, owns (c : Thread nD τ) arg20 fullShare d)
      ∗ (∃ d, owns (c : Thread nD τ) arg21 fullShare d)
      ∗ owns (c : Thread nD τ) arg28 fullShare x28
      ∗ (iprop(owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg26 fullShare x26
        ∗ owns (c : Thread nD τ) arg27 fullShare x27
        ∗ owns (c : Thread nD τ) arg20 fullShare (k0_pay37 x26 x6 x27 x7)
        ∗ owns (c : Thread nD τ) arg21 fullShare (k0_pay38 x26 x8 x27 x9)
        ∗ owns (c : Thread nD τ) arg28 fullShare ((rect2 i h4).overlay x28 (k0_pay8 (k0_pay39 x26 x6 x27 x7 x26 x8 x27 x9)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_neg h3, dif_pos h4, dif_neg h5, dif_neg h6]
  simp only [k0_part5_eq_skeleton]
  unfold owns
  iintro ⟨⟨%f6, %hf6, H6⟩, ⟨%f7, %hf7, H7⟩, ⟨%f8, %hf8, H8⟩, ⟨%f9, %hf9, H9⟩, ⟨%f26, %hf26, H26⟩, ⟨%f27, %hf27, H27⟩, ⟨%d20, %f20, -, H20⟩, ⟨%d21, %f21, -, H21⟩, ⟨%f28, %hf28, H28⟩, Hk⟩
  subst hf6 hf7 hf8 hf9 hf26 hf27 hf28
  sl_exec
  sl_step
  iapply Hk
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H26]
  · iexists f26; isplitr; · ipureintro; rfl
    iexact H26
  isplitl [H27]
  · iexists f27; isplitr; · ipureintro; rfl
    iexact H27
  isplitl [H20]
  · iexists _; isplitr; swap; · iexact H20
    ipureintro; repeat delta run_gu.sl.r
    simp only [readAt_whole, readCov_whole, canon_whole, padO, rowsO, padA, rowsA, padH, rowsH]
    try simp only [View.readAt_eq_ld]
    exact read_write_whole (F := F) _ _ _ _
  isplitl [H21]
  · iexists _; isplitr; swap; · iexact H21
    ipureintro; repeat delta run_gu.sl.r
    simp only [readAt_whole, readCov_whole, canon_whole, padO, rowsO, padA, rowsA, padH, rowsH]
    try simp only [View.readAt_eq_ld]
    exact read_write_whole (F := F) _ _ _ _
  iexists _; isplitr; swap; · iexact H28
  ipureintro; repeat delta run_gu.sl.r
  simp only [readAt_whole, readCov_whole, canon_whole, padO, rowsO, padA, rowsA, padH, rowsH]
  try simp only [View.readAt_eq_ld]
  exact read_write_rect (F := F) _ _ _ _

set_option maxHeartbeats 1000000 in
/-- The sixteenth point: quantise the hidden layer, then the first block of columns of its product. -/
theorem run_hid (h1 : ¬ k0_cond1 i = 1#1) (h2 : ¬ k0_cond2 i = 1#1) (h3 : ¬ k0_cond3 i = 1#1) (h4 : ¬ k0_cond4 i = 1#1) (h5 : k0_cond5 i = 1#1) (h6 : k0_cond6 i = 1#1)
    (x10 : Vec F S6144x256 .fp8e4m3) (x11 : Vec F S1x256 .f32) (x25 : Vec F S240x1536 .f32) (x28 : Vec F S240x6144 .f32) (K : PUnit → sProp 𝕄) :
    iprop(owns (c : Thread nD τ) arg10 fullShare x10
      ∗ owns (c : Thread nD τ) arg11 fullShare x11
      ∗ owns (c : Thread nD τ) arg25 fullShare x25
      ∗ owns (c : Thread nD τ) arg28 fullShare x28
      ∗ (∃ d, owns (c : Thread nD τ) arg17 fullShare d)
      ∗ (∃ d, owns (c : Thread nD τ) arg18 fullShare d)
      ∗ (∃ d, owns (c : Thread nD τ) arg29 fullShare d)
      ∗ (∃ d, owns (c : Thread nD τ) arg30 fullShare d)
      ∗ (∃ d, owns (c : Thread nD τ) arg22 fullShare d)
      ∗ (∃ d, owns (c : Thread nD τ) arg12 fullShare d)
      ∗ (iprop(owns (c : Thread nD τ) arg10 fullShare x10
        ∗ owns (c : Thread nD τ) arg11 fullShare x11
        ∗ owns (c : Thread nD τ) arg25 fullShare x25
        ∗ owns (c : Thread nD τ) arg28 fullShare x28
        ∗ owns (c : Thread nD τ) arg17 fullShare (k0_pay41 x28)
        ∗ owns (c : Thread nD τ) arg18 fullShare (rowsH x28)
        ∗ owns (c : Thread nD τ) arg29 fullShare (padH x28)
        ∗ owns (c : Thread nD τ) arg30 fullShare (k0_pay44 x28)
        ∗ owns (c : Thread nD τ) arg22 fullShare (k0_pay11 (padH x28) x10 (k0_pay44 x28) x11)
        ∗ owns (c : Thread nD τ) arg12 fullShare (k0_pay12 (padH x28) x10 (k0_pay44 x28) x11 (View.ld x25 (rect3 i h6)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_neg h3, dif_neg h4, dif_pos h5, dif_pos h6]
  simp only [k0_part6_eq_skeleton, k0_part7_eq_skeleton]
  unfold owns
  iintro ⟨⟨%f10, %hf10, H10⟩, ⟨%f11, %hf11, H11⟩, ⟨%f25, %hf25, H25⟩, ⟨%f28, %hf28, H28⟩, ⟨%d17, %f17, -, H17⟩, ⟨%d18, %f18, -, H18⟩, ⟨%d29, %f29, -, H29⟩, ⟨%d30, %f30, -, H30⟩, ⟨%d22, %f22, -, H22⟩, ⟨%d12, %f12, -, H12⟩, Hk⟩
  subst hf10 hf11 hf25 hf28
  sl_exec
  sl_step
  iapply Hk
  isplitl [H10]
  · iexists f10; isplitr; · ipureintro; rfl
    iexact H10
  isplitl [H11]
  · iexists f11; isplitr; · ipureintro; rfl
    iexact H11
  isplitl [H25]
  · iexists f25; isplitr; · ipureintro; rfl
    iexact H25
  isplitl [H28]
  · iexists f28; isplitr; · ipureintro; rfl
    iexact H28
  isplitl [H17]
  · iexists _; isplitr; swap; · iexact H17
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_write_whole (F := F) _ _ _ _
  isplitl [H18]
  · iexists _; isplitr; swap; · iexact H18
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_sixRows (F := F) _ _ _ _ _ _ _ _
  isplitl [H29]
  · iexists _; isplitr; swap; · iexact H29
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_writes_whole (F := F) _ _ _ _ _ (List.mem_cons_of_mem _ (List.mem_singleton_self _))
  isplitl [H30]
  · iexists _; isplitr; swap; · iexact H30
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_write_whole (F := F) _ _ _ _
  isplitl [H22]
  · iexists _; isplitr; swap; · iexact H22
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_write_whole (F := F) _ _ _ _
  iexists _; isplitr; swap; · iexact H12
  ipureintro; repeat delta run_hid.sl.r_1 run_hid.sl.r run_hid.sl.v20 run_hid.sl.H30_1 run_hid.sl.v24 run_hid.sl.H29_2 run_hid.sl.v36 run_hid.sl.r_2 run_hid.sl.cst_38
  simp only [readAt_whole, readCov_whole, canon_whole, padO, rowsO, padA, rowsA, padH, rowsH]
  try simp only [View.readAt_eq_ld]
  exact read_write_whole (F := F) _ _ _ _

set_option maxHeartbeats 1000000 in
/-- A later block of columns of the product of the hidden layer. -/
theorem run_down (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (x10 : Vec F S6144x256 .fp8e4m3) (x11 : Vec F S1x256 .f32) (x25 : Vec F S240x1536 .f32) (x29 : Vec F S256x6144 .fp8e4m3) (x30 : Vec F S240x1 .f32) (K : PUnit → sProp 𝕄) :
    iprop(owns (c : Thread nD τ) arg10 fullShare x10
      ∗ owns (c : Thread nD τ) arg11 fullShare x11
      ∗ owns (c : Thread nD τ) arg25 fullShare x25
      ∗ owns (c : Thread nD τ) arg29 fullShare x29
      ∗ owns (c : Thread nD τ) arg30 fullShare x30
      ∗ (∃ d, owns (c : Thread nD τ) arg22 fullShare d)
      ∗ (∃ d, owns (c : Thread nD τ) arg12 fullShare d)
      ∗ (iprop(owns (c : Thread nD τ) arg10 fullShare x10
        ∗ owns (c : Thread nD τ) arg11 fullShare x11
        ∗ owns (c : Thread nD τ) arg25 fullShare x25
        ∗ owns (c : Thread nD τ) arg29 fullShare x29
        ∗ owns (c : Thread nD τ) arg30 fullShare x30
        ∗ owns (c : Thread nD τ) arg22 fullShare (k0_pay11 x29 x10 x30 x11)
        ∗ owns (c : Thread nD τ) arg12 fullShare (k0_pay12 x29 x10 x30 x11 (View.ld x25 (rect3 i h6)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_neg h3, dif_neg h4, dif_neg h5, dif_pos h6]
  unfold owns
  iintro ⟨⟨%f10, %hf10, H10⟩, ⟨%f11, %hf11, H11⟩, ⟨%f25, %hf25, H25⟩, ⟨%f29, %hf29, H29⟩, ⟨%f30, %hf30, H30⟩, ⟨%d22, %f22, -, H22⟩, ⟨%d12, %f12, -, H12⟩, Hk⟩
  subst hf10 hf11 hf25 hf29 hf30
  sl_exec
  sl_step
  iapply Hk
  isplitl [H10]
  · iexists f10; isplitr; · ipureintro; rfl
    iexact H10
  isplitl [H11]
  · iexists f11; isplitr; · ipureintro; rfl
    iexact H11
  isplitl [H25]
  · iexists f25; isplitr; · ipureintro; rfl
    iexact H25
  isplitl [H29]
  · iexists f29; isplitr; · ipureintro; rfl
    iexact H29
  isplitl [H30]
  · iexists f30; isplitr; · ipureintro; rfl
    iexact H30
  isplitl [H22]
  · iexists _; isplitr; swap; · iexact H22
    ipureintro; repeat delta run_down.sl.v36
    simp only [readAt_whole, readCov_whole, canon_whole, padO, rowsO, padA, rowsA, padH, rowsH]
    try simp only [View.readAt_eq_ld]
    exact read_write_whole (F := F) _ _ _ _
  iexists _; isplitr; swap; · iexact H12
  ipureintro; repeat delta run_down.sl.v36
  simp only [readAt_whole, readCov_whole, canon_whole, padO, rowsO, padA, rowsA, padH, rowsH]
  try simp only [View.readAt_eq_ld]
  exact read_write_whole (F := F) _ _ _ _

end Cert.Mlp.Hand
-- ==== Proof.MlpBody.lean ====
module

public import proofs.«01_k».proof.Proof.Gen.Mlp.Launch
public import proofs.«01_k».proof.Proof.Gen.Mlp.Skeleton
public import proofs.«01_k».proof.Proof.Gen.Mlp.Points
public import proofs.«01_k».proof.Proof.Gen.Mlp.Frame
public import proofs.«01_k».proof.Proof.MlpDat
public import proofs.«01_k».proof.Proof.MlpRun
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Mlp.Hand

open Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The kernel's own buffers, from one point to the next -/

theorem lt21 (t : Fin cfg0.N) : t.val < 21 := lt_of_lt_of_eq t.isLt N_0

theorem unit_congr {S : Shape} {off off' size : Fin S.rank → ℕ} (h : off = off') (inb : ∀ a, off a + size a ≤ S.size a)
    (inb' : ∀ a, off' a + size a ≤ S.size a) {e : EltTy} (X : Vec F S e) :
    (View.ld X (Rect.unit off size inb) : (⟨S.rank, size⟩ : Shape).Idx → Elt F e) = View.ld X (Rect.unit off' size inb') := by
  subst h; rfl

theorem ld_rect1 (t : Fin cfg0.N) (ht : t.val < 3) (h2) {e : EltTy} (X : Vec F S240x1536 e) :
    (View.ld X (rect1 (grid0.coords t) h2) : S240x512.Idx → Elt F e) = View.ld X (colsX t.val) :=
  unit_congr (S := S240x1536) (size := S240x512.size) ((off1 t ht).trans (by rw [Nat.min_eq_left (by omega)])) _ _ X

theorem ld_rect3 (t : Fin cfg0.N) (ht : 15 ≤ t.val) (h6) {e : EltTy} (X : Vec F S240x1536 e) :
    (View.ld X (rect3 (grid0.coords t) h6) : S240x256.Idx → Elt F e) = View.ld X (colsR (t.val - 15)) :=
  unit_congr (S := S240x1536) (size := S240x256.size) ((off3 t ht).trans (by rw [Nat.min_eq_left (by have := lt21 t; omega)])) _ _ X

section Step

variable {m c} {n : ℕ} {s0 : Vec F S256x3072 .fp8e4m3} {s1 : Vec F S240x1 .f32} {s2 : Vec F S240x1536 .f32} {s3 : Vec F S256x1536 .fp8e4m3}
    {s4 : Vec F S240x1 .f32} {s5 : Vec F S240x6144 .f32} {s6 : Vec F S256x6144 .fp8e4m3} {s7 : Vec F S240x1 .f32}

/-- From the fourth point on the residual is whole. -/
theorem Inv.residual (h : Inv m c n s0 s1 s2 s3 s4 s5 s6 s7) (hn : 3 ≤ n) : s2 = vR m c := by
  funext j; refine h.2.1 j ?_
  have : (j 1).val < 1536 := (j 1).isLt
  omega

/-- From the sixteenth point on the hidden layer is whole. -/
theorem Inv.hidden (h : Inv m c n s0 s1 s2 s3 s4 s5 s6 s7) (hn : 15 ≤ n) : s5 = vH m c := by
  funext j; refine h.2.2.2.1 j ?_
  have : (j 1).val < 6144 := (j 1).isLt
  omega

/-- A point of the first product stores its block of the residual. -/
theorem Inv.op {t : Fin cfg0.N} (h : Inv m c t.val s0 s1 s2 s3 s4 s5 s6 s7) (ht : t.val < 3) (h2) :
    Inv m c (t.val + 1) (padO (vO m c)) (k0_pay18 (vO m c)) ((rect1 (grid0.coords t) h2).overlay s2
      (k0_pay4 (padO (vO m c)) (iblk m c 2 t) (k0_pay18 (vO m c)) (iblk m c 3 t) (View.ld (iblk m c 1 t) (rect1 (grid0.coords t) h2)))) s3 s4 s5 s6 s7 := by
  refine ⟨fun _ => ⟨rfl, rfl⟩, fun j hj => overlay_ofBlocks (vRb m c) s2 t.val _ (off1 t ht) _ _ ?_ h.2.1 j hj, fun _ => by omega, fun j hj => by omega, fun _ => by omega⟩
  unfold vRb
  rw [pt_val]
  exact congrArg (k0_pay4 (padO (vO m c)) (iblk m c 2 t) (k0_pay18 (vO m c)) (iblk m c 3 t)) (ld_rect1 t ht h2 _)

/-- A point of the gate and up products stores its block of the hidden layer. -/
theorem Inv.gu {t : Fin cfg0.N} (h : Inv m c t.val s0 s1 s2 s3 s4 s5 s6 s7) (ht : 3 ≤ t.val) (ht' : t.val < 15) (h4) :
    Inv m c (t.val + 1) s0 s1 s2 (vA m c) (vAs m c) ((rect2 (grid0.coords t) h4).overlay s5
      (k0_pay8 (k0_pay39 (vA m c) (iblk m c 5 t) (vAs m c) (iblk m c 6 t) (vA m c) (iblk m c 7 t) (vAs m c) (iblk m c 8 t)))) s6 s7 := by
  refine ⟨fun _ => h.1 (by omega), fun j hj => by rw [h.residual ht], fun _ => ⟨rfl, rfl⟩,
    fun j hj => overlay_ofBlocks (vHb m c) s5 (t.val - 3) _ (off2 t ht ht') _ _ ?_ h.2.2.2.1 j (by omega), fun _ => by omega⟩
  unfold vHb
  rw [show t.val - 3 + 3 = t.val by omega, pt_val]

/-- A point of the last product leaves the buffers it has read. -/
theorem Inv.down {t : Fin cfg0.N} (h : Inv m c t.val s0 s1 s2 s3 s4 s5 s6 s7) (ht : 15 ≤ t.val) :
    Inv m c (t.val + 1) s0 s1 s2 s3 s4 s5 (vHc m c) (vHs m c) :=
  ⟨fun _ => h.1 (by omega), fun j _ => by rw [h.residual (by omega)], fun _ => h.2.2.1 (by omega),
    fun j _ => by rw [h.hidden ht], fun _ => ⟨rfl, rfl⟩⟩

end Step

/-! ## The outputs a point leaves alone -/

theorem keep_12 {t : Fin cfg0.N} (ht : 1 ≤ t.val) {Y} (hY : (rdat m c).Finds 12 t Y) : (rdat m c).after 12 t Y Y := by
  have h21 := lt21 t
  have hp : (pt (t.val - 1)).val = t.val - 1 := by show min (t.val - 1) 20 = _; omega
  exact hold m c rfl (by decide) (by omega) (Bool.eq_false_iff.mpr fun h => by have := (flush0_12 _).mp h; omega) (by rw [after_12, after_12]) hY
theorem keep_13 {t : Fin cfg0.N} (ht : 1 ≤ t.val) {Y} (hY : (rdat m c).Finds 13 t Y) : (rdat m c).after 13 t Y Y := by
  have h21 := lt21 t
  have hp : (pt (t.val - 1)).val = t.val - 1 := by show min (t.val - 1) 20 = _; omega
  exact hold m c rfl (by decide) (by omega) (Bool.eq_false_iff.mpr fun h => by have := (flush0_13 _).mp h; omega) (by rw [after_13, after_13]) hY
theorem keep_14 {t : Fin cfg0.N} (ht : t.val ≠ 3) {Y} (hY : (rdat m c).Finds 14 t Y) : (rdat m c).after 14 t Y Y := by
  have h21 := lt21 t
  have hp : (pt (t.val - 1)).val = t.val - 1 := by show min (t.val - 1) 20 = _; omega
  rcases Nat.lt_or_ge t.val 3 with h | h
  · exact early m c rfl h _ _
  · exact hold m c rfl (by decide) (by omega) (Bool.eq_false_iff.mpr fun h => by have := (flush0_14 _).mp h; omega) (by rw [after_14, after_14]) hY
theorem keep_15 {t : Fin cfg0.N} (ht : t.val ≠ 3) {Y} (hY : (rdat m c).Finds 15 t Y) : (rdat m c).after 15 t Y Y := by
  have h21 := lt21 t
  have hp : (pt (t.val - 1)).val = t.val - 1 := by show min (t.val - 1) 20 = _; omega
  rcases Nat.lt_or_ge t.val 3 with h | h
  · exact early m c rfl h _ _
  · exact hold m c rfl (by decide) (by omega) (Bool.eq_false_iff.mpr fun h => by have := (flush0_15 _).mp h; omega) (by rw [after_15, after_15]) hY
theorem keep_16 {t : Fin cfg0.N} (ht : t.val ≠ 15) {Y} (hY : (rdat m c).Finds 16 t Y) : (rdat m c).after 16 t Y Y := by
  have h21 := lt21 t
  have hp : (pt (t.val - 1)).val = t.val - 1 := by show min (t.val - 1) 20 = _; omega
  rcases Nat.lt_or_ge t.val 15 with h | h
  · exact early m c rfl h _ _
  · exact hold m c rfl (by decide) (by omega) (Bool.eq_false_iff.mpr fun h => by have := (flush0_16 _).mp h; omega) (by rw [after_16, after_16]) hY
theorem keep_17 {t : Fin cfg0.N} (ht : t.val ≠ 15) {Y} (hY : (rdat m c).Finds 17 t Y) : (rdat m c).after 17 t Y Y := by
  have h21 := lt21 t
  have hp : (pt (t.val - 1)).val = t.val - 1 := by show min (t.val - 1) 20 = _; omega
  rcases Nat.lt_or_ge t.val 15 with h | h
  · exact early m c rfl h _ _
  · exact hold m c rfl (by decide) (by omega) (Bool.eq_false_iff.mpr fun h => by have := (flush0_17 _).mp h; omega) (by rw [after_17, after_17]) hY
theorem keep_18 {t : Fin cfg0.N} (ht : 3 ≤ t.val) {Y} (hY : (rdat m c).Finds 18 t Y) : (rdat m c).after 18 t Y Y := by
  have h21 := lt21 t
  have hp : (pt (t.val - 1)).val = t.val - 1 := by show min (t.val - 1) 20 = _; omega
  exact hold m c rfl (by decide) (by omega) (show (cfg0.win 18).flush (pt (t.val - 1)) = false from flush18 (pt (t.val - 1)) (by omega) (by omega)) (by rw [after_18, after_18, hp, show min (t.val - 1) 2 = min t.val 2 by omega]) hY
theorem keep_19 {t : Fin cfg0.N} (ht : t.val < 3 ∨ 15 ≤ t.val) {Y} (hY : (rdat m c).Finds 19 t Y) : (rdat m c).after 19 t Y Y := by
  have h21 := lt21 t
  have hp : (pt (t.val - 1)).val = t.val - 1 := by show min (t.val - 1) 20 = _; omega
  rcases ht with h | h
  · exact early m c rfl h _ _
  · exact hold m c rfl (by decide) (by omega) (show (cfg0.win 19).flush (pt (t.val - 1)) = false from flush19 (pt (t.val - 1)) (by omega) (by omega)) (by rw [after_19, after_19, hp, show min (t.val - 1) 14 = min t.val 14 by omega]) hY
theorem keep_20 {t : Fin cfg0.N} (ht : t.val < 3 ∨ 15 ≤ t.val) {Y} (hY : (rdat m c).Finds 20 t Y) : (rdat m c).after 20 t Y Y := by
  have h21 := lt21 t
  have hp : (pt (t.val - 1)).val = t.val - 1 := by show min (t.val - 1) 20 = _; omega
  rcases ht with h | h
  · exact early m c rfl h _ _
  · exact hold m c rfl (by decide) (by omega) (show (cfg0.win 20).flush (pt (t.val - 1)) = false from flush20 (pt (t.val - 1)) (by omega) (by omega)) (by rw [after_20, after_20, hp, show min (t.val - 1) 14 = min t.val 14 by omega]) hY

/-! ## The body at each point -/

/-- What the body is called with at point `t`, the buffers at `Y`, -/
def bodyPre (t : Fin cfg0.N) (Y : (w : Fin cfg0.W) → (cfg0.win w).block.Idx → Elt F (cfg0.win w).elt) : sProp 𝕄 :=
  iprop(Keep m c t.val ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10)
    ∗ owns (c : Thread nD τ) (st0_11 t) fullShare (Y 11)
    ∗ owns (c : Thread nD τ) (st0_12 t) fullShare (Y 12)
    ∗ owns (c : Thread nD τ) (st0_13 t) fullShare (Y 13)
    ∗ owns (c : Thread nD τ) (st0_14 t) fullShare (Y 14)
    ∗ owns (c : Thread nD τ) (st0_15 t) fullShare (Y 15)
    ∗ owns (c : Thread nD τ) (st0_16 t) fullShare (Y 16)
    ∗ owns (c : Thread nD τ) (st0_17 t) fullShare (Y 17)
    ∗ owns (c : Thread nD τ) (st0_18 t) fullShare (Y 18)
    ∗ owns (c : Thread nD τ) (st0_19 t) fullShare (Y 19)
    ∗ owns (c : Thread nD τ) (st0_20 t) fullShare (Y 20)
    ∗ owns (c : Thread nD τ) (st0_21 t) fullShare (Y 21))

/-- and what it returns. -/
def bodyPost (t : Fin cfg0.N) (Y : (w : Fin cfg0.W) → (cfg0.win w).block.Idx → Elt F (cfg0.win w).elt) : sProp 𝕄 :=
  iprop(Keep m c (t.val + 1) ∗ (rdat m c).owesAt () t.castSucc
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X)
    ∗ (∃ X, ⌜(rdat m c).after 9 t (Y 9) X⌝ ∗ owns (c : Thread nD τ) (st0_9 t) fullShare X)
    ∗ (∃ X, ⌜(rdat m c).after 10 t (Y 10) X⌝ ∗ owns (c : Thread nD τ) (st0_10 t) fullShare X)
    ∗ (∃ X, ⌜(rdat m c).after 11 t (Y 11) X⌝ ∗ owns (c : Thread nD τ) (st0_11 t) fullShare X)
    ∗ (∃ X, ⌜(rdat m c).after 12 t (Y 12) X⌝ ∗ owns (c : Thread nD τ) (st0_12 t) fullShare X)
    ∗ (∃ X, ⌜(rdat m c).after 13 t (Y 13) X⌝ ∗ owns (c : Thread nD τ) (st0_13 t) fullShare X)
    ∗ (∃ X, ⌜(rdat m c).after 14 t (Y 14) X⌝ ∗ owns (c : Thread nD τ) (st0_14 t) fullShare X)
    ∗ (∃ X, ⌜(rdat m c).after 15 t (Y 15) X⌝ ∗ owns (c : Thread nD τ) (st0_15 t) fullShare X)
    ∗ (∃ X, ⌜(rdat m c).after 16 t (Y 16) X⌝ ∗ owns (c : Thread nD τ) (st0_16 t) fullShare X)
    ∗ (∃ X, ⌜(rdat m c).after 17 t (Y 17) X⌝ ∗ owns (c : Thread nD τ) (st0_17 t) fullShare X)
    ∗ (∃ X, ⌜(rdat m c).after 18 t (Y 18) X⌝ ∗ owns (c : Thread nD τ) (st0_18 t) fullShare X)
    ∗ (∃ X, ⌜(rdat m c).after 19 t (Y 19) X⌝ ∗ owns (c : Thread nD τ) (st0_19 t) fullShare X)
    ∗ (∃ X, ⌜(rdat m c).after 20 t (Y 20) X⌝ ∗ owns (c : Thread nD τ) (st0_20 t) fullShare X)
    ∗ (∃ X, ⌜(rdat m c).after 21 t (Y 21) X⌝ ∗ owns (c : Thread nD τ) (st0_21 t) fullShare X))

variable {m c} {t : Fin cfg0.N} {Y : (w : Fin cfg0.W) → (cfg0.win w).block.Idx → Elt F (cfg0.win w).elt}

set_option maxHeartbeats 1000000 in
/-- The first point. -/
theorem body_first (ht : t.val = 0) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : k0_cond1 (grid0.coords t) = 1#1 := (cond1 t).mpr (by omega)
  have h2 : k0_cond2 (grid0.coords t) = 1#1 := (cond2 t).mpr (by omega)
  have h3 : ¬ k0_cond3 (grid0.coords t) = 1#1 := fun h => by have := (cond3 t).mp h; omega
  have h4 : ¬ k0_cond4 (grid0.coords t) = 1#1 := fun h => by have := (cond4 t).mp h; omega
  have h5 : ¬ k0_cond5 (grid0.coords t) = 1#1 := fun h => by have := (cond5 t).mp h; omega
  have h6 : ¬ k0_cond6 (grid0.coords t) = 1#1 := fun h => by have := (cond6 t).mp h; omega
  have e0' : vO m c = iblk m c 0 t := by unfold vO; rw [show pt 0 = t from Fin.ext (by show 0 = _; omega)]
  have e0 := (found_0 m c (hY 0)).trans e0'.symm
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  iapply (run_first c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (vO m c) (iblk m c 1 t) (iblk m c 2 t) (iblk m c 3 t) s2 _)
  isplitl [H0]; · iexact H0
  isplitl [H1]; · iexact H1
  isplitl [H2]; · iexact H2
  isplitl [H3]; · iexact H3
  isplitl [H12]; · iexists _; iexact H12
  isplitl [H13]; · iexists _; iexact H13
  isplitl [S0]; · iexists _; iexact S0
  isplitl [S1]; · iexists _; iexact S1
  isplitl [H18]; · iexists _; iexact H18
  isplitl [S2]; · iexact S2
  iintro ⟨H0, H1, H2, H3, H12, H13, S0, S1, H18, S2⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI.op (by omega) h2
  isplitl [Ho]; · iexact Ho
  isplitl [H0]
  · iexists _; isplitr; swap; · iexact H0
    ipureintro; exact leave_0 m c t _ e0'
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact store m c rfl _ (by rw [after_12])
  isplitl [H13]
  · iexists _; isplitr; swap; · iexact H13
    ipureintro; exact store m c rfl _ (by rw [after_13])
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact store m c rfl _ (by rw [after_18, show min t.val 2 = t.val by omega, pt_val]; rfl)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact early m c rfl (by omega) _ _

set_option maxHeartbeats 1000000 in
/-- Another point of the first product. -/
theorem body_op (ht : 1 ≤ t.val) (ht' : t.val < 3) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : k0_cond2 (grid0.coords t) = 1#1 := (cond2 t).mpr (by omega)
  have h3 : ¬ k0_cond3 (grid0.coords t) = 1#1 := fun h => by have := (cond3 t).mp h; omega
  have h4 : ¬ k0_cond4 (grid0.coords t) = 1#1 := fun h => by have := (cond4 t).mp h; omega
  have h5 : ¬ k0_cond5 (grid0.coords t) = 1#1 := fun h => by have := (cond5 t).mp h; omega
  have h6 : ¬ k0_cond6 (grid0.coords t) = 1#1 := fun h => by have := (cond6 t).mp h; omega
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  obtain ⟨rfl, rfl⟩ := hI.1 (by omega)
  iapply (run_op c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 1 t) (iblk m c 2 t) (iblk m c 3 t) _ _ s2 _)
  isplitl [H1]; · iexact H1
  isplitl [H2]; · iexact H2
  isplitl [H3]; · iexact H3
  isplitl [S0]; · iexact S0
  isplitl [S1]; · iexact S1
  isplitl [H18]; · iexists _; iexact H18
  isplitl [S2]; · iexact S2
  iintro ⟨H1, H2, H3, S0, S1, H18, S2⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI.op (by omega) h2
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact store m c rfl _ (by rw [after_18, show min t.val 2 = t.val by omega, pt_val]; rfl)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact early m c rfl (by omega) _ _

set_option maxHeartbeats 1000000 in
/-- The fourth point. -/
theorem body_norm (ht : t.val = 3) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : k0_cond3 (grid0.coords t) = 1#1 := (cond3 t).mpr (by omega)
  have h4 : k0_cond4 (grid0.coords t) = 1#1 := (cond4 t).mpr ⟨by omega, by omega⟩
  have h5 : ¬ k0_cond5 (grid0.coords t) = 1#1 := fun h => by have := (cond5 t).mp h; omega
  have h6 : ¬ k0_cond6 (grid0.coords t) = 1#1 := fun h => by have := (cond6 t).mp h; omega
  have e4' : vW m c = iblk m c 4 t := by unfold vW; rw [show pt 3 = t from Fin.ext (by show min 3 20 = _; omega)]
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  have hI' := hI.gu (by omega) (by omega) h4
  obtain rfl := hI.residual (by omega)
  rw [← e4']
  iapply (run_norm c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (vW m c) (iblk m c 5 t) (iblk m c 6 t) (iblk m c 7 t) (iblk m c 8 t) _ s5 _)
  isplitl [H4]; · iexact H4
  isplitl [H5]; · iexact H5
  isplitl [H6]; · iexact H6
  isplitl [H7]; · iexact H7
  isplitl [H8]; · iexact H8
  isplitl [S2]; · iexact S2
  isplitl [H14]; · iexists _; iexact H14
  isplitl [H15]; · iexists _; iexact H15
  isplitl [S3]; · iexists _; iexact S3
  isplitl [S4]; · iexists _; iexact S4
  isplitl [H19]; · iexists _; iexact H19
  isplitl [H20]; · iexists _; iexact H20
  isplitl [S5]; · iexact S5
  iintro ⟨H4, H5, H6, H7, H8, S2, H14, H15, S3, S4, H19, H20, S5⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI'
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ e4'
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact store m c rfl _ (by rw [after_14])
  isplitl [H15]
  · iexists _; isplitr; swap; · iexact H15
    ipureintro; exact store m c rfl _ (by rw [after_15])
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact keep_18 m c (by omega) (hY 18)
  isplitl [H19]
  · iexists _; isplitr; swap; · iexact H19
    ipureintro; exact store m c rfl _ (by rw [after_19, show min t.val 14 = t.val by omega, pt_val]; rfl)
  isplitl [H20]
  · iexists _; isplitr; swap; · iexact H20
    ipureintro; exact store m c rfl _ (by rw [after_20, show min t.val 14 = t.val by omega, pt_val]; rfl)
  iexists _; isplitr; swap; · iexact H21
  ipureintro; exact early m c rfl (by omega) _ _

set_option maxHeartbeats 1000000 in
/-- Another point of the gate and up products. -/
theorem body_gu (ht : 4 ≤ t.val) (ht' : t.val < 15) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : ¬ k0_cond3 (grid0.coords t) = 1#1 := fun h => by have := (cond3 t).mp h; omega
  have h4 : k0_cond4 (grid0.coords t) = 1#1 := (cond4 t).mpr ⟨by omega, by omega⟩
  have h5 : ¬ k0_cond5 (grid0.coords t) = 1#1 := fun h => by have := (cond5 t).mp h; omega
  have h6 : ¬ k0_cond6 (grid0.coords t) = 1#1 := fun h => by have := (cond6 t).mp h; omega
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  obtain ⟨rfl, rfl⟩ := hI.2.2.1 (by omega)
  iapply (run_gu c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 5 t) (iblk m c 6 t) (iblk m c 7 t) (iblk m c 8 t) _ _ s5 _)
  isplitl [H5]; · iexact H5
  isplitl [H6]; · iexact H6
  isplitl [H7]; · iexact H7
  isplitl [H8]; · iexact H8
  isplitl [S3]; · iexact S3
  isplitl [S4]; · iexact S4
  isplitl [H19]; · iexists _; iexact H19
  isplitl [H20]; · iexists _; iexact H20
  isplitl [S5]; · iexact S5
  iintro ⟨H5, H6, H7, H8, S3, S4, H19, H20, S5⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI.gu (by omega) (by omega) h4
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact keep_18 m c (by omega) (hY 18)
  isplitl [H19]
  · iexists _; isplitr; swap; · iexact H19
    ipureintro; exact store m c rfl _ (by rw [after_19, show min t.val 14 = t.val by omega, pt_val]; rfl)
  isplitl [H20]
  · iexists _; isplitr; swap; · iexact H20
    ipureintro; exact store m c rfl _ (by rw [after_20, show min t.val 14 = t.val by omega, pt_val]; rfl)
  iexists _; isplitr; swap; · iexact H21
  ipureintro; exact early m c rfl (by omega) _ _

set_option maxHeartbeats 1000000 in
/-- The sixteenth point. -/
theorem body_hid (ht : t.val = 15) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : ¬ k0_cond3 (grid0.coords t) = 1#1 := fun h => by have := (cond3 t).mp h; omega
  have h4 : ¬ k0_cond4 (grid0.coords t) = 1#1 := fun h => by have := (cond4 t).mp h; omega
  have h5 : k0_cond5 (grid0.coords t) = 1#1 := (cond5 t).mpr (by omega)
  have h6 : k0_cond6 (grid0.coords t) = 1#1 := (cond6 t).mpr (by omega)
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  have hI' := hI.down (by omega)
  obtain rfl := hI.residual (by omega)
  obtain rfl := hI.hidden (by omega)
  iapply (run_hid c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 9 t) (iblk m c 10 t) _ _ _)
  isplitl [H9]; · iexact H9
  isplitl [H10]; · iexact H10
  isplitl [S2]; · iexact S2
  isplitl [S5]; · iexact S5
  isplitl [H16]; · iexists _; iexact H16
  isplitl [H17]; · iexists _; iexact H17
  isplitl [S6]; · iexists _; iexact S6
  isplitl [S7]; · iexists _; iexact S7
  isplitl [H21]; · iexists _; iexact H21
  isplitl [H11]; · iexists _; iexact H11
  iintro ⟨H9, H10, S2, S5, H16, H17, S6, S7, H21, H11⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI'
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact store m c rfl _ (by rw [after_11, show max t.val 15 = t.val by omega, pt_val]; unfold vOut; exact congrArg (k0_pay12 (vHc m c) (iblk m c 9 t) (vHs m c) (iblk m c 10 t)) (ld_rect3 t (by omega) h6 _))
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact store m c rfl _ (by rw [after_16])
  isplitl [H17]
  · iexists _; isplitr; swap; · iexact H17
    ipureintro; exact store m c rfl _ (by rw [after_17])
  isplitl [H18]
  · iexists _; isplitr; swap; · iexact H18
    ipureintro; exact keep_18 m c (by omega) (hY 18)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact store m c rfl _ (by rw [after_21, show max t.val 15 = t.val by omega, pt_val]; rfl)

set_option maxHeartbeats 1000000 in
/-- Another point of the last product. -/
theorem body_down (ht : 16 ≤ t.val) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : ¬ k0_cond3 (grid0.coords t) = 1#1 := fun h => by have := (cond3 t).mp h; omega
  have h4 : ¬ k0_cond4 (grid0.coords t) = 1#1 := fun h => by have := (cond4 t).mp h; omega
  have h5 : ¬ k0_cond5 (grid0.coords t) = 1#1 := fun h => by have := (cond5 t).mp h; omega
  have h6 : k0_cond6 (grid0.coords t) = 1#1 := (cond6 t).mpr (by omega)
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  have hI' := hI.down (by omega)
  obtain rfl := hI.residual (by omega)
  obtain ⟨rfl, rfl⟩ := hI.2.2.2.2 (by omega)
  iapply (run_down c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 9 t) (iblk m c 10 t) _ _ _ _)
  isplitl [H9]; · iexact H9
  isplitl [H10]; · iexact H10
  isplitl [S2]; · iexact S2
  isplitl [S6]; · iexact S6
  isplitl [S7]; · iexact S7
  isplitl [H21]; · iexists _; iexact H21
  isplitl [H11]; · iexists _; iexact H11
  iintro ⟨H9, H10, S2, S6, S7, H21, H11⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI'
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact store m c rfl _ (by rw [after_11, show max t.val 15 = t.val by omega, pt_val]; unfold vOut; exact congrArg (k0_pay12 (vHc m c) (iblk m c 9 t) (vHs m c) (iblk m c 10 t)) (ld_rect3 t (by omega) h6 _))
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact keep_18 m c (by omega) (hY 18)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact store m c rfl _ (by rw [after_21, show max t.val 15 = t.val by omega, pt_val]; rfl)

/-- The body at every point. -/
theorem sound_body (hY : ∀ w, (rdat m c).Finds w t (Y w)) :
    bodyPre m c t Y ⊢ wp frame (wpE (defs₀ (F := F)) Variants.none c none) Set.univ (bodyAt0 t) (fun _ => bodyPost m c t Y) := by
  rcases Nat.lt_or_ge t.val 3 with h | h
  · rcases Nat.eq_zero_or_pos t.val with h0 | h0
    · exact body_first h0 hY
    · exact body_op h0 h hY
  · rcases Nat.lt_or_ge t.val 15 with h' | h'
    · rcases Nat.eq_or_lt_of_le h with h0 | h0
      · exact body_norm h0.symm hY
      · exact body_gu h0 h' hY
    · rcases Nat.eq_or_lt_of_le h' with h0 | h0
      · exact body_hid h0.symm hY
      · exact body_down h0 hY

variable (m c)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation : (rdat (F := F) m c).BodyObligation defs₀ Variants.none () Set.univ := fun t Y hY => by
  rw [bigSep_W0, bigSep_W0, defs₀_row]
  exact triple_restated (sound_body hY) rfl .rfl fun _ => .rfl

/-! ## The run and the frame -/

/-- The kernel's own buffers at the region's entry. -/
theorem keep_in : Pipeline.ΦA spec0 c ⊢ (Keep m c 0 : sProp 𝕄) := by
  unfold Pipeline.ΦA Keep
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hr⟩
  iexists f0, f1, f2, f3, f4, f5, f6, f7
  isplitr
  · ipureintro
    exact ⟨fun h => by omega, fun j h => by omega, fun h => by omega, fun j h => by omega, fun h => by omega⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hr

/-- The kernel's own buffers after the last point. -/
theorem keep_out (n : ℕ) : (Keep m c n : sProp 𝕄) ⊢ Pipeline.ΦA spec0 c := by
  unfold Pipeline.ΦA Keep
  rw [scopedRest0_eq]
  simp only [owns_whole]
  iintro ⟨%f0, %f1, %f2, %f3, %f4, %f5, %f6, %f7, -, H0, H1, H2, H3, H4, H5, H6, H7, Hr⟩
  isplitl [H0 H1 H2 H3 H4 H5 H6 H7]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    iexists f7; iexact H7
  iexact Hr

/-- Nothing is written back of an output before its first point. -/
theorem first_flush : ∀ (w : Fin 22) (u : Fin cfg0.N), (cfg0.win w).flush u = true → (first w).getD 0 ≤ u.val := by
  decide

/-- Every array ends as the exact proof data says. -/
theorem arr_eq (w : Fin cfg0.W) (G) (hG : (rdat m c).ArrAt w cfg0.N G) : G = (dats m 0 c).arrAt w cfg0.N := by
  cases h : first w with
  | none => exact Cert.Rel.late_arrAt_none (dats m 0 c) first h _ _ hG
  | some k =>
    refine Cert.Rel.late_arrAt (dats m 0 c) first h (fun u hu => ?_) _ _ hG
    have := first_flush w u hu
    rwa [h] at this

set_option backward.isDefEq.respectTransparency.types false in
set_option maxHeartbeats 800000 in
/-- The launch: every weakly fair run ends, every array at what the proof data says, every other unscoped buffer as the
    region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.RDat.θ_run_frame_track cfgs (0 : Fin 1) launch0 defs₀ Variants.none (rdat m) m ρ main
    (body_obligation m) (fun c => (dats m 0 c).share_full fun _ => rfl)
    (fun _ _ => rfl) (V m) (hmain m Variants.none) (A_eq m) (fun c => keep_in m c) (fun c => keep_out m c _) _
    (fun r h => ⟨fun c => ⟨fun w => arr_eq m c w _ ((h.1 c).1 w), (h.1 c).2⟩, h.2⟩)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every weakly fair run ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Mlp.Hand
-- ==== Proof.MlpIdealVals.lean ====
module

public import proofs.«01_k».proof.Proof.Gen.MlpIdeal.Launch
public import proofs.«01_k».proof.Proof.Gen.MlpIdeal.Skeleton
public import proofs.«01_k».proof.Proof.Gen.MlpIdeal.Points
public import proofs.«01_k».proof.Proof.Gen.MlpIdeal.Frame
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the kernel stores, as functions of what it loads -/

/-- The 512 columns of the residual a point of the first product takes and stores. -/
abbrev rect1 (i : grid0.Coords) (h2 : k0_cond2 i = 1#1) : Rect S240x1536 :=
  Rect.unit (s := S240x1536) (k0_off1 i) S240x512.size (k0_off1_inb i h2)

/-- The 512 columns of the hidden layer a point of the gate and up products stores. -/
abbrev rect2 (i : grid0.Coords) (h4 : k0_cond4 i = 1#1) : Rect S240x6144 :=
  Rect.unit (s := S240x6144) (k0_off2 i) S240x512.size (k0_off2_inb i h4)

/-- The 256 columns of the residual a point of the last product adds. -/
abbrev rect3 (i : grid0.Coords) (h6 : k0_cond6 i = 1#1) : Rect S240x1536 :=
  Rect.unit (s := S240x1536) (k0_off3 i) S240x256.size (k0_off3_inb i h6)

/-- Six rows of forty, stored one by one. -/
def sixRows (a b c d e f : Vec F S1x40 .f32) : Vec F S6x40 .f32 :=
  View.canon [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]

/-- The codes of `o`, padded with zero rows to 256 rows. -/
def padO (o : Vec F S240x3072 .f32) : Vec F S256x3072 .fp8e4m3 :=
  View.canon [⟨Rect.unit (s := S256x3072) ![0, 0] S240x3072.size inb_S256x3072_S240x3072_0_0, k0_pay17 o⟩,
    ⟨Rect.unit (s := S256x3072) ![0, 0] S256x3072.size inb_S256x3072_S256x3072_0_0, k0_pay16⟩]

/-- The scales of `o` by group of forty rows. -/
def rowsO (o : Vec F S240x3072 .f32) : Vec F S6x40 .f32 :=
  sixRows (k0_pay20 (k0_pay19 o)) (k0_pay21 (k0_pay14 o)) (k0_pay22 (k0_pay14 o)) (k0_pay23 (k0_pay14 o))
    (k0_pay1 k0_pay24 (FloatOps.ofBits .f32 0x00000000#32) (k0_pay25 (k0_pay14 o))) (k0_pay2 (k0_pay14 o))

/-- The codes of the normalised residual, padded with zero rows to 256 rows. -/
def padA (r : Vec F S240x1536 .f32) (w : Vec F S1x1536 .f32) : Vec F S256x1536 .fp8e4m3 :=
  View.canon [⟨Rect.unit (s := S256x1536) ![0, 0] S240x1536.size inb_S256x1536_S240x1536_0_0, k0_pay30 (k0_pay28 r w)⟩,
    ⟨Rect.unit (s := S256x1536) ![0, 0] S256x1536.size inb_S256x1536_S256x1536_0_0, k0_pay29⟩]

/-- The scales of the normalised residual by group of forty rows. -/
def rowsA (r : Vec F S240x1536 .f32) (w : Vec F S1x1536 .f32) : Vec F S6x40 .f32 :=
  sixRows (k0_pay32 (k0_pay27 r w)) (k0_pay33 (k0_pay27 r w)) (k0_pay34 (k0_pay27 r w))
    (k0_pay5 (k0_pay35 (k0_pay27 r w)) k0_pay36) (k0_pay6 (k0_pay27 r w)) (k0_pay7 (k0_pay27 r w))

/-- The codes of the hidden layer, padded with zero rows to 256 rows. -/
def padH (h : Vec F S240x6144 .f32) : Vec F S256x6144 .fp8e4m3 :=
  View.canon [⟨Rect.unit (s := S256x6144) ![0, 0] S240x6144.size inb_S256x6144_S240x6144_0_0, k0_pay43 h⟩,
    ⟨Rect.unit (s := S256x6144) ![0, 0] S256x6144.size inb_S256x6144_S256x6144_0_0, k0_pay42⟩]

/-- The scales of the hidden layer by group of forty rows. -/
def rowsH (h : Vec F S240x6144 .f32) : Vec F S6x40 .f32 :=
  sixRows (k0_pay46 (k0_pay45 h)) (k0_pay47 (k0_pay40 h)) (k0_pay48 (k0_pay40 h)) (k0_pay49 (k0_pay40 h))
    (k0_pay9 k0_pay50 (FloatOps.ofBits .f32 0x00000000#32) (k0_pay51 (k0_pay40 h))) (k0_pay10 (k0_pay40 h))

/-! ## Reading a buffer back -/

section Read

theorem zero2 (a : Fin 2) : (![0, 0] : Fin 2 → ℕ) a = 0 := by revert a; decide

variable {d : Fin 2 → ℕ} {sp : Space} {e : EltTy} (v : View sig .tc sp (⟨2, d⟩ : Shape) e)

/-- A load of the whole buffer reads its contents. -/
theorem readAt_whole (f : v.ty.Contents (Elt F)) (inb : ∀ a, (![0, 0] : Fin 2 → ℕ) a + d a ≤ d a) :
    v.readAt (Elt F) (Rect.unit (s := ⟨2, d⟩) ![0, 0] d inb).toLoadRect f = v.read (Elt F) f :=
  View.ld_unit_lit inb _ zero2

/-- A load of the whole buffer reads what the stores before it left. -/
theorem readCov_whole (L : List (View.Piece (Elt F) (⟨2, d⟩ : Shape) e)) (inb : ∀ a, (![0, 0] : Fin 2 → ℕ) a + d a ≤ d a) :
    v.readCov L (Rect.unit (s := ⟨2, d⟩) ![0, 0] d inb).toLoadRect = View.canon L := by
  rw [View.readCov_eq_canon']
  exact View.ld_unit_lit (S := ⟨2, d⟩) inb (View.canon L) zero2

/-- After a store to the whole buffer, and any stores since, it holds what the stores leave. -/
theorem read_writes_whole (f : v.ty.Contents (Elt F)) (L : List (View.Piece (Elt F) (⟨2, d⟩ : Shape) e))
    (inb : ∀ a, (![0, 0] : Fin 2 → ℕ) a + d a ≤ d a) (w : (Rect.unit (s := ⟨2, d⟩) ![0, 0] d inb).shape.Idx → Elt F e)
    (h : (⟨Rect.unit (s := ⟨2, d⟩) ![0, 0] d inb, w⟩ : View.Piece (Elt F) (⟨2, d⟩ : Shape) e) ∈ L) :
    v.read (Elt F) (v.writes (Elt F) f L) = View.canon L := by
  refine View.read_writes_eq_canon _ _ _ fun y => ⟨_, h, ?_⟩
  rw [Rect.mem_set_unit]
  intro a
  have := (y a).isLt
  have h0 := zero2 a
  rw [h0]
  exact ⟨Nat.zero_le _, by rw [Nat.zero_add]; exact this⟩

/-- One store to the whole buffer leaves its payload. -/
theorem read_write_whole (f : v.ty.Contents (Elt F))
    (inb : ∀ a, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w :=
  (read_writes_whole v f _ inb w (List.mem_singleton_self _)).trans (View.canon_unit_zero (S := ⟨2, d⟩) (funext zero2) inb w)

/-- A store through a rectangle replaces the contents there. -/
theorem read_write_rect (f : v.ty.Contents (Elt F)) (r : Rect (⟨2, d⟩ : Shape)) (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · rw [r.overlay_of_not_mem _ _ hy]
    exact View.read_writes_apply_of_forall_not_mem v f y _ (by simpa using hy)

omit v in
/-- One store to the whole of a buffer is all it holds. -/
theorem canon_whole (inb : ∀ a, (![0, 0] : Fin 2 → ℕ) a + d a ≤ d a) (w : (⟨2, d⟩ : Shape).Idx → Elt F e) :
    View.canon [(⟨Rect.unit (s := ⟨2, d⟩) ![0, 0] d inb, w⟩ : View.Piece (Elt F) (⟨2, d⟩ : Shape) e)] = w :=
  View.canon_unit_zero (S := ⟨2, d⟩) (funext zero2) inb w

end Read

/-- Stores to the six rows leave the rows. -/
theorem read_sixRows {sp : Space} (v : View sig .tc sp S6x40 .f32) (g : v.ty.Contents (Elt F)) (a b c d e f : Vec F S1x40 .f32) :
    v.read (Elt F) (v.writes (Elt F) g [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]) = sixRows a b c d e f :=
  View.read_writes_eq_canon _ _ _ (View.cover_of_tiled _ S1x40.size (by rfl))

end Cert.MlpIdeal.Hand
-- ==== Proof.MlpIdealSched.lean ====
module

public import proofs.«01_k».proof.Proof.Gen.MlpIdeal.Launch
public import proofs.«01_k».proof.Proof.Gen.MlpIdeal.Points
public import proofs.«01_k».proof.Proof.Gen.MlpIdeal.Frame

@[expose] public section

set_option maxRecDepth 16384

noncomputable section

namespace Cert.MlpIdeal.Hand

open Cert.MlpIdeal.Gen
open Idealize.ShloMosaic

/-! ## Which blocks a point runs, where it stores, and what is written back after it -/

theorem cond1 : ∀ t : Fin grid0.N, k0_cond1 (grid0.coords t) = 1#1 ↔ t.val = 0 := by decide
theorem cond2 : ∀ t : Fin grid0.N, k0_cond2 (grid0.coords t) = 1#1 ↔ t.val < 3 := by decide
theorem cond3 : ∀ t : Fin grid0.N, k0_cond3 (grid0.coords t) = 1#1 ↔ t.val = 3 := by decide
theorem cond4 : ∀ t : Fin grid0.N, k0_cond4 (grid0.coords t) = 1#1 ↔ 3 ≤ t.val ∧ t.val < 15 := by decide
theorem cond5 : ∀ t : Fin grid0.N, k0_cond5 (grid0.coords t) = 1#1 ↔ t.val = 15 := by decide
theorem cond6 : ∀ t : Fin grid0.N, k0_cond6 (grid0.coords t) = 1#1 ↔ 15 ≤ t.val := by decide
theorem off1 : ∀ t : Fin grid0.N, t.val < 3 → k0_off1 (grid0.coords t) = ![0, 512 * t.val] := by decide
theorem off2 : ∀ t : Fin grid0.N, 3 ≤ t.val → t.val < 15 → k0_off2 (grid0.coords t) = ![0, 512 * (t.val - 3)] := by decide
theorem off3 : ∀ t : Fin grid0.N, 15 ≤ t.val → k0_off3 (grid0.coords t) = ![0, 256 * (t.val - 15)] := by decide

theorem fetch_out : ∀ (w : Fin 22) (t : Fin cfg0.N), 11 ≤ w.val → (cfg0.win w).fetch t = false := by
  intro w t h
  fin_cases w <;> first | (exfalso; revert h; decide) | rfl

theorem flush18 : ∀ t : Fin grid0.N, 2 ≤ t.val → t.val < 20 → win0_18.flush t = false := by decide
theorem flush19 : ∀ t : Fin grid0.N, 14 ≤ t.val → t.val < 20 → win0_19.flush t = false := by decide
theorem flush20 : ∀ t : Fin grid0.N, 14 ≤ t.val → t.val < 20 → win0_20.flush t = false := by decide
theorem flush11 : ∀ t : Fin grid0.N, t.val < 15 → win0_11.flush t = false := by decide
theorem flush21 : ∀ t : Fin grid0.N, t.val < 15 → win0_21.flush t = false := by decide
theorem flush19' : ∀ t : Fin grid0.N, t.val < 3 → win0_19.flush t = false := by decide
theorem flush20' : ∀ t : Fin grid0.N, t.val < 3 → win0_20.flush t = false := by decide

end Cert.MlpIdeal.Hand
-- ==== Proof.MlpIdealDat.lean ====
module

public import proofs.«01_k».proof.Proof.Gen.MlpIdeal.Launch
public import proofs.«01_k».proof.Proof.Gen.MlpIdeal.Skeleton
public import proofs.«01_k».proof.Proof.Gen.MlpIdeal.Points
public import proofs.«01_k».proof.Proof.Gen.MlpIdeal.Frame
public import proofs.«01_k».proof.Proof.MlpIdealVals
public import proofs.«01_k».proof.Proof.MlpIdealSched
public import proofs.«01_k».proof.Proof.Rel
public import Idealize.ShloMosaic.Lib.ValueIdxCore
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## An array filled block of columns by block of columns -/

/-- The array whose columns `512 k … 512 k + 511` are the block `G k`. -/
def ofBlocks {N : ℕ} (G : ℕ → Vec F S240x512 .f32) : Vec F ⟨2, ![240, N]⟩ .f32 :=
  fun j => G ((j 1).val / 512) (ix2 (j 0) ⟨(j 1).val % 512, Nat.mod_lt _ (by norm_num)⟩)

/-- Storing the next block of columns extends what is filled. -/
theorem overlay_ofBlocks {N : ℕ} (G : ℕ → Vec F S240x512 .f32) (X : Vec F ⟨2, ![240, N]⟩ .f32) (k : ℕ) (off : Fin 2 → ℕ)
    (hoff : off = ![0, 512 * k]) (inb : ∀ a, off a + S240x512.size a ≤ (⟨2, ![240, N]⟩ : Shape).size a)
    (W : Vec F S240x512 .f32) (hW : W = G k)
    (hX : ∀ j : (⟨2, ![240, N]⟩ : Shape).Idx, (j 1).val < 512 * k → X j = ofBlocks G j) (j : (⟨2, ![240, N]⟩ : Shape).Idx)
    (hj : (j 1).val < 512 * (k + 1)) :
    (Rect.unit (s := ⟨2, ![240, N]⟩) off S240x512.size inb).overlay X W j = ofBlocks G j := by
  subst hoff hW
  by_cases hlt : (j 1).val < 512 * k
  · rw [Rect.overlay_of_not_mem, hX j hlt]
    rw [Rect.mem_set_unit]
    intro h
    have h1 : 512 * k ≤ (j 1).val := (h 1).1
    omega
  · have e : (j 1).val / 512 = k := by omega
    have he : (Rect.unit (s := ⟨2, ![240, N]⟩) ![0, 512 * k] S240x512.size inb).emb
        (ix2 (j 0) ⟨(j 1).val % 512, Nat.mod_lt _ (by norm_num)⟩) = j := by
      funext a
      match a with
      | ⟨0, _⟩ => exact Fin.ext (by show 0 + 1 * (j 0).val = (j 0).val; omega)
      | ⟨1, _⟩ => exact Fin.ext (by show 512 * k + 1 * ((j 1).val % 512) = (j 1).val; omega)
    conv_lhs => rw [← he, Rect.overlay_emb]
    unfold ofBlocks
    rw [e]

/-! ## What each buffer holds, from the arrays the region finds -/

/-- A grid point by its number. -/
def pt (n : ℕ) : Fin cfg0.N := ⟨min n 20, Nat.lt_of_le_of_lt (Nat.min_le_right _ _) (by decide)⟩

theorem pt_val (t : Fin cfg0.N) : pt t.val = t := Fin.ext (Nat.min_eq_left (Nat.le_of_lt_succ (lt_of_lt_of_eq t.isLt N_0)))

/-- Columns `512 k …` of the residual (the last block for `k` past it). -/
def colsX (k : ℕ) : Rect S240x1536 :=
  Rect.unit (s := S240x1536) ![0, 512 * min k 2] S240x512.size (by
    intro a; match a with
    | ⟨0, _⟩ => exact (by decide : 0 + 240 ≤ 240)
    | ⟨1, _⟩ => show 512 * min k 2 + 512 ≤ 1536; omega)

/-- Columns `256 k …` of the residual (the last block for `k` past it). -/
def colsR (k : ℕ) : Rect S240x1536 :=
  Rect.unit (s := S240x1536) ![0, 256 * min k 5] S240x256.size (by
    intro a; match a with
    | ⟨0, _⟩ => exact (by decide : 0 + 240 ≤ 240)
    | ⟨1, _⟩ => show 256 * min k 5 + 256 ≤ 1536; omega)

variable (c : Dev nD)

/-- `o`, as the first point finds it. -/
def vO : Vec F S240x3072 .f32 := iblk m c 0 (pt 0)
/-- The second normalisation's weight, as the fourth point finds it. -/
def vW : Vec F S1x1536 .f32 := iblk m c 4 (pt 3)
/-- The product of `o`, the block of columns point `t` computes. -/
def vOP (t : Fin cfg0.N) : Vec F S240x512 .f32 := k0_pay3 (padO (vO m c)) (iblk m c 2 t) (k0_pay18 (vO m c)) (iblk m c 3 t)
/-- The residual, by blocks of columns. -/
def vRb (k : ℕ) : Vec F S240x512 .f32 :=
  k0_pay4 (padO (vO m c)) (iblk m c 2 (pt k)) (k0_pay18 (vO m c)) (iblk m c 3 (pt k)) (View.ld (iblk m c 1 (pt k)) (colsX k))
/-- The residual. -/
def vR : Vec F S240x1536 .f32 := ofBlocks (vRb m c)
/-- The normalised residual's codes, padded. -/
def vA : Vec F S256x1536 .fp8e4m3 := padA (vR m c) (vW m c)
/-- The normalised residual's scales. -/
def vAs : Vec F S240x1 .f32 := k0_pay31 (k0_pay27 (vR m c) (vW m c))
/-- The gate product, the block of columns point `t` computes. -/
def vG (t : Fin cfg0.N) : Vec F S240x512 .f32 := k0_pay37 (vA m c) (iblk m c 5 t) (vAs m c) (iblk m c 6 t)
/-- The up product, the block of columns point `t` computes. -/
def vU (t : Fin cfg0.N) : Vec F S240x512 .f32 := k0_pay38 (vA m c) (iblk m c 7 t) (vAs m c) (iblk m c 8 t)
/-- The hidden layer, by blocks of columns. -/
def vHb (k : ℕ) : Vec F S240x512 .f32 :=
  k0_pay8 (k0_pay39 (vA m c) (iblk m c 5 (pt (k + 3))) (vAs m c) (iblk m c 6 (pt (k + 3)))
    (vA m c) (iblk m c 7 (pt (k + 3))) (vAs m c) (iblk m c 8 (pt (k + 3))))
/-- The hidden layer. -/
def vH : Vec F S240x6144 .f32 := ofBlocks (vHb m c)
/-- The hidden layer's codes, padded. -/
def vHc : Vec F S256x6144 .fp8e4m3 := padH (vH m c)
/-- The hidden layer's scales. -/
def vHs : Vec F S240x1 .f32 := k0_pay44 (vH m c)
/-- The product of the hidden layer, the block of columns point `t` computes. -/
def vMD (t : Fin cfg0.N) : Vec F S240x256 .f32 := k0_pay11 (vHc m c) (iblk m c 9 t) (vHs m c) (iblk m c 10 t)
/-- The result, the block of columns point `t` computes. -/
def vOut (t : Fin cfg0.N) : Vec F S240x256 .bf16 :=
  k0_pay12 (vHc m c) (iblk m c 9 t) (vHs m c) (iblk m c 10 t) (View.ld (vR m c) (colsR (t.val - 15)))

/-- What the kernel's own buffers hold before point `n`. -/
def Inv (n : ℕ) (s0 : Vec F S256x3072 .fp8e4m3) (s1 : Vec F S240x1 .f32) (s2 : Vec F S240x1536 .f32) (s3 : Vec F S256x1536 .fp8e4m3)
    (s4 : Vec F S240x1 .f32) (s5 : Vec F S240x6144 .f32) (s6 : Vec F S256x6144 .fp8e4m3) (s7 : Vec F S240x1 .f32) : Prop :=
  (1 ≤ n → s0 = padO (vO m c) ∧ s1 = k0_pay18 (vO m c))
  ∧ (∀ j, (j 1).val < 512 * n → s2 j = vR m c j)
  ∧ (4 ≤ n → s3 = vA m c ∧ s4 = vAs m c)
  ∧ (∀ j, (j 1).val < 512 * (n - 3) → s5 j = vH m c j)
  ∧ (16 ≤ n → s6 = vHc m c ∧ s7 = vHs m c)

/-- The kernel's own buffers before point `n`, and the core's generator register. -/
def Keep (n : ℕ) : sProp 𝕄 :=
  iprop(∃ s0 s1 s2 s3 s4 s5 s6 s7, ⌜Inv m c n s0 s1 s2 s3 s4 s5 s6 s7⌝
    ∗ owns (c : Thread nD τ) (Memref.whole cc0_scratch0) fullShare s0 ∗ owns (c : Thread nD τ) (Memref.whole cc0_scratch1) fullShare s1
    ∗ owns (c : Thread nD τ) (Memref.whole cc0_scratch2) fullShare s2 ∗ owns (c : Thread nD τ) (Memref.whole cc0_scratch3) fullShare s3
    ∗ owns (c : Thread nD τ) (Memref.whole cc0_scratch4) fullShare s4 ∗ owns (c : Thread nD τ) (Memref.whole cc0_scratch5) fullShare s5
    ∗ owns (c : Thread nD τ) (Memref.whole cc0_scratch6) fullShare s6 ∗ owns (c : Thread nD τ) (Memref.whole cc0_scratch7) fullShare s7
    ∗ ∃ r, prngReg c r)

/-- The proof data: the arrays as the region finds them, and after the body at point `t` each input's buffer at its
    block and each output's at what the kernel last stored there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => vOut m c (pt (max t.val 15))
    | ⟨12, _⟩ => k0_pay15 (vO m c)
    | ⟨13, _⟩ => rowsO (vO m c)
    | ⟨14, _⟩ => k0_pay28 (vR m c) (vW m c)
    | ⟨15, _⟩ => rowsA (vR m c) (vW m c)
    | ⟨16, _⟩ => k0_pay41 (vH m c)
    | ⟨17, _⟩ => rowsH (vH m c)
    | ⟨18, _⟩ => vOP m c (pt (min t.val 2))
    | ⟨19, _⟩ => vG m c (pt (min t.val 14))
    | ⟨20, _⟩ => vU m c (pt (min t.val 14))
    | ⟨21, _⟩ => vMD m c (pt (max t.val 15))
    | ⟨_ + 22, h⟩ => absurd h (Nat.not_lt.2 (Nat.le_add_left _ _))
  Φ n := Keep m c n.val
  q _ := fullShare
  owed _ := 0

/-- The first point from which an output's buffer holds what the proof data says. -/
def first (w : Fin 22) : Option ℕ :=
  if w.val < 11 then none else if w.val = 12 ∨ w.val = 13 ∨ w.val = 18 then some 0
  else if w.val = 14 ∨ w.val = 15 ∨ w.val = 19 ∨ w.val = 20 then some 3 else some 15

/-- The proof data, each output constrained from its first point on. -/
def rdat (c : Dev nD) : RDat τ (Elt F) Unit ℕ (UR sig nD τ) ℕ cfg0 c := Cert.Rel.late (dats m 0 c) first

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = vOut m c (pt (max t.val 15)) := by dsimp only [dats]
theorem after_12 (t : Fin cfg0.N) : (dats m 0 c).after 12 t = k0_pay15 (vO m c) := by dsimp only [dats]
theorem after_13 (t : Fin cfg0.N) : (dats m 0 c).after 13 t = rowsO (vO m c) := by dsimp only [dats]
theorem after_14 (t : Fin cfg0.N) : (dats m 0 c).after 14 t = k0_pay28 (vR m c) (vW m c) := by dsimp only [dats]
theorem after_15 (t : Fin cfg0.N) : (dats m 0 c).after 15 t = rowsA (vR m c) (vW m c) := by dsimp only [dats]
theorem after_16 (t : Fin cfg0.N) : (dats m 0 c).after 16 t = k0_pay41 (vH m c) := by dsimp only [dats]
theorem after_17 (t : Fin cfg0.N) : (dats m 0 c).after 17 t = rowsH (vH m c) := by dsimp only [dats]
theorem after_18 (t : Fin cfg0.N) : (dats m 0 c).after 18 t = vOP m c (pt (min t.val 2)) := by dsimp only [dats]
theorem after_19 (t : Fin cfg0.N) : (dats m 0 c).after 19 t = vG m c (pt (min t.val 14)) := by dsimp only [dats]
theorem after_20 (t : Fin cfg0.N) : (dats m 0 c).after 20 t = vU m c (pt (min t.val 14)) := by dsimp only [dats]
theorem after_21 (t : Fin cfg0.N) : (dats m 0 c).after 21 t = vMD m c (pt (max t.val 15)) := by dsimp only [dats]

/-! ## What a point finds, and what leaving a buffer alone leaves -/

theorem found_0 {t : Fin cfg0.N} {Y} (h : (rdat m c).Finds 0 t Y) : Y = iblk m c 0 t :=
  (Cert.Rel.late_finds_none _ _ rfl h).elim fun d e => e.trans (before0_0_of m (dats m 0 c) (A_eq m c _) (after_0 m c) t d)
theorem leave_0 (t : Fin cfg0.N) (Y) {X} (hX : X = iblk m c 0 t) : (rdat m c).after 0 t Y X := by
  rw [rdat, Cert.Rel.late_after_none _ _ rfl, hX]; exact (after_0 m c t).symm
theorem found_1 {t : Fin cfg0.N} {Y} (h : (rdat m c).Finds 1 t Y) : Y = iblk m c 1 t :=
  (Cert.Rel.late_finds_none _ _ rfl h).elim fun d e => e.trans (before0_1_of m (dats m 0 c) (A_eq m c _) (after_1 m c) t d)
theorem leave_1 (t : Fin cfg0.N) (Y) {X} (hX : X = iblk m c 1 t) : (rdat m c).after 1 t Y X := by
  rw [rdat, Cert.Rel.late_after_none _ _ rfl, hX]; exact (after_1 m c t).symm
theorem found_2 {t : Fin cfg0.N} {Y} (h : (rdat m c).Finds 2 t Y) : Y = iblk m c 2 t :=
  (Cert.Rel.late_finds_none _ _ rfl h).elim fun d e => e.trans (before0_2_of m (dats m 0 c) (A_eq m c _) (after_2 m c) t d)
theorem leave_2 (t : Fin cfg0.N) (Y) {X} (hX : X = iblk m c 2 t) : (rdat m c).after 2 t Y X := by
  rw [rdat, Cert.Rel.late_after_none _ _ rfl, hX]; exact (after_2 m c t).symm
theorem found_3 {t : Fin cfg0.N} {Y} (h : (rdat m c).Finds 3 t Y) : Y = iblk m c 3 t :=
  (Cert.Rel.late_finds_none _ _ rfl h).elim fun d e => e.trans (before0_3_of m (dats m 0 c) (A_eq m c _) (after_3 m c) t d)
theorem leave_3 (t : Fin cfg0.N) (Y) {X} (hX : X = iblk m c 3 t) : (rdat m c).after 3 t Y X := by
  rw [rdat, Cert.Rel.late_after_none _ _ rfl, hX]; exact (after_3 m c t).symm
theorem found_4 {t : Fin cfg0.N} {Y} (h : (rdat m c).Finds 4 t Y) : Y = iblk m c 4 t :=
  (Cert.Rel.late_finds_none _ _ rfl h).elim fun d e => e.trans (before0_4_of m (dats m 0 c) (A_eq m c _) (after_4 m c) t d)
theorem leave_4 (t : Fin cfg0.N) (Y) {X} (hX : X = iblk m c 4 t) : (rdat m c).after 4 t Y X := by
  rw [rdat, Cert.Rel.late_after_none _ _ rfl, hX]; exact (after_4 m c t).symm
theorem found_5 {t : Fin cfg0.N} {Y} (h : (rdat m c).Finds 5 t Y) : Y = iblk m c 5 t :=
  (Cert.Rel.late_finds_none _ _ rfl h).elim fun d e => e.trans (before0_5_of m (dats m 0 c) (A_eq m c _) (after_5 m c) t d)
theorem leave_5 (t : Fin cfg0.N) (Y) {X} (hX : X = iblk m c 5 t) : (rdat m c).after 5 t Y X := by
  rw [rdat, Cert.Rel.late_after_none _ _ rfl, hX]; exact (after_5 m c t).symm
theorem found_6 {t : Fin cfg0.N} {Y} (h : (rdat m c).Finds 6 t Y) : Y = iblk m c 6 t :=
  (Cert.Rel.late_finds_none _ _ rfl h).elim fun d e => e.trans (before0_6_of m (dats m 0 c) (A_eq m c _) (after_6 m c) t d)
theorem leave_6 (t : Fin cfg0.N) (Y) {X} (hX : X = iblk m c 6 t) : (rdat m c).after 6 t Y X := by
  rw [rdat, Cert.Rel.late_after_none _ _ rfl, hX]; exact (after_6 m c t).symm
theorem found_7 {t : Fin cfg0.N} {Y} (h : (rdat m c).Finds 7 t Y) : Y = iblk m c 7 t :=
  (Cert.Rel.late_finds_none _ _ rfl h).elim fun d e => e.trans (before0_7_of m (dats m 0 c) (A_eq m c _) (after_7 m c) t d)
theorem leave_7 (t : Fin cfg0.N) (Y) {X} (hX : X = iblk m c 7 t) : (rdat m c).after 7 t Y X := by
  rw [rdat, Cert.Rel.late_after_none _ _ rfl, hX]; exact (after_7 m c t).symm
theorem found_8 {t : Fin cfg0.N} {Y} (h : (rdat m c).Finds 8 t Y) : Y = iblk m c 8 t :=
  (Cert.Rel.late_finds_none _ _ rfl h).elim fun d e => e.trans (before0_8_of m (dats m 0 c) (A_eq m c _) (after_8 m c) t d)
theorem leave_8 (t : Fin cfg0.N) (Y) {X} (hX : X = iblk m c 8 t) : (rdat m c).after 8 t Y X := by
  rw [rdat, Cert.Rel.late_after_none _ _ rfl, hX]; exact (after_8 m c t).symm
theorem found_9 {t : Fin cfg0.N} {Y} (h : (rdat m c).Finds 9 t Y) : Y = iblk m c 9 t :=
  (Cert.Rel.late_finds_none _ _ rfl h).elim fun d e => e.trans (before0_9_of m (dats m 0 c) (A_eq m c _) (after_9 m c) t d)
theorem leave_9 (t : Fin cfg0.N) (Y) {X} (hX : X = iblk m c 9 t) : (rdat m c).after 9 t Y X := by
  rw [rdat, Cert.Rel.late_after_none _ _ rfl, hX]; exact (after_9 m c t).symm
theorem found_10 {t : Fin cfg0.N} {Y} (h : (rdat m c).Finds 10 t Y) : Y = iblk m c 10 t :=
  (Cert.Rel.late_finds_none _ _ rfl h).elim fun d e => e.trans (before0_10_of m (dats m 0 c) (A_eq m c _) (after_10 m c) t d)
theorem leave_10 (t : Fin cfg0.N) (Y) {X} (hX : X = iblk m c 10 t) : (rdat m c).after 10 t Y X := by
  rw [rdat, Cert.Rel.late_after_none _ _ rfl, hX]; exact (after_10 m c t).symm

/-- Leaving an output alone before its first point. -/
theorem early {w : Fin 22} {k : ℕ} (h : first w = some k) {t : Fin cfg0.N} (ht : t.val < k) (Y X) : (rdat m c).after w t Y X := by
  rw [rdat, Cert.Rel.late_after _ _ h]; intro hk; omega

/-- Storing an output. -/
theorem store {w : Fin 22} {k : ℕ} (h : first w = some k) {t : Fin cfg0.N} (Y) {X} (hX : X = (dats m 0 c).after w t) : (rdat m c).after w t Y X := by
  rw [rdat, Cert.Rel.late_after _ _ h]; intro _; exact hX

/-- Leaving an output alone after its first point. -/
theorem hold {w : Fin 22} {k : ℕ} (h : first w = some k) (hw : 11 ≤ w.val) {t : Fin cfg0.N} (hk : k < t.val)
    (hfl : (cfg0.win w).flush (pt (t.val - 1)) = false) (hc : (dats m 0 c).after w (pt (t.val - 1)) = (dats m 0 c).after w t)
    {Y} (hY : (rdat m c).Finds w t Y) : (rdat m c).after w t Y Y := by
  have hp : (pt (t.val - 1)).val = t.val - 1 := by
    have := lt_of_lt_of_eq t.isLt N_0
    show min (t.val - 1) 20 = _; omega
  refine store m c h Y ?_
  rw [← hc]
  exact Cert.Rel.late_found (dats m 0 c) first h (by omega) (by omega) (fetch_out w t hw) hfl hY

end Cert.MlpIdeal.Hand
-- ==== Proof.MlpIdealRun.lean ====
module

public import proofs.«01_k».proof.Proof.Gen.MlpIdeal.Launch
public import proofs.«01_k».proof.Proof.Gen.MlpIdeal.Skeleton
public import proofs.«01_k».proof.Proof.Gen.MlpIdeal.Points
public import proofs.«01_k».proof.Proof.Gen.MlpIdeal.Frame
public import proofs.«01_k».proof.Proof.MlpIdealVals
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The kernel body, by which of its six blocks a point runs -/

variable (c : Dev nD) (E : Set ℕ) (i : grid0.Coords)
  (arg1 : Memref sig .tc .vmem S240x3072 .f32) (harg1 : arg1.IsWhole)
  (arg2 : Memref sig .tc .vmem S240x1536 .bf16) (harg2 : arg2.IsWhole)
  (arg3 : Memref sig .tc .vmem S3072x512 .fp8e4m3) (harg3 : arg3.IsWhole)
  (arg4 : Memref sig .tc .vmem S1x512 .f32) (harg4 : arg4.IsWhole)
  (arg5 : Memref sig .tc .vmem S1x1536 .f32) (harg5 : arg5.IsWhole)
  (arg6 : Memref sig .tc .vmem S1536x512 .fp8e4m3) (harg6 : arg6.IsWhole)
  (arg7 : Memref sig .tc .vmem S1x512 .f32) (harg7 : arg7.IsWhole)
  (arg8 : Memref sig .tc .vmem S1536x512 .fp8e4m3) (harg8 : arg8.IsWhole)
  (arg9 : Memref sig .tc .vmem S1x512 .f32) (harg9 : arg9.IsWhole)
  (arg10 : Memref sig .tc .vmem S6144x256 .fp8e4m3) (harg10 : arg10.IsWhole)
  (arg11 : Memref sig .tc .vmem S1x256 .f32) (harg11 : arg11.IsWhole)
  (arg12 : Memref sig .tc .vmem S240x256 .bf16) (harg12 : arg12.IsWhole)
  (arg13 : Memref sig .tc .vmem S240x3072 .fp8e4m3) (harg13 : arg13.IsWhole)
  (arg14 : Memref sig .tc .vmem S6x40 .f32) (harg14 : arg14.IsWhole)
  (arg15 : Memref sig .tc .vmem S240x1536 .fp8e4m3) (harg15 : arg15.IsWhole)
  (arg16 : Memref sig .tc .vmem S6x40 .f32) (harg16 : arg16.IsWhole)
  (arg17 : Memref sig .tc .vmem S240x6144 .fp8e4m3) (harg17 : arg17.IsWhole)
  (arg18 : Memref sig .tc .vmem S6x40 .f32) (harg18 : arg18.IsWhole)
  (arg19 : Memref sig .tc .vmem S240x512 .f32) (harg19 : arg19.IsWhole)
  (arg20 : Memref sig .tc .vmem S240x512 .f32) (harg20 : arg20.IsWhole)
  (arg21 : Memref sig .tc .vmem S240x512 .f32) (harg21 : arg21.IsWhole)
  (arg22 : Memref sig .tc .vmem S240x256 .f32) (harg22 : arg22.IsWhole)
  (arg23 : Memref sig .tc .vmem S256x3072 .fp8e4m3) (harg23 : arg23.IsWhole)
  (arg24 : Memref sig .tc .vmem S240x1 .f32) (harg24 : arg24.IsWhole)
  (arg25 : Memref sig .tc .vmem S240x1536 .f32) (harg25 : arg25.IsWhole)
  (arg26 : Memref sig .tc .vmem S256x1536 .fp8e4m3) (harg26 : arg26.IsWhole)
  (arg27 : Memref sig .tc .vmem S240x1 .f32) (harg27 : arg27.IsWhole)
  (arg28 : Memref sig .tc .vmem S240x6144 .f32) (harg28 : arg28.IsWhole)
  (arg29 : Memref sig .tc .vmem S256x6144 .fp8e4m3) (harg29 : arg29.IsWhole)
  (arg30 : Memref sig .tc .vmem S240x1 .f32) (harg30 : arg30.IsWhole)

set_option maxHeartbeats 1000000 in
/-- The first point: quantise `o`, then the first block of columns of its product. -/
theorem run_first (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x1 : Vec F S240x3072 .f32) (x2 : Vec F S240x1536 .bf16) (x3 : Vec F S3072x512 .fp8e4m3) (x4 : Vec F S1x512 .f32) (x25 : Vec F S240x1536 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ (∃ d, owns (c : Thread nD τ) arg13 fullShare d)
      ∗ (∃ d, owns (c : Thread nD τ) arg14 fullShare d)
      ∗ (∃ d, owns (c : Thread nD τ) arg23 fullShare d)
      ∗ (∃ d, owns (c : Thread nD τ) arg24 fullShare d)
      ∗ (∃ d, owns (c : Thread nD τ) arg19 fullShare d)
      ∗ owns (c : Thread nD τ) arg25 fullShare x25
      ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg13 fullShare (k0_pay15 x1)
        ∗ owns (c : Thread nD τ) arg14 fullShare (rowsO x1)
        ∗ owns (c : Thread nD τ) arg23 fullShare (padO x1)
        ∗ owns (c : Thread nD τ) arg24 fullShare (k0_pay18 x1)
        ∗ owns (c : Thread nD τ) arg19 fullShare (k0_pay3 (padO x1) x3 (k0_pay18 x1) x4)
        ∗ owns (c : Thread nD τ) arg25 fullShare ((rect1 i h2).overlay x25 (k0_pay4 (padO x1) x3 (k0_pay18 x1) x4 (View.ld x2 (rect1 i h2))))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_pos h1, dif_pos h2, dif_neg h3, dif_neg h4, dif_neg h5, dif_neg h6]
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%d13, %f13, -, H13⟩, ⟨%d14, %f14, -, H14⟩, ⟨%d23, %f23, -, H23⟩, ⟨%d24, %f24, -, H24⟩, ⟨%d19, %f19, -, H19⟩, ⟨%f25, %hf25, H25⟩, Hk⟩
  subst hf1 hf2 hf3 hf4 hf25
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H13]
  · iexists _; isplitr; swap; · iexact H13
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_write_whole (F := F) _ _ _ _
  isplitl [H14]
  · iexists _; isplitr; swap; · iexact H14
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_sixRows (F := F) _ _ _ _ _ _ _ _
  isplitl [H23]
  · iexists _; isplitr; swap; · iexact H23
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_writes_whole (F := F) _ _ _ _ _ (List.mem_cons_of_mem _ (List.mem_singleton_self _))
  isplitl [H24]
  · iexists _; isplitr; swap; · iexact H24
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_write_whole (F := F) _ _ _ _
  isplitl [H19]
  · iexists _; isplitr; swap; · iexact H19
    ipureintro; repeat delta run_first.sl.cst_38 run_first.sl.H23_2 run_first.sl.H24_1 run_first.sl.v35 run_first.sl.v20 run_first.sl.r_1 run_first.sl.r_2 run_first.sl.r run_first.sl.v24
    simp only [readAt_whole, readCov_whole, canon_whole, padO, rowsO, padA, rowsA, padH, rowsH]
    try simp only [View.readAt_eq_ld]
    exact read_write_whole (F := F) _ _ _ _
  iexists _; isplitr; swap; · iexact H25
  ipureintro; repeat delta run_first.sl.cst_38 run_first.sl.H23_2 run_first.sl.H24_1 run_first.sl.v35 run_first.sl.v20 run_first.sl.r_1 run_first.sl.r_2 run_first.sl.r run_first.sl.v24
  simp only [readAt_whole, readCov_whole, canon_whole, padO, rowsO, padA, rowsA, padH, rowsH]
  try simp only [View.readAt_eq_ld]
  exact read_write_rect (F := F) _ _ _ _

set_option maxHeartbeats 1000000 in
/-- A later block of columns of the product of `o`. -/
theorem run_op (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1)
    (x2 : Vec F S240x1536 .bf16) (x3 : Vec F S3072x512 .fp8e4m3) (x4 : Vec F S1x512 .f32) (x23 : Vec F S256x3072 .fp8e4m3) (x24 : Vec F S240x1 .f32) (x25 : Vec F S240x1536 .f32) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg23 fullShare x23
      ∗ owns (c : Thread nD τ) arg24 fullShare x24
      ∗ (∃ d, owns (c : Thread nD τ) arg19 fullShare d)
      ∗ owns (c : Thread nD τ) arg25 fullShare x25
      ∗ (iprop(owns (c : Thread nD τ) arg2 fullShare x2
        ∗ owns (c : Thread nD τ) arg3 fullShare x3
        ∗ owns (c : Thread nD τ) arg4 fullShare x4
        ∗ owns (c : Thread nD τ) arg23 fullShare x23
        ∗ owns (c : Thread nD τ) arg24 fullShare x24
        ∗ owns (c : Thread nD τ) arg19 fullShare (k0_pay3 x23 x3 x24 x4)
        ∗ owns (c : Thread nD τ) arg25 fullShare ((rect1 i h2).overlay x25 (k0_pay4 x23 x3 x24 x4 (View.ld x2 (rect1 i h2))))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_pos h2, dif_neg h3, dif_neg h4, dif_neg h5, dif_neg h6]
  unfold owns
  iintro ⟨⟨%f2, %hf2, H2⟩, ⟨%f3, %hf3, H3⟩, ⟨%f4, %hf4, H4⟩, ⟨%f23, %hf23, H23⟩, ⟨%f24, %hf24, H24⟩, ⟨%d19, %f19, -, H19⟩, ⟨%f25, %hf25, H25⟩, Hk⟩
  subst hf2 hf3 hf4 hf23 hf24 hf25
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H23]
  · iexists f23; isplitr; · ipureintro; rfl
    iexact H23
  isplitl [H24]
  · iexists f24; isplitr; · ipureintro; rfl
    iexact H24
  isplitl [H19]
  · iexists _; isplitr; swap; · iexact H19
    ipureintro; repeat delta run_op.sl.v35
    simp only [readAt_whole, readCov_whole, canon_whole, padO, rowsO, padA, rowsA, padH, rowsH]
    try simp only [View.readAt_eq_ld]
    exact read_write_whole (F := F) _ _ _ _
  iexists _; isplitr; swap; · iexact H25
  ipureintro; repeat delta run_op.sl.v35
  simp only [readAt_whole, readCov_whole, canon_whole, padO, rowsO, padA, rowsA, padH, rowsH]
  try simp only [View.readAt_eq_ld]
  exact read_write_rect (F := F) _ _ _ _

set_option maxHeartbeats 1000000 in
/-- The fourth point: normalise and quantise the residual, then the first block of columns of the gate and up products. -/
theorem run_norm (h1 : ¬ k0_cond1 i = 1#1) (h2 : ¬ k0_cond2 i = 1#1) (h3 : k0_cond3 i = 1#1) (h4 : k0_cond4 i = 1#1) (h5 : ¬ k0_cond5 i = 1#1) (h6 : ¬ k0_cond6 i = 1#1)
    (x5 : Vec F S1x1536 .f32) (x6 : Vec F S1536x512 .fp8e4m3) (x7 : Vec F S1x512 .f32) (x8 : Vec F S1536x512 .fp8e4m3) (x9 : Vec F S1x512 .f32) (x25 : Vec F S240x1536 .f32) (x28 : Vec F S240x6144 .f32) (K : PUnit → sProp 𝕄) :
    iprop(owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg25 fullShare x25
      ∗ (∃ d, owns (c : Thread nD τ) arg15 fullShare d)
      ∗ (∃ d, owns (c : Thread nD τ) arg16 fullShare d)
      ∗ (∃ d, owns (c : Thread nD τ) arg26 fullShare d)
      ∗ (∃ d, owns (c : Thread nD τ) arg27 fullShare d)
      ∗ (∃ d, owns (c : Thread nD τ) arg20 fullShare d)
      ∗ (∃ d, owns (c : Thread nD τ) arg21 fullShare d)
      ∗ owns (c : Thread nD τ) arg28 fullShare x28
      ∗ (iprop(owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg25 fullShare x25
        ∗ owns (c : Thread nD τ) arg15 fullShare (k0_pay28 x25 x5)
        ∗ owns (c : Thread nD τ) arg16 fullShare (rowsA x25 x5)
        ∗ owns (c : Thread nD τ) arg26 fullShare (padA x25 x5)
        ∗ owns (c : Thread nD τ) arg27 fullShare (k0_pay31 (k0_pay27 x25 x5))
        ∗ owns (c : Thread nD τ) arg20 fullShare (k0_pay37 (padA x25 x5) x6 (k0_pay31 (k0_pay27 x25 x5)) x7)
        ∗ owns (c : Thread nD τ) arg21 fullShare (k0_pay38 (padA x25 x5) x8 (k0_pay31 (k0_pay27 x25 x5)) x9)
        ∗ owns (c : Thread nD τ) arg28 fullShare ((rect2 i h4).overlay x28 (k0_pay8 (k0_pay39 (padA x25 x5) x6 (k0_pay31 (k0_pay27 x25 x5)) x7 (padA x25 x5) x8 (k0_pay31 (k0_pay27 x25 x5)) x9)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_pos h3, dif_pos h4, dif_neg h5, dif_neg h6]
  simp only [k0_part3_eq_skeleton, k0_part4_eq_skeleton, k0_part5_eq_skeleton]
  unfold owns
  iintro ⟨⟨%f5, %hf5, H5⟩, ⟨%f6, %hf6, H6⟩, ⟨%f7, %hf7, H7⟩, ⟨%f8, %hf8, H8⟩, ⟨%f9, %hf9, H9⟩, ⟨%f25, %hf25, H25⟩, ⟨%d15, %f15, -, H15⟩, ⟨%d16, %f16, -, H16⟩, ⟨%d26, %f26, -, H26⟩, ⟨%d27, %f27, -, H27⟩, ⟨%d20, %f20, -, H20⟩, ⟨%d21, %f21, -, H21⟩, ⟨%f28, %hf28, H28⟩, Hk⟩
  subst hf5 hf6 hf7 hf8 hf9 hf25 hf28
  sl_exec
  sl_step
  iapply Hk
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H25]
  · iexists f25; isplitr; · ipureintro; rfl
    iexact H25
  isplitl [H15]
  · iexists _; isplitr; swap; · iexact H15
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  isplitl [H16]
  · iexists _; isplitr; swap; · iexact H16
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_sixRows (F := F) _ _ _ _ _ _ _ _
  isplitl [H26]
  · iexists _; isplitr; swap; · iexact H26
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_writes_whole (F := F) _ _ _ _ _ (List.mem_cons_of_mem _ (List.mem_singleton_self _))
  isplitl [H27]
  · iexists _; isplitr; swap; · iexact H27
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  isplitl [H20]
  · iexists _; isplitr; swap; · iexact H20
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  isplitl [H21]
  · iexists _; isplitr; swap; · iexact H21
    ipureintro; repeat delta run_norm.sl.v20 run_norm.sl.H26_2 run_norm.sl.r_3 run_norm.sl.v24 run_norm.sl.r run_norm.sl.H27_1 run_norm.sl.r_1 run_norm.sl.r_2
    simp only [readAt_whole, readCov_whole, canon_whole, padO, rowsO, padA, rowsA, padH, rowsH]
    try simp only [View.readAt_eq_ld]
    exact read_write_whole (F := F) _ _ _ _
  iexists _; isplitr; swap; · iexact H28
  ipureintro; repeat delta run_norm.sl.v20 run_norm.sl.H26_2 run_norm.sl.r_3 run_norm.sl.v24 run_norm.sl.r run_norm.sl.H27_1 run_norm.sl.r_1 run_norm.sl.r_2
  simp only [readAt_whole, readCov_whole, canon_whole, padO, rowsO, padA, rowsA, padH, rowsH]
  try simp only [View.readAt_eq_ld]
  exact read_write_rect (F := F) _ _ _ _

set_option maxHeartbeats 1000000 in
/-- A later block of columns of the gate and up products. -/
theorem run_gu (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1)
    (x6 : Vec F S1536x512 .fp8e4m3) (x7 : Vec F S1x512 .f32) (x8 : Vec F S1536x512 .fp8e4m3) (x9 : Vec F S1x512 .f32) (x26 : Vec F S256x1536 .fp8e4m3) (x27 : Vec F S240x1 .f32) (x28 : Vec F S240x6144 .f32) (K : PUnit → sProp 𝕄) :
    iprop(owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg26 fullShare x26
      ∗ owns (c : Thread nD τ) arg27 fullShare x27
      ∗ (∃ d, owns (c : Thread nD τ) arg20 fullShare d)
      ∗ (∃ d, owns (c : Thread nD τ) arg21 fullShare d)
      ∗ owns (c : Thread nD τ) arg28 fullShare x28
      ∗ (iprop(owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg26 fullShare x26
        ∗ owns (c : Thread nD τ) arg27 fullShare x27
        ∗ owns (c : Thread nD τ) arg20 fullShare (k0_pay37 x26 x6 x27 x7)
        ∗ owns (c : Thread nD τ) arg21 fullShare (k0_pay38 x26 x8 x27 x9)
        ∗ owns (c : Thread nD τ) arg28 fullShare ((rect2 i h4).overlay x28 (k0_pay8 (k0_pay39 x26 x6 x27 x7 x26 x8 x27 x9)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_neg h3, dif_pos h4, dif_neg h5, dif_neg h6]
  simp only [k0_part5_eq_skeleton]
  unfold owns
  iintro ⟨⟨%f6, %hf6, H6⟩, ⟨%f7, %hf7, H7⟩, ⟨%f8, %hf8, H8⟩, ⟨%f9, %hf9, H9⟩, ⟨%f26, %hf26, H26⟩, ⟨%f27, %hf27, H27⟩, ⟨%d20, %f20, -, H20⟩, ⟨%d21, %f21, -, H21⟩, ⟨%f28, %hf28, H28⟩, Hk⟩
  subst hf6 hf7 hf8 hf9 hf26 hf27 hf28
  sl_exec
  sl_step
  iapply Hk
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H26]
  · iexists f26; isplitr; · ipureintro; rfl
    iexact H26
  isplitl [H27]
  · iexists f27; isplitr; · ipureintro; rfl
    iexact H27
  isplitl [H20]
  · iexists _; isplitr; swap; · iexact H20
    ipureintro; repeat delta run_gu.sl.r
    simp only [readAt_whole, readCov_whole, canon_whole, padO, rowsO, padA, rowsA, padH, rowsH]
    try simp only [View.readAt_eq_ld]
    exact read_write_whole (F := F) _ _ _ _
  isplitl [H21]
  · iexists _; isplitr; swap; · iexact H21
    ipureintro; repeat delta run_gu.sl.r
    simp only [readAt_whole, readCov_whole, canon_whole, padO, rowsO, padA, rowsA, padH, rowsH]
    try simp only [View.readAt_eq_ld]
    exact read_write_whole (F := F) _ _ _ _
  iexists _; isplitr; swap; · iexact H28
  ipureintro; repeat delta run_gu.sl.r
  simp only [readAt_whole, readCov_whole, canon_whole, padO, rowsO, padA, rowsA, padH, rowsH]
  try simp only [View.readAt_eq_ld]
  exact read_write_rect (F := F) _ _ _ _

set_option maxHeartbeats 1000000 in
/-- The sixteenth point: quantise the hidden layer, then the first block of columns of its product. -/
theorem run_hid (h1 : ¬ k0_cond1 i = 1#1) (h2 : ¬ k0_cond2 i = 1#1) (h3 : ¬ k0_cond3 i = 1#1) (h4 : ¬ k0_cond4 i = 1#1) (h5 : k0_cond5 i = 1#1) (h6 : k0_cond6 i = 1#1)
    (x10 : Vec F S6144x256 .fp8e4m3) (x11 : Vec F S1x256 .f32) (x25 : Vec F S240x1536 .f32) (x28 : Vec F S240x6144 .f32) (K : PUnit → sProp 𝕄) :
    iprop(owns (c : Thread nD τ) arg10 fullShare x10
      ∗ owns (c : Thread nD τ) arg11 fullShare x11
      ∗ owns (c : Thread nD τ) arg25 fullShare x25
      ∗ owns (c : Thread nD τ) arg28 fullShare x28
      ∗ (∃ d, owns (c : Thread nD τ) arg17 fullShare d)
      ∗ (∃ d, owns (c : Thread nD τ) arg18 fullShare d)
      ∗ (∃ d, owns (c : Thread nD τ) arg29 fullShare d)
      ∗ (∃ d, owns (c : Thread nD τ) arg30 fullShare d)
      ∗ (∃ d, owns (c : Thread nD τ) arg22 fullShare d)
      ∗ (∃ d, owns (c : Thread nD τ) arg12 fullShare d)
      ∗ (iprop(owns (c : Thread nD τ) arg10 fullShare x10
        ∗ owns (c : Thread nD τ) arg11 fullShare x11
        ∗ owns (c : Thread nD τ) arg25 fullShare x25
        ∗ owns (c : Thread nD τ) arg28 fullShare x28
        ∗ owns (c : Thread nD τ) arg17 fullShare (k0_pay41 x28)
        ∗ owns (c : Thread nD τ) arg18 fullShare (rowsH x28)
        ∗ owns (c : Thread nD τ) arg29 fullShare (padH x28)
        ∗ owns (c : Thread nD τ) arg30 fullShare (k0_pay44 x28)
        ∗ owns (c : Thread nD τ) arg22 fullShare (k0_pay11 (padH x28) x10 (k0_pay44 x28) x11)
        ∗ owns (c : Thread nD τ) arg12 fullShare (k0_pay12 (padH x28) x10 (k0_pay44 x28) x11 (View.ld x25 (rect3 i h6)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_neg h3, dif_neg h4, dif_pos h5, dif_pos h6]
  simp only [k0_part6_eq_skeleton, k0_part7_eq_skeleton]
  unfold owns
  iintro ⟨⟨%f10, %hf10, H10⟩, ⟨%f11, %hf11, H11⟩, ⟨%f25, %hf25, H25⟩, ⟨%f28, %hf28, H28⟩, ⟨%d17, %f17, -, H17⟩, ⟨%d18, %f18, -, H18⟩, ⟨%d29, %f29, -, H29⟩, ⟨%d30, %f30, -, H30⟩, ⟨%d22, %f22, -, H22⟩, ⟨%d12, %f12, -, H12⟩, Hk⟩
  subst hf10 hf11 hf25 hf28
  sl_exec
  sl_step
  iapply Hk
  isplitl [H10]
  · iexists f10; isplitr; · ipureintro; rfl
    iexact H10
  isplitl [H11]
  · iexists f11; isplitr; · ipureintro; rfl
    iexact H11
  isplitl [H25]
  · iexists f25; isplitr; · ipureintro; rfl
    iexact H25
  isplitl [H28]
  · iexists f28; isplitr; · ipureintro; rfl
    iexact H28
  isplitl [H17]
  · iexists _; isplitr; swap; · iexact H17
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_write_whole (F := F) _ _ _ _
  isplitl [H18]
  · iexists _; isplitr; swap; · iexact H18
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_sixRows (F := F) _ _ _ _ _ _ _ _
  isplitl [H29]
  · iexists _; isplitr; swap; · iexact H29
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_writes_whole (F := F) _ _ _ _ _ (List.mem_cons_of_mem _ (List.mem_singleton_self _))
  isplitl [H30]
  · iexists _; isplitr; swap; · iexact H30
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_write_whole (F := F) _ _ _ _
  isplitl [H22]
  · iexists _; isplitr; swap; · iexact H22
    ipureintro; repeat delta run_hid.sl.r_1 run_hid.sl.r run_hid.sl.v20 run_hid.sl.H30_1 run_hid.sl.v24 run_hid.sl.H29_2 run_hid.sl.v36 run_hid.sl.r_2 run_hid.sl.cst_38
    simp only [readAt_whole, readCov_whole, canon_whole, padO, rowsO, padA, rowsA, padH, rowsH]
    try simp only [View.readAt_eq_ld]
    exact read_write_whole (F := F) _ _ _ _
  iexists _; isplitr; swap; · iexact H12
  ipureintro; repeat delta run_hid.sl.r_1 run_hid.sl.r run_hid.sl.v20 run_hid.sl.H30_1 run_hid.sl.v24 run_hid.sl.H29_2 run_hid.sl.v36 run_hid.sl.r_2 run_hid.sl.cst_38
  simp only [readAt_whole, readCov_whole, canon_whole, padO, rowsO, padA, rowsA, padH, rowsH]
  try simp only [View.readAt_eq_ld]
  exact read_write_whole (F := F) _ _ _ _

set_option maxHeartbeats 1000000 in
/-- A later block of columns of the product of the hidden layer. -/
theorem run_down (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1)
    (x10 : Vec F S6144x256 .fp8e4m3) (x11 : Vec F S1x256 .f32) (x25 : Vec F S240x1536 .f32) (x29 : Vec F S256x6144 .fp8e4m3) (x30 : Vec F S240x1 .f32) (K : PUnit → sProp 𝕄) :
    iprop(owns (c : Thread nD τ) arg10 fullShare x10
      ∗ owns (c : Thread nD τ) arg11 fullShare x11
      ∗ owns (c : Thread nD τ) arg25 fullShare x25
      ∗ owns (c : Thread nD τ) arg29 fullShare x29
      ∗ owns (c : Thread nD τ) arg30 fullShare x30
      ∗ (∃ d, owns (c : Thread nD τ) arg22 fullShare d)
      ∗ (∃ d, owns (c : Thread nD τ) arg12 fullShare d)
      ∗ (iprop(owns (c : Thread nD τ) arg10 fullShare x10
        ∗ owns (c : Thread nD τ) arg11 fullShare x11
        ∗ owns (c : Thread nD τ) arg25 fullShare x25
        ∗ owns (c : Thread nD τ) arg29 fullShare x29
        ∗ owns (c : Thread nD τ) arg30 fullShare x30
        ∗ owns (c : Thread nD τ) arg22 fullShare (k0_pay11 x29 x10 x30 x11)
        ∗ owns (c : Thread nD τ) arg12 fullShare (k0_pay12 x29 x10 x30 x11 (View.ld x25 (rect3 i h6)))) -∗ K ⟨⟩))
      ⊢ wp frame (wpE (defs₀ (F := F)) Variants.none c none) E
        (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_mlp_eq_skeleton]; unfold cc0_mlp_skel
  simp only [dif_neg h1, dif_neg h2, dif_neg h3, dif_neg h4, dif_neg h5, dif_pos h6]
  unfold owns
  iintro ⟨⟨%f10, %hf10, H10⟩, ⟨%f11, %hf11, H11⟩, ⟨%f25, %hf25, H25⟩, ⟨%f29, %hf29, H29⟩, ⟨%f30, %hf30, H30⟩, ⟨%d22, %f22, -, H22⟩, ⟨%d12, %f12, -, H12⟩, Hk⟩
  subst hf10 hf11 hf25 hf29 hf30
  sl_exec
  sl_step
  iapply Hk
  isplitl [H10]
  · iexists f10; isplitr; · ipureintro; rfl
    iexact H10
  isplitl [H11]
  · iexists f11; isplitr; · ipureintro; rfl
    iexact H11
  isplitl [H25]
  · iexists f25; isplitr; · ipureintro; rfl
    iexact H25
  isplitl [H29]
  · iexists f29; isplitr; · ipureintro; rfl
    iexact H29
  isplitl [H30]
  · iexists f30; isplitr; · ipureintro; rfl
    iexact H30
  isplitl [H22]
  · iexists _; isplitr; swap; · iexact H22
    ipureintro; repeat delta run_down.sl.v36
    simp only [readAt_whole, readCov_whole, canon_whole, padO, rowsO, padA, rowsA, padH, rowsH]
    try simp only [View.readAt_eq_ld]
    exact read_write_whole (F := F) _ _ _ _
  iexists _; isplitr; swap; · iexact H12
  ipureintro; repeat delta run_down.sl.v36
  simp only [readAt_whole, readCov_whole, canon_whole, padO, rowsO, padA, rowsA, padH, rowsH]
  try simp only [View.readAt_eq_ld]
  exact read_write_whole (F := F) _ _ _ _

end Cert.MlpIdeal.Hand
-- ==== Proof.MlpIdealBody.lean ====
module

public import proofs.«01_k».proof.Proof.Gen.MlpIdeal.Launch
public import proofs.«01_k».proof.Proof.Gen.MlpIdeal.Skeleton
public import proofs.«01_k».proof.Proof.Gen.MlpIdeal.Points
public import proofs.«01_k».proof.Proof.Gen.MlpIdeal.Frame
public import proofs.«01_k».proof.Proof.MlpIdealDat
public import proofs.«01_k».proof.Proof.MlpIdealRun
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## The kernel's own buffers, from one point to the next -/

theorem lt21 (t : Fin cfg0.N) : t.val < 21 := lt_of_lt_of_eq t.isLt N_0

theorem unit_congr {S : Shape} {off off' size : Fin S.rank → ℕ} (h : off = off') (inb : ∀ a, off a + size a ≤ S.size a)
    (inb' : ∀ a, off' a + size a ≤ S.size a) {e : EltTy} (X : Vec F S e) :
    (View.ld X (Rect.unit off size inb) : (⟨S.rank, size⟩ : Shape).Idx → Elt F e) = View.ld X (Rect.unit off' size inb') := by
  subst h; rfl

theorem ld_rect1 (t : Fin cfg0.N) (ht : t.val < 3) (h2) {e : EltTy} (X : Vec F S240x1536 e) :
    (View.ld X (rect1 (grid0.coords t) h2) : S240x512.Idx → Elt F e) = View.ld X (colsX t.val) :=
  unit_congr (S := S240x1536) (size := S240x512.size) ((off1 t ht).trans (by rw [Nat.min_eq_left (by omega)])) _ _ X

theorem ld_rect3 (t : Fin cfg0.N) (ht : 15 ≤ t.val) (h6) {e : EltTy} (X : Vec F S240x1536 e) :
    (View.ld X (rect3 (grid0.coords t) h6) : S240x256.Idx → Elt F e) = View.ld X (colsR (t.val - 15)) :=
  unit_congr (S := S240x1536) (size := S240x256.size) ((off3 t ht).trans (by rw [Nat.min_eq_left (by have := lt21 t; omega)])) _ _ X

section Step

variable {m c} {n : ℕ} {s0 : Vec F S256x3072 .fp8e4m3} {s1 : Vec F S240x1 .f32} {s2 : Vec F S240x1536 .f32} {s3 : Vec F S256x1536 .fp8e4m3}
    {s4 : Vec F S240x1 .f32} {s5 : Vec F S240x6144 .f32} {s6 : Vec F S256x6144 .fp8e4m3} {s7 : Vec F S240x1 .f32}

/-- From the fourth point on the residual is whole. -/
theorem Inv.residual (h : Inv m c n s0 s1 s2 s3 s4 s5 s6 s7) (hn : 3 ≤ n) : s2 = vR m c := by
  funext j; refine h.2.1 j ?_
  have : (j 1).val < 1536 := (j 1).isLt
  omega

/-- From the sixteenth point on the hidden layer is whole. -/
theorem Inv.hidden (h : Inv m c n s0 s1 s2 s3 s4 s5 s6 s7) (hn : 15 ≤ n) : s5 = vH m c := by
  funext j; refine h.2.2.2.1 j ?_
  have : (j 1).val < 6144 := (j 1).isLt
  omega

/-- A point of the first product stores its block of the residual. -/
theorem Inv.op {t : Fin cfg0.N} (h : Inv m c t.val s0 s1 s2 s3 s4 s5 s6 s7) (ht : t.val < 3) (h2) :
    Inv m c (t.val + 1) (padO (vO m c)) (k0_pay18 (vO m c)) ((rect1 (grid0.coords t) h2).overlay s2
      (k0_pay4 (padO (vO m c)) (iblk m c 2 t) (k0_pay18 (vO m c)) (iblk m c 3 t) (View.ld (iblk m c 1 t) (rect1 (grid0.coords t) h2)))) s3 s4 s5 s6 s7 := by
  refine ⟨fun _ => ⟨rfl, rfl⟩, fun j hj => overlay_ofBlocks (vRb m c) s2 t.val _ (off1 t ht) _ _ ?_ h.2.1 j hj, fun _ => by omega, fun j hj => by omega, fun _ => by omega⟩
  unfold vRb
  rw [pt_val]
  exact congrArg (k0_pay4 (padO (vO m c)) (iblk m c 2 t) (k0_pay18 (vO m c)) (iblk m c 3 t)) (ld_rect1 t ht h2 _)

/-- A point of the gate and up products stores its block of the hidden layer. -/
theorem Inv.gu {t : Fin cfg0.N} (h : Inv m c t.val s0 s1 s2 s3 s4 s5 s6 s7) (ht : 3 ≤ t.val) (ht' : t.val < 15) (h4) :
    Inv m c (t.val + 1) s0 s1 s2 (vA m c) (vAs m c) ((rect2 (grid0.coords t) h4).overlay s5
      (k0_pay8 (k0_pay39 (vA m c) (iblk m c 5 t) (vAs m c) (iblk m c 6 t) (vA m c) (iblk m c 7 t) (vAs m c) (iblk m c 8 t)))) s6 s7 := by
  refine ⟨fun _ => h.1 (by omega), fun j hj => by rw [h.residual ht], fun _ => ⟨rfl, rfl⟩,
    fun j hj => overlay_ofBlocks (vHb m c) s5 (t.val - 3) _ (off2 t ht ht') _ _ ?_ h.2.2.2.1 j (by omega), fun _ => by omega⟩
  unfold vHb
  rw [show t.val - 3 + 3 = t.val by omega, pt_val]

/-- A point of the last product leaves the buffers it has read. -/
theorem Inv.down {t : Fin cfg0.N} (h : Inv m c t.val s0 s1 s2 s3 s4 s5 s6 s7) (ht : 15 ≤ t.val) :
    Inv m c (t.val + 1) s0 s1 s2 s3 s4 s5 (vHc m c) (vHs m c) :=
  ⟨fun _ => h.1 (by omega), fun j _ => by rw [h.residual (by omega)], fun _ => h.2.2.1 (by omega),
    fun j _ => by rw [h.hidden ht], fun _ => ⟨rfl, rfl⟩⟩

end Step

/-! ## The outputs a point leaves alone -/

theorem keep_12 {t : Fin cfg0.N} (ht : 1 ≤ t.val) {Y} (hY : (rdat m c).Finds 12 t Y) : (rdat m c).after 12 t Y Y := by
  have h21 := lt21 t
  have hp : (pt (t.val - 1)).val = t.val - 1 := by show min (t.val - 1) 20 = _; omega
  exact hold m c rfl (by decide) (by omega) (Bool.eq_false_iff.mpr fun h => by have := (flush0_12 _).mp h; omega) (by rw [after_12, after_12]) hY
theorem keep_13 {t : Fin cfg0.N} (ht : 1 ≤ t.val) {Y} (hY : (rdat m c).Finds 13 t Y) : (rdat m c).after 13 t Y Y := by
  have h21 := lt21 t
  have hp : (pt (t.val - 1)).val = t.val - 1 := by show min (t.val - 1) 20 = _; omega
  exact hold m c rfl (by decide) (by omega) (Bool.eq_false_iff.mpr fun h => by have := (flush0_13 _).mp h; omega) (by rw [after_13, after_13]) hY
theorem keep_14 {t : Fin cfg0.N} (ht : t.val ≠ 3) {Y} (hY : (rdat m c).Finds 14 t Y) : (rdat m c).after 14 t Y Y := by
  have h21 := lt21 t
  have hp : (pt (t.val - 1)).val = t.val - 1 := by show min (t.val - 1) 20 = _; omega
  rcases Nat.lt_or_ge t.val 3 with h | h
  · exact early m c rfl h _ _
  · exact hold m c rfl (by decide) (by omega) (Bool.eq_false_iff.mpr fun h => by have := (flush0_14 _).mp h; omega) (by rw [after_14, after_14]) hY
theorem keep_15 {t : Fin cfg0.N} (ht : t.val ≠ 3) {Y} (hY : (rdat m c).Finds 15 t Y) : (rdat m c).after 15 t Y Y := by
  have h21 := lt21 t
  have hp : (pt (t.val - 1)).val = t.val - 1 := by show min (t.val - 1) 20 = _; omega
  rcases Nat.lt_or_ge t.val 3 with h | h
  · exact early m c rfl h _ _
  · exact hold m c rfl (by decide) (by omega) (Bool.eq_false_iff.mpr fun h => by have := (flush0_15 _).mp h; omega) (by rw [after_15, after_15]) hY
theorem keep_16 {t : Fin cfg0.N} (ht : t.val ≠ 15) {Y} (hY : (rdat m c).Finds 16 t Y) : (rdat m c).after 16 t Y Y := by
  have h21 := lt21 t
  have hp : (pt (t.val - 1)).val = t.val - 1 := by show min (t.val - 1) 20 = _; omega
  rcases Nat.lt_or_ge t.val 15 with h | h
  · exact early m c rfl h _ _
  · exact hold m c rfl (by decide) (by omega) (Bool.eq_false_iff.mpr fun h => by have := (flush0_16 _).mp h; omega) (by rw [after_16, after_16]) hY
theorem keep_17 {t : Fin cfg0.N} (ht : t.val ≠ 15) {Y} (hY : (rdat m c).Finds 17 t Y) : (rdat m c).after 17 t Y Y := by
  have h21 := lt21 t
  have hp : (pt (t.val - 1)).val = t.val - 1 := by show min (t.val - 1) 20 = _; omega
  rcases Nat.lt_or_ge t.val 15 with h | h
  · exact early m c rfl h _ _
  · exact hold m c rfl (by decide) (by omega) (Bool.eq_false_iff.mpr fun h => by have := (flush0_17 _).mp h; omega) (by rw [after_17, after_17]) hY
theorem keep_18 {t : Fin cfg0.N} (ht : 3 ≤ t.val) {Y} (hY : (rdat m c).Finds 18 t Y) : (rdat m c).after 18 t Y Y := by
  have h21 := lt21 t
  have hp : (pt (t.val - 1)).val = t.val - 1 := by show min (t.val - 1) 20 = _; omega
  exact hold m c rfl (by decide) (by omega) (show (cfg0.win 18).flush (pt (t.val - 1)) = false from flush18 (pt (t.val - 1)) (by omega) (by omega)) (by rw [after_18, after_18, hp, show min (t.val - 1) 2 = min t.val 2 by omega]) hY
theorem keep_19 {t : Fin cfg0.N} (ht : t.val < 3 ∨ 15 ≤ t.val) {Y} (hY : (rdat m c).Finds 19 t Y) : (rdat m c).after 19 t Y Y := by
  have h21 := lt21 t
  have hp : (pt (t.val - 1)).val = t.val - 1 := by show min (t.val - 1) 20 = _; omega
  rcases ht with h | h
  · exact early m c rfl h _ _
  · exact hold m c rfl (by decide) (by omega) (show (cfg0.win 19).flush (pt (t.val - 1)) = false from flush19 (pt (t.val - 1)) (by omega) (by omega)) (by rw [after_19, after_19, hp, show min (t.val - 1) 14 = min t.val 14 by omega]) hY
theorem keep_20 {t : Fin cfg0.N} (ht : t.val < 3 ∨ 15 ≤ t.val) {Y} (hY : (rdat m c).Finds 20 t Y) : (rdat m c).after 20 t Y Y := by
  have h21 := lt21 t
  have hp : (pt (t.val - 1)).val = t.val - 1 := by show min (t.val - 1) 20 = _; omega
  rcases ht with h | h
  · exact early m c rfl h _ _
  · exact hold m c rfl (by decide) (by omega) (show (cfg0.win 20).flush (pt (t.val - 1)) = false from flush20 (pt (t.val - 1)) (by omega) (by omega)) (by rw [after_20, after_20, hp, show min (t.val - 1) 14 = min t.val 14 by omega]) hY

/-! ## The body at each point -/

/-- What the body is called with at point `t`, the buffers at `Y`, -/
def bodyPre (t : Fin cfg0.N) (Y : (w : Fin cfg0.W) → (cfg0.win w).block.Idx → Elt F (cfg0.win w).elt) : sProp 𝕄 :=
  iprop(Keep m c t.val ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10)
    ∗ owns (c : Thread nD τ) (st0_11 t) fullShare (Y 11)
    ∗ owns (c : Thread nD τ) (st0_12 t) fullShare (Y 12)
    ∗ owns (c : Thread nD τ) (st0_13 t) fullShare (Y 13)
    ∗ owns (c : Thread nD τ) (st0_14 t) fullShare (Y 14)
    ∗ owns (c : Thread nD τ) (st0_15 t) fullShare (Y 15)
    ∗ owns (c : Thread nD τ) (st0_16 t) fullShare (Y 16)
    ∗ owns (c : Thread nD τ) (st0_17 t) fullShare (Y 17)
    ∗ owns (c : Thread nD τ) (st0_18 t) fullShare (Y 18)
    ∗ owns (c : Thread nD τ) (st0_19 t) fullShare (Y 19)
    ∗ owns (c : Thread nD τ) (st0_20 t) fullShare (Y 20)
    ∗ owns (c : Thread nD τ) (st0_21 t) fullShare (Y 21))

/-- and what it returns. -/
def bodyPost (t : Fin cfg0.N) (Y : (w : Fin cfg0.W) → (cfg0.win w).block.Idx → Elt F (cfg0.win w).elt) : sProp 𝕄 :=
  iprop(Keep m c (t.val + 1) ∗ (rdat m c).owesAt () t.castSucc
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X)
    ∗ (∃ X, ⌜(rdat m c).after 9 t (Y 9) X⌝ ∗ owns (c : Thread nD τ) (st0_9 t) fullShare X)
    ∗ (∃ X, ⌜(rdat m c).after 10 t (Y 10) X⌝ ∗ owns (c : Thread nD τ) (st0_10 t) fullShare X)
    ∗ (∃ X, ⌜(rdat m c).after 11 t (Y 11) X⌝ ∗ owns (c : Thread nD τ) (st0_11 t) fullShare X)
    ∗ (∃ X, ⌜(rdat m c).after 12 t (Y 12) X⌝ ∗ owns (c : Thread nD τ) (st0_12 t) fullShare X)
    ∗ (∃ X, ⌜(rdat m c).after 13 t (Y 13) X⌝ ∗ owns (c : Thread nD τ) (st0_13 t) fullShare X)
    ∗ (∃ X, ⌜(rdat m c).after 14 t (Y 14) X⌝ ∗ owns (c : Thread nD τ) (st0_14 t) fullShare X)
    ∗ (∃ X, ⌜(rdat m c).after 15 t (Y 15) X⌝ ∗ owns (c : Thread nD τ) (st0_15 t) fullShare X)
    ∗ (∃ X, ⌜(rdat m c).after 16 t (Y 16) X⌝ ∗ owns (c : Thread nD τ) (st0_16 t) fullShare X)
    ∗ (∃ X, ⌜(rdat m c).after 17 t (Y 17) X⌝ ∗ owns (c : Thread nD τ) (st0_17 t) fullShare X)
    ∗ (∃ X, ⌜(rdat m c).after 18 t (Y 18) X⌝ ∗ owns (c : Thread nD τ) (st0_18 t) fullShare X)
    ∗ (∃ X, ⌜(rdat m c).after 19 t (Y 19) X⌝ ∗ owns (c : Thread nD τ) (st0_19 t) fullShare X)
    ∗ (∃ X, ⌜(rdat m c).after 20 t (Y 20) X⌝ ∗ owns (c : Thread nD τ) (st0_20 t) fullShare X)
    ∗ (∃ X, ⌜(rdat m c).after 21 t (Y 21) X⌝ ∗ owns (c : Thread nD τ) (st0_21 t) fullShare X))

variable {m c} {t : Fin cfg0.N} {Y : (w : Fin cfg0.W) → (cfg0.win w).block.Idx → Elt F (cfg0.win w).elt}

set_option maxHeartbeats 1000000 in
/-- The first point. -/
theorem body_first (ht : t.val = 0) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : k0_cond1 (grid0.coords t) = 1#1 := (cond1 t).mpr (by omega)
  have h2 : k0_cond2 (grid0.coords t) = 1#1 := (cond2 t).mpr (by omega)
  have h3 : ¬ k0_cond3 (grid0.coords t) = 1#1 := fun h => by have := (cond3 t).mp h; omega
  have h4 : ¬ k0_cond4 (grid0.coords t) = 1#1 := fun h => by have := (cond4 t).mp h; omega
  have h5 : ¬ k0_cond5 (grid0.coords t) = 1#1 := fun h => by have := (cond5 t).mp h; omega
  have h6 : ¬ k0_cond6 (grid0.coords t) = 1#1 := fun h => by have := (cond6 t).mp h; omega
  have e0' : vO m c = iblk m c 0 t := by unfold vO; rw [show pt 0 = t from Fin.ext (by show 0 = _; omega)]
  have e0 := (found_0 m c (hY 0)).trans e0'.symm
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  iapply (run_first c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (vO m c) (iblk m c 1 t) (iblk m c 2 t) (iblk m c 3 t) s2 _)
  isplitl [H0]; · iexact H0
  isplitl [H1]; · iexact H1
  isplitl [H2]; · iexact H2
  isplitl [H3]; · iexact H3
  isplitl [H12]; · iexists _; iexact H12
  isplitl [H13]; · iexists _; iexact H13
  isplitl [S0]; · iexists _; iexact S0
  isplitl [S1]; · iexists _; iexact S1
  isplitl [H18]; · iexists _; iexact H18
  isplitl [S2]; · iexact S2
  iintro ⟨H0, H1, H2, H3, H12, H13, S0, S1, H18, S2⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI.op (by omega) h2
  isplitl [Ho]; · iexact Ho
  isplitl [H0]
  · iexists _; isplitr; swap; · iexact H0
    ipureintro; exact leave_0 m c t _ e0'
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact store m c rfl _ (by rw [after_12])
  isplitl [H13]
  · iexists _; isplitr; swap; · iexact H13
    ipureintro; exact store m c rfl _ (by rw [after_13])
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact store m c rfl _ (by rw [after_18, show min t.val 2 = t.val by omega, pt_val]; rfl)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact early m c rfl (by omega) _ _

set_option maxHeartbeats 1000000 in
/-- Another point of the first product. -/
theorem body_op (ht : 1 ≤ t.val) (ht' : t.val < 3) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : k0_cond2 (grid0.coords t) = 1#1 := (cond2 t).mpr (by omega)
  have h3 : ¬ k0_cond3 (grid0.coords t) = 1#1 := fun h => by have := (cond3 t).mp h; omega
  have h4 : ¬ k0_cond4 (grid0.coords t) = 1#1 := fun h => by have := (cond4 t).mp h; omega
  have h5 : ¬ k0_cond5 (grid0.coords t) = 1#1 := fun h => by have := (cond5 t).mp h; omega
  have h6 : ¬ k0_cond6 (grid0.coords t) = 1#1 := fun h => by have := (cond6 t).mp h; omega
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  obtain ⟨rfl, rfl⟩ := hI.1 (by omega)
  iapply (run_op c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 1 t) (iblk m c 2 t) (iblk m c 3 t) _ _ s2 _)
  isplitl [H1]; · iexact H1
  isplitl [H2]; · iexact H2
  isplitl [H3]; · iexact H3
  isplitl [S0]; · iexact S0
  isplitl [S1]; · iexact S1
  isplitl [H18]; · iexists _; iexact H18
  isplitl [S2]; · iexact S2
  iintro ⟨H1, H2, H3, S0, S1, H18, S2⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI.op (by omega) h2
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact store m c rfl _ (by rw [after_18, show min t.val 2 = t.val by omega, pt_val]; rfl)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact early m c rfl (by omega) _ _

set_option maxHeartbeats 1000000 in
/-- The fourth point. -/
theorem body_norm (ht : t.val = 3) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : k0_cond3 (grid0.coords t) = 1#1 := (cond3 t).mpr (by omega)
  have h4 : k0_cond4 (grid0.coords t) = 1#1 := (cond4 t).mpr ⟨by omega, by omega⟩
  have h5 : ¬ k0_cond5 (grid0.coords t) = 1#1 := fun h => by have := (cond5 t).mp h; omega
  have h6 : ¬ k0_cond6 (grid0.coords t) = 1#1 := fun h => by have := (cond6 t).mp h; omega
  have e4' : vW m c = iblk m c 4 t := by unfold vW; rw [show pt 3 = t from Fin.ext (by show min 3 20 = _; omega)]
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  have hI' := hI.gu (by omega) (by omega) h4
  obtain rfl := hI.residual (by omega)
  rw [← e4']
  iapply (run_norm c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (vW m c) (iblk m c 5 t) (iblk m c 6 t) (iblk m c 7 t) (iblk m c 8 t) _ s5 _)
  isplitl [H4]; · iexact H4
  isplitl [H5]; · iexact H5
  isplitl [H6]; · iexact H6
  isplitl [H7]; · iexact H7
  isplitl [H8]; · iexact H8
  isplitl [S2]; · iexact S2
  isplitl [H14]; · iexists _; iexact H14
  isplitl [H15]; · iexists _; iexact H15
  isplitl [S3]; · iexists _; iexact S3
  isplitl [S4]; · iexists _; iexact S4
  isplitl [H19]; · iexists _; iexact H19
  isplitl [H20]; · iexists _; iexact H20
  isplitl [S5]; · iexact S5
  iintro ⟨H4, H5, H6, H7, H8, S2, H14, H15, S3, S4, H19, H20, S5⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI'
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ e4'
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact store m c rfl _ (by rw [after_14])
  isplitl [H15]
  · iexists _; isplitr; swap; · iexact H15
    ipureintro; exact store m c rfl _ (by rw [after_15])
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact keep_18 m c (by omega) (hY 18)
  isplitl [H19]
  · iexists _; isplitr; swap; · iexact H19
    ipureintro; exact store m c rfl _ (by rw [after_19, show min t.val 14 = t.val by omega, pt_val]; rfl)
  isplitl [H20]
  · iexists _; isplitr; swap; · iexact H20
    ipureintro; exact store m c rfl _ (by rw [after_20, show min t.val 14 = t.val by omega, pt_val]; rfl)
  iexists _; isplitr; swap; · iexact H21
  ipureintro; exact early m c rfl (by omega) _ _

set_option maxHeartbeats 1000000 in
/-- Another point of the gate and up products. -/
theorem body_gu (ht : 4 ≤ t.val) (ht' : t.val < 15) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : ¬ k0_cond3 (grid0.coords t) = 1#1 := fun h => by have := (cond3 t).mp h; omega
  have h4 : k0_cond4 (grid0.coords t) = 1#1 := (cond4 t).mpr ⟨by omega, by omega⟩
  have h5 : ¬ k0_cond5 (grid0.coords t) = 1#1 := fun h => by have := (cond5 t).mp h; omega
  have h6 : ¬ k0_cond6 (grid0.coords t) = 1#1 := fun h => by have := (cond6 t).mp h; omega
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  obtain ⟨rfl, rfl⟩ := hI.2.2.1 (by omega)
  iapply (run_gu c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 5 t) (iblk m c 6 t) (iblk m c 7 t) (iblk m c 8 t) _ _ s5 _)
  isplitl [H5]; · iexact H5
  isplitl [H6]; · iexact H6
  isplitl [H7]; · iexact H7
  isplitl [H8]; · iexact H8
  isplitl [S3]; · iexact S3
  isplitl [S4]; · iexact S4
  isplitl [H19]; · iexists _; iexact H19
  isplitl [H20]; · iexists _; iexact H20
  isplitl [S5]; · iexact S5
  iintro ⟨H5, H6, H7, H8, S3, S4, H19, H20, S5⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI.gu (by omega) (by omega) h4
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact early m c rfl (by omega) _ _
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact keep_18 m c (by omega) (hY 18)
  isplitl [H19]
  · iexists _; isplitr; swap; · iexact H19
    ipureintro; exact store m c rfl _ (by rw [after_19, show min t.val 14 = t.val by omega, pt_val]; rfl)
  isplitl [H20]
  · iexists _; isplitr; swap; · iexact H20
    ipureintro; exact store m c rfl _ (by rw [after_20, show min t.val 14 = t.val by omega, pt_val]; rfl)
  iexists _; isplitr; swap; · iexact H21
  ipureintro; exact early m c rfl (by omega) _ _

set_option maxHeartbeats 1000000 in
/-- The sixteenth point. -/
theorem body_hid (ht : t.val = 15) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : ¬ k0_cond3 (grid0.coords t) = 1#1 := fun h => by have := (cond3 t).mp h; omega
  have h4 : ¬ k0_cond4 (grid0.coords t) = 1#1 := fun h => by have := (cond4 t).mp h; omega
  have h5 : k0_cond5 (grid0.coords t) = 1#1 := (cond5 t).mpr (by omega)
  have h6 : k0_cond6 (grid0.coords t) = 1#1 := (cond6 t).mpr (by omega)
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  have hI' := hI.down (by omega)
  obtain rfl := hI.residual (by omega)
  obtain rfl := hI.hidden (by omega)
  iapply (run_hid c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 9 t) (iblk m c 10 t) _ _ _)
  isplitl [H9]; · iexact H9
  isplitl [H10]; · iexact H10
  isplitl [S2]; · iexact S2
  isplitl [S5]; · iexact S5
  isplitl [H16]; · iexists _; iexact H16
  isplitl [H17]; · iexists _; iexact H17
  isplitl [S6]; · iexists _; iexact S6
  isplitl [S7]; · iexists _; iexact S7
  isplitl [H21]; · iexists _; iexact H21
  isplitl [H11]; · iexists _; iexact H11
  iintro ⟨H9, H10, S2, S5, H16, H17, S6, S7, H21, H11⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI'
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact store m c rfl _ (by rw [after_11, show max t.val 15 = t.val by omega, pt_val]; unfold vOut; exact congrArg (k0_pay12 (vHc m c) (iblk m c 9 t) (vHs m c) (iblk m c 10 t)) (ld_rect3 t (by omega) h6 _))
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact store m c rfl _ (by rw [after_16])
  isplitl [H17]
  · iexists _; isplitr; swap; · iexact H17
    ipureintro; exact store m c rfl _ (by rw [after_17])
  isplitl [H18]
  · iexists _; isplitr; swap; · iexact H18
    ipureintro; exact keep_18 m c (by omega) (hY 18)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact store m c rfl _ (by rw [after_21, show max t.val 15 = t.val by omega, pt_val]; rfl)

set_option maxHeartbeats 1000000 in
/-- Another point of the last product. -/
theorem body_down (ht : 16 ≤ t.val) (hY : ∀ w, (rdat m c).Finds w t (Y w)) :
    bodyPre m c t Y ⊢ wp frame (wpE (defs₀ (F := F)) Variants.none c none) Set.univ (bodyAt0 t) (fun _ => bodyPost m c t Y) := by
  have h21 := lt21 t
  have h1 : ¬ k0_cond1 (grid0.coords t) = 1#1 := fun h => by have := (cond1 t).mp h; omega
  have h2 : ¬ k0_cond2 (grid0.coords t) = 1#1 := fun h => by have := (cond2 t).mp h; omega
  have h3 : ¬ k0_cond3 (grid0.coords t) = 1#1 := fun h => by have := (cond3 t).mp h; omega
  have h4 : ¬ k0_cond4 (grid0.coords t) = 1#1 := fun h => by have := (cond4 t).mp h; omega
  have h5 : ¬ k0_cond5 (grid0.coords t) = 1#1 := fun h => by have := (cond5 t).mp h; omega
  have h6 : k0_cond6 (grid0.coords t) = 1#1 := (cond6 t).mpr (by omega)
  have e0 := found_0 m c (hY 0)
  have e1 := found_1 m c (hY 1)
  have e2 := found_2 m c (hY 2)
  have e3 := found_3 m c (hY 3)
  have e4 := found_4 m c (hY 4)
  have e5 := found_5 m c (hY 5)
  have e6 := found_6 m c (hY 6)
  have e7 := found_7 m c (hY 7)
  have e8 := found_8 m c (hY 8)
  have e9 := found_9 m c (hY 9)
  have e10 := found_10 m c (hY 10)
  unfold bodyPre bodyPost bodyAt0 Keep
  rw [e0, e1, e2, e3, e4, e5, e6, e7, e8, e9, e10]
  iintro ⟨⟨%s0, %s1, %s2, %s3, %s4, %s5, %s6, %s7, %hI, S0, S1, S2, S3, S4, S5, S6, S7, Hr⟩, Ho, H0, H1, H2, H3, H4, H5, H6, H7, H8, H9, H10, H11, H12, H13, H14, H15, H16, H17, H18, H19, H20, H21⟩
  have hI' := hI.down (by omega)
  obtain rfl := hI.residual (by omega)
  obtain ⟨rfl, rfl⟩ := hI.2.2.2.2 (by omega)
  iapply (run_down c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ h1 h2 h3 h4 h5 h6 (iblk m c 9 t) (iblk m c 10 t) _ _ _ _)
  isplitl [H9]; · iexact H9
  isplitl [H10]; · iexact H10
  isplitl [S2]; · iexact S2
  isplitl [S6]; · iexact S6
  isplitl [S7]; · iexact S7
  isplitl [H21]; · iexists _; iexact H21
  isplitl [H11]; · iexists _; iexact H11
  iintro ⟨H9, H10, S2, S6, S7, H21, H11⟩
  isplitl [S0 S1 S2 S3 S4 S5 S6 S7 Hr]
  · iexists _, _, _, _, _, _, _, _; isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact Hr
    ipureintro; exact hI'
  isplitl [Ho]; · iexact Ho
  isplitl [H0]
  · iexists _; isplitr; swap; · iexact H0
    ipureintro; exact leave_0 m c t _ rfl
  isplitl [H1]
  · iexists _; isplitr; swap; · iexact H1
    ipureintro; exact leave_1 m c t _ rfl
  isplitl [H2]
  · iexists _; isplitr; swap; · iexact H2
    ipureintro; exact leave_2 m c t _ rfl
  isplitl [H3]
  · iexists _; isplitr; swap; · iexact H3
    ipureintro; exact leave_3 m c t _ rfl
  isplitl [H4]
  · iexists _; isplitr; swap; · iexact H4
    ipureintro; exact leave_4 m c t _ rfl
  isplitl [H5]
  · iexists _; isplitr; swap; · iexact H5
    ipureintro; exact leave_5 m c t _ rfl
  isplitl [H6]
  · iexists _; isplitr; swap; · iexact H6
    ipureintro; exact leave_6 m c t _ rfl
  isplitl [H7]
  · iexists _; isplitr; swap; · iexact H7
    ipureintro; exact leave_7 m c t _ rfl
  isplitl [H8]
  · iexists _; isplitr; swap; · iexact H8
    ipureintro; exact leave_8 m c t _ rfl
  isplitl [H9]
  · iexists _; isplitr; swap; · iexact H9
    ipureintro; exact leave_9 m c t _ rfl
  isplitl [H10]
  · iexists _; isplitr; swap; · iexact H10
    ipureintro; exact leave_10 m c t _ rfl
  isplitl [H11]
  · iexists _; isplitr; swap; · iexact H11
    ipureintro; exact store m c rfl _ (by rw [after_11, show max t.val 15 = t.val by omega, pt_val]; unfold vOut; exact congrArg (k0_pay12 (vHc m c) (iblk m c 9 t) (vHs m c) (iblk m c 10 t)) (ld_rect3 t (by omega) h6 _))
  isplitl [H12]
  · iexists _; isplitr; swap; · iexact H12
    ipureintro; exact keep_12 m c (by omega) (hY 12)
  isplitl [H13]
  · iexists _; isplitr; swap; · iexact H13
    ipureintro; exact keep_13 m c (by omega) (hY 13)
  isplitl [H14]
  · iexists _; isplitr; swap; · iexact H14
    ipureintro; exact keep_14 m c (by omega) (hY 14)
  isplitl [H15]
  · iexists _; isplitr; swap; · iexact H15
    ipureintro; exact keep_15 m c (by omega) (hY 15)
  isplitl [H16]
  · iexists _; isplitr; swap; · iexact H16
    ipureintro; exact keep_16 m c (by omega) (hY 16)
  isplitl [H17]
  · iexists _; isplitr; swap; · iexact H17
    ipureintro; exact keep_17 m c (by omega) (hY 17)
  isplitl [H18]
  · iexists _; isplitr; swap; · iexact H18
    ipureintro; exact keep_18 m c (by omega) (hY 18)
  isplitl [H19]
  · iexists _; isplitr; swap; · iexact H19
    ipureintro; exact keep_19 m c (by omega) (hY 19)
  isplitl [H20]
  · iexists _; isplitr; swap; · iexact H20
    ipureintro; exact keep_20 m c (by omega) (hY 20)
  iexists _; isplitr; swap; · iexact H21
  ipureintro; exact store m c rfl _ (by rw [after_21, show max t.val 15 = t.val by omega, pt_val]; rfl)

/-- The body at every point. -/
theorem sound_body (hY : ∀ w, (rdat m c).Finds w t (Y w)) :
    bodyPre m c t Y ⊢ wp frame (wpE (defs₀ (F := F)) Variants.none c none) Set.univ (bodyAt0 t) (fun _ => bodyPost m c t Y) := by
  rcases Nat.lt_or_ge t.val 3 with h | h
  · rcases Nat.eq_zero_or_pos t.val with h0 | h0
    · exact body_first h0 hY
    · exact body_op h0 h hY
  · rcases Nat.lt_or_ge t.val 15 with h' | h'
    · rcases Nat.eq_or_lt_of_le h with h0 | h0
      · exact body_norm h0.symm hY
      · exact body_gu h0 h' hY
    · rcases Nat.eq_or_lt_of_le h' with h0 | h0
      · exact body_hid h0.symm hY
      · exact body_down h0 hY

variable (m c)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation : (rdat (F := F) m c).BodyObligation defs₀ Variants.none () Set.univ := fun t Y hY => by
  rw [bigSep_W0, bigSep_W0, defs₀_row]
  exact triple_restated (sound_body hY) rfl .rfl fun _ => .rfl

/-! ## The run and the frame -/

/-- The kernel's own buffers at the region's entry. -/
theorem keep_in : Pipeline.ΦA spec0 c ⊢ (Keep m c 0 : sProp 𝕄) := by
  unfold Pipeline.ΦA Keep
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hr⟩
  iexists f0, f1, f2, f3, f4, f5, f6, f7
  isplitr
  · ipureintro
    exact ⟨fun h => by omega, fun j h => by omega, fun h => by omega, fun j h => by omega, fun h => by omega⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hr

/-- The kernel's own buffers after the last point. -/
theorem keep_out (n : ℕ) : (Keep m c n : sProp 𝕄) ⊢ Pipeline.ΦA spec0 c := by
  unfold Pipeline.ΦA Keep
  rw [scopedRest0_eq]
  simp only [owns_whole]
  iintro ⟨%f0, %f1, %f2, %f3, %f4, %f5, %f6, %f7, -, H0, H1, H2, H3, H4, H5, H6, H7, Hr⟩
  isplitl [H0 H1 H2 H3 H4 H5 H6 H7]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    iexists f7; iexact H7
  iexact Hr

/-- Nothing is written back of an output before its first point. -/
theorem first_flush : ∀ (w : Fin 22) (u : Fin cfg0.N), (cfg0.win w).flush u = true → (first w).getD 0 ≤ u.val := by
  decide

/-- Every array ends as the exact proof data says. -/
theorem arr_eq (w : Fin cfg0.W) (G) (hG : (rdat m c).ArrAt w cfg0.N G) : G = (dats m 0 c).arrAt w cfg0.N := by
  cases h : first w with
  | none => exact Cert.Rel.late_arrAt_none (dats m 0 c) first h _ _ hG
  | some k =>
    refine Cert.Rel.late_arrAt (dats m 0 c) first h (fun u hu => ?_) _ _ hG
    have := first_flush w u hu
    rwa [h] at this

set_option backward.isDefEq.respectTransparency.types false in
set_option maxHeartbeats 800000 in
/-- The launch: every weakly fair run ends, every array at what the proof data says, every other unscoped buffer as the
    region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.RDat.θ_run_frame_track cfgs (0 : Fin 1) launch0 defs₀ Variants.none (rdat m) m ρ main
    (body_obligation m) (fun c => (dats m 0 c).share_full fun _ => rfl)
    (fun _ _ => rfl) (V m) (hmain m Variants.none) (A_eq m) (fun c => keep_in m c) (fun c => keep_out m c _) _
    (fun r h => ⟨fun c => ⟨fun w => arr_eq m c w _ ((h.1 c).1 w), (h.1 c).2⟩, h.2⟩)

/-- `run_main_quiescent` without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every weakly fair run ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.MlpIdeal.Hand
-- ==== Proof.TileMath.lean ====
module

public import Idealize.ShloMosaic.Lib.Pointwise
public import Idealize.ShloMosaic.Lib.MatmulPlain
public import Idealize.ShloMosaic.Lib.Pipeline.Value
public import Idealize.ShloMosaic.Lib.Pipeline.FrameBody
public import Idealize.ShloMosaic.PureOps.Ideal.Laws

@[expose] public section

noncomputable section

/-! Arithmetic over the extended reals that both calls use, at any shapes: the quantiser's scale, and a scaled product
    computed from zero-padded rows and a block of columns against the product of the whole arrays. -/

namespace Cert.TileMath

open Idealize.ShloMosaic

/-- The pattern of 448 denotes 448. -/
theorem ofBits_448 : Ideal.ofBits .f32 0x43E00000#32 = ((448 : ℝ) : EReal) := by
  simp [Ideal.ofBits, Ideal.ieee, -EReal.coe_mul]; norm_num

/-- Multiplying by the reciprocal of 448 is dividing by 448. -/
theorem mul_inv (x : EReal) : x * ((1 / 448 : ℝ) : EReal) = Ideal.div x (Ideal.ofBits .f32 0x43E00000#32) := by
  rw [ofBits_448, Ideal.div_coe (by norm_num)]

/-- The same of a whole array. -/
theorem mulf_inv {s : Shape} (v : FVec Ideal s .f32) (c : Ideal .f32) (hc : c = ((1 / 448 : ℝ) : EReal)) :
    mulf v (broadcast s c) = divf v (broadcast s (Scalar.ofBits .f32 0x43E00000#32)) := by
  subst hc
  funext j
  exact mul_inv (v j)

/-- So the kernel's scale of an array of maxima is the quotient by 448 (and 1 where the maximum is not positive). -/
theorem scale_eq {s : Shape} (a z one : FVec Ideal s .f32) (c : Ideal .f32) (hc : c = ((1 / 448 : ℝ) : EReal)) :
    select (cmpf .ogt a z) (mulf a (broadcast s c)) one
      = select (cmpf .ogt a z) (divf a (broadcast s (Scalar.ofBits .f32 0x43E00000#32))) one := by
  rw [mulf_inv a c hc]

/-- A sum over forty places that keeps only place `l`. -/
theorem diagonal (f : Fin 40 → EReal) (l : Fin 40) :
    ∑ x : Fin 40, Scalar.select (IntOp.cmpi CmpIPredicate.eq (BitVec.ofNat 32 x.val) (BitVec.ofNat 32 l.val)) (f x) 0 = f l := by
  rw [Finset.sum_eq_single l]
  · rw [IntOp.cmpi_eq_self]; rfl
  · intro x _ hx
    have h : BitVec.ofNat 32 x.val ≠ BitVec.ofNat 32 l.val := fun h => hx (Fin.ext (by
      have := congrArg BitVec.toNat h
      simp only [BitVec.toNat_ofNat] at this
      omega))
    have hb : IntOp.cmpi CmpIPredicate.eq (BitVec.ofNat 32 x.val) (BitVec.ofNat 32 l.val) = 0#1 := by
      show BitVec.ofBool (BitVec.ofNat 32 x.val == BitVec.ofNat 32 l.val) = 0#1
      rw [beq_eq_false_iff_ne.2 h]; rfl
    rw [hb]; rfl
  · intro h; exact absurd (Finset.mem_univ _) h

/-- Rows stored over a padded buffer, read back. -/
theorem pad_apply {F : FTy → Type} [FloatOps F] {P M K : ℕ} {e : EltTy} (w : (⟨2, ![M, K]⟩ : Shape).Idx → Elt F e)
    (inb : ∀ a, (![0, 0] : Fin 2 → ℕ) a + (⟨2, ![M, K]⟩ : Shape).size a ≤ (⟨2, ![P, K]⟩ : Shape).size a)
    (L : List (View.Piece (Elt F) (⟨2, ![P, K]⟩ : Shape) e)) (i : Fin M) (k : Fin K) (hi : i.val < P) :
    View.canon (⟨Rect.unit (s := ⟨2, ![P, K]⟩) ![0, 0] (⟨2, ![M, K]⟩ : Shape).size inb, w⟩ :: L) (ix2 ⟨i.val, hi⟩ k) = w (ix2 i k) := by
  rw [show (ix2 ⟨i.val, hi⟩ k : (⟨2, ![P, K]⟩ : Shape).Idx)
      = (Rect.unit (s := ⟨2, ![P, K]⟩) ![0, 0] (⟨2, ![M, K]⟩ : Shape).size inb).emb (ix2 i k) from by
    funext a
    match a with
    | ⟨0, _⟩ => exact Fin.ext (by show i.val = 0 + 1 * i.val; omega)
    | ⟨1, _⟩ => exact Fin.ext (by show k.val = 0 + 1 * k.val; omega)]
  exact View.canon_cons_emb (Rect.unit (s := ⟨2, ![P, K]⟩) ![0, 0] (⟨2, ![M, K]⟩ : Shape).size inb) w L (ix2 i k)

/-! ## Elementwise operations at a place of a block and at its place in the array -/

section At

variable {s s' : Shape} {i : s.Idx} {i' : s'.Idx}

theorem add_at {a b : FVec Ideal s .f32} {a' b' : FVec Ideal s' .f32} (ha : a i = a' i') (hb : b i = b' i') :
    addf a b i = addf a' b' i' := by
  show FloatOps.addf (a i) (b i) = FloatOps.addf (a' i') (b' i')
  rw [ha, hb]

theorem ext_at {a : FVec Ideal s .bf16} {a' : FVec Ideal s' .bf16} (h) (ha : a i = a' i') :
    extf .f32 a h i = extf .f32 a' h i' := by
  show FloatOps.extf .f32 h (a i) = FloatOps.extf .f32 h (a' i')
  rw [ha]

theorem trunc_at {a : FVec Ideal s .f32} {a' : FVec Ideal s' .f32} (h) (ha : a i = a' i') :
    truncf .bf16 a h i = truncf .bf16 a' h i' := by
  show FloatOps.truncf .bf16 h (a i) = FloatOps.truncf .bf16 h (a' i')
  rw [ha]

theorem silu_at {g u : FVec Ideal s .f32} {g' u' : FVec Ideal s' .f32} (hg : g i = g' i') (hu : u i = u' i') :
    mulf (mulf g (logistic g)) u i = mulf (mulf g' (logistic g')) u' i' := by
  show FloatOps.mulf (FloatOps.mulf (g i) (FloatOps.logistic (g i))) (u i)
    = FloatOps.mulf (FloatOps.mulf (g' i') (FloatOps.logistic (g' i'))) (u' i')
  rw [hg, hu]

end At

section Product

variable {P M K N N' : ℕ}

/-- A column repeated over the columns, at an index. -/
theorem column_apply {α : Type} (s : (⟨2, ![M, 1]⟩ : Shape).Idx → α) (h : (⟨2, ![M, 1]⟩ : Shape).Broadcasts ⟨2, ![M, N]⟩)
    (i : Fin M) (j : Fin N) : broadcastTo ⟨2, ![M, N]⟩ s h (ix2 i j) = s (ix2 i 0) := by
  unfold broadcastTo
  refine congrArg s (funext fun a => ?_)
  match a with
  | ⟨0, _⟩ =>
    by_cases h1 : M = 1
    · subst h1; exact Subsingleton.elim (α := Fin 1) _ _
    · exact (dif_neg h1).trans rfl
  | ⟨1, _⟩ => exact Subsingleton.elim (α := Fin 1) _ _

/-- A row repeated over the rows, at an index. -/
theorem row_apply {α : Type} (s : (⟨2, ![1, N]⟩ : Shape).Idx → α) (h : (⟨2, ![1, N]⟩ : Shape).Broadcasts ⟨2, ![M, N]⟩)
    (i : Fin M) (j : Fin N) : broadcastTo ⟨2, ![M, N]⟩ s h (ix2 i j) = s (ix2 0 j) := by
  unfold broadcastTo
  refine congrArg s (funext fun a => ?_)
  match a with
  | ⟨0, _⟩ => exact Subsingleton.elim (α := Fin 1) _ _
  | ⟨1, _⟩ =>
    by_cases h1 : N = 1
    · subst h1; exact Subsingleton.elim (α := Fin 1) _ _
    · exact (dif_neg h1).trans rfl

/-- The scaled product of the whole arrays, at an index. -/
theorem whole_apply {φ₁ φ₂ : FTy} (A : FVec Ideal ⟨2, ![M, K]⟩ φ₁) (B : FVec Ideal ⟨2, ![K, N]⟩ φ₂)
    (s : FVec Ideal ⟨2, ![M, 1]⟩ .f32) (ws : FVec Ideal ⟨2, ![1, N]⟩ .f32) (h1 h2) (i : Fin M) (j : Fin N) :
    mulf (mulf (matmul (DotDims.plain M K N) none A B (constant ⟨2, ![M, N]⟩ .f32 0x00000000#32)) (broadcastTo ⟨2, ![M, N]⟩ s h1))
      (broadcastTo ⟨2, ![M, N]⟩ ws h2) (ix2 i j)
      = (∑ k, A (ix2 i k) * B (ix2 k j)) * s (ix2 i 0) * ws (ix2 0 j) := by
  rw [mulf_apply, mulf_apply, column_apply, row_apply]
  have h := Ideal.matmul_plain_apply none A B (constant ⟨2, ![M, N]⟩ .f32 0x00000000#32) i j
  rw [constant_apply, Ideal.ofBits_def, Ideal.ofBits_zero_f32, zero_add] at h
  exact congrArg (fun x : EReal => x * s (ix2 i 0) * ws (ix2 0 j)) h

/-- The scaled product of padded rows with a block of columns, at an index of the rows kept. -/
theorem tile_apply {φ₁ φ₂ : FTy} (A : FVec Ideal ⟨2, ![P, K]⟩ φ₁) (B : FVec Ideal ⟨2, ![K, N]⟩ φ₂)
    (s : FVec Ideal ⟨2, ![M, 1]⟩ .f32) (ws : FVec Ideal ⟨2, ![1, N]⟩ .f32) (h0 h1 h2) (i : Fin M) (j : Fin N) (hi : i.val < P) :
    mulf (mulf (extractStridedSlice ⟨2, ![M, N]⟩ ![0, 0]
        (matmul (DotDims.plain P K N) none A B (constant ⟨2, ![P, N]⟩ .f32 0x00000000#32)) h0) (broadcastTo ⟨2, ![M, N]⟩ s h1))
      (broadcastTo ⟨2, ![M, N]⟩ ws h2) (ix2 i j)
      = (∑ k, A (ix2 ⟨i.val, hi⟩ k) * B (ix2 k j)) * s (ix2 i 0) * ws (ix2 0 j) := by
  rw [mulf_apply, mulf_apply, column_apply, row_apply]
  rw [extractStridedSlice_apply _ _ _ _ (ix2 ⟨i.val, hi⟩ j) (by
    intro a
    match a with
    | ⟨0, _⟩ => exact (Nat.zero_add _).symm
    | ⟨1, _⟩ => exact (Nat.zero_add _).symm)]
  have h := Ideal.matmul_plain_apply none A B (constant ⟨2, ![P, N]⟩ .f32 0x00000000#32) ⟨i.val, hi⟩ j
  rw [constant_apply, Ideal.ofBits_def, Ideal.ofBits_zero_f32, zero_add] at h
  exact congrArg (fun x : EReal => x * s (ix2 i 0) * ws (ix2 0 j)) h

/-- So they agree where the padded rows are the rows, and the block's columns are columns of the whole. -/
theorem tile_eq {φ₁ φ₂ : FTy} (A : FVec Ideal ⟨2, ![P, K]⟩ φ₁) (B : FVec Ideal ⟨2, ![K, N]⟩ φ₂)
    (A' : FVec Ideal ⟨2, ![M, K]⟩ φ₁) (B' : FVec Ideal ⟨2, ![K, N']⟩ φ₂)
    (s : FVec Ideal ⟨2, ![M, 1]⟩ .f32) (ws : FVec Ideal ⟨2, ![1, N]⟩ .f32) (ws' : FVec Ideal ⟨2, ![1, N']⟩ .f32) (h0 h1 h2 h1' h2')
    (i : Fin M) (j : Fin N) (l : Fin N') (hi : i.val < P) (hA : ∀ k, A (ix2 ⟨i.val, hi⟩ k) = A' (ix2 i k))
    (hB : ∀ k, B (ix2 k j) = B' (ix2 k l)) (hw : ws (ix2 0 j) = ws' (ix2 0 l)) :
    mulf (mulf (extractStridedSlice ⟨2, ![M, N]⟩ ![0, 0]
        (matmul (DotDims.plain P K N) none A B (constant ⟨2, ![P, N]⟩ .f32 0x00000000#32)) h0) (broadcastTo ⟨2, ![M, N]⟩ s h1))
      (broadcastTo ⟨2, ![M, N]⟩ ws h2) (ix2 i j)
    = mulf (mulf (matmul (DotDims.plain M K N') none A' B' (constant ⟨2, ![M, N']⟩ .f32 0x00000000#32)) (broadcastTo ⟨2, ![M, N']⟩ s h1'))
      (broadcastTo ⟨2, ![M, N']⟩ ws' h2') (ix2 i l) := by
  rw [tile_apply _ _ _ _ _ _ _ _ _ hi, whole_apply, hw, Finset.sum_congr rfl fun k _ => by rw [hA k, hB k]]

end Product

end Cert.TileMath
-- ==== Proof.MlpMath.lean ====
module

public import proofs.«01_k».proof.Proof.MlpIdealDat
public import proofs.«01_k».proof.Proof.TileMath
public import proofs.«01_k».proof.Proof.Gen.MlpReferenceIdeal.Skeleton

@[expose] public section

set_option maxRecDepth 16384

noncomputable section

/-! What each stage of the kernel computes, against the same stage of the reference, over the extended reals. -/

namespace Cert.MlpValue

open Cert.MlpIdeal Cert.MlpIdeal.Gen Cert.MlpIdeal.Hand
open Idealize.ShloMosaic Idealize.ShloMosaic.TcCoe
open Idealize.SL.Sem

/-- The kernel's constant is the reciprocal of 448. -/
theorem named_inv : (Named.named Cert.MlpIdeal.κ "inv_448" 0x3B124925#32 : Ideal .f32) = ((1 / 448 : ℝ) : EReal) :=
  IdealRules.named_const.ideal_named_scalar _ _ _ _ rfl

/-! ## The quantisers -/

section Quant

variable (o : Vec Ideal MlpIdeal.S240x3072 .f32)

theorem scale_o : MlpIdeal.Gen.k0_pay14 o = MlpReferenceIdeal.Gen.k0_pay2 o := by
  unfold MlpIdeal.Gen.k0_pay14 MlpReferenceIdeal.Gen.k0_pay2
  exact TileMath.scale_eq _ _ _ _ named_inv

theorem codes_o : MlpIdeal.Gen.k0_pay15 o = MlpReferenceIdeal.Gen.k0_pay3 o := by
  unfold MlpIdeal.Gen.k0_pay15 MlpReferenceIdeal.Gen.k0_pay3
  rw [scale_o]
  rfl

variable (wo : Vec Ideal MlpReferenceIdeal.S3072x1536 .fp8e4m3) (wos : Vec Ideal MlpReferenceIdeal.S1x1536 .f32)
  (x : Vec Ideal MlpReferenceIdeal.S240x1536 .bf16) (nw : Vec Ideal MlpReferenceIdeal.S1x1536 .f32)

/-- The reference's residual. -/
abbrev res : FVec Ideal MlpReferenceIdeal.S240x1536 .f32 := MlpReferenceIdeal.Gen.k0_pay5 o wo wos x
/-- The reference's reciprocal root mean square. -/
abbrev rms : FVec Ideal MlpReferenceIdeal.S240x1 .f32 := MlpReferenceIdeal.Gen.k0_pay7 o wo wos x
/-- The reference's normalisation weight. -/
abbrev nwt : FVec Ideal MlpReferenceIdeal.S1x1536 .f32 := MlpReferenceIdeal.Gen.k0_pay6 nw

theorem norm_a : MlpIdeal.Gen.k0_pay26 (res o wo wos x) nw
    = MlpReferenceIdeal.Gen.k0_pay8 (res o wo wos x) (nwt nw) (rms o wo wos x) := by
  unfold MlpIdeal.Gen.k0_pay26 MlpReferenceIdeal.Gen.k0_pay8 nwt rms MlpReferenceIdeal.Gen.k0_pay6 MlpReferenceIdeal.Gen.k0_pay7
  rfl

theorem scale_a : MlpIdeal.Gen.k0_pay27 (res o wo wos x) nw
    = MlpReferenceIdeal.Gen.k0_pay9 (res o wo wos x) (nwt nw) (rms o wo wos x) := by
  unfold MlpIdeal.Gen.k0_pay27 MlpReferenceIdeal.Gen.k0_pay9
  rw [norm_a]
  exact TileMath.scale_eq _ _ _ _ named_inv

theorem codes_a : MlpIdeal.Gen.k0_pay28 (res o wo wos x) nw
    = MlpReferenceIdeal.Gen.k0_pay10 (res o wo wos x) (nwt nw) (rms o wo wos x) := by
  unfold MlpIdeal.Gen.k0_pay28 MlpReferenceIdeal.Gen.k0_pay10
  rw [scale_a, norm_a]

variable (r : FVec Ideal MlpReferenceIdeal.S240x1536 .f32) (n : FVec Ideal MlpReferenceIdeal.S1x1536 .f32)
  (q : FVec Ideal MlpReferenceIdeal.S240x1 .f32)
  (wg : Vec Ideal MlpReferenceIdeal.S1536x6144 .fp8e4m3) (wgs : Vec Ideal MlpReferenceIdeal.S1x6144 .f32)
  (wu : Vec Ideal MlpReferenceIdeal.S1536x6144 .fp8e4m3) (wus : Vec Ideal MlpReferenceIdeal.S1x6144 .f32)

theorem scale_h : MlpIdeal.Gen.k0_pay40 (MlpReferenceIdeal.Gen.k0_pay13 r n q wg wgs wu wus)
    = MlpReferenceIdeal.Gen.k0_pay15 (MlpReferenceIdeal.Gen.k0_pay14 r n q wg wgs wu wus) (Scalar.ofBits .f32 0x00000000#32) := by
  unfold MlpIdeal.Gen.k0_pay40 MlpReferenceIdeal.Gen.k0_pay15 MlpReferenceIdeal.Gen.k0_pay14
  exact TileMath.scale_eq _ _ _ _ named_inv

theorem codes_h : MlpIdeal.Gen.k0_pay41 (MlpReferenceIdeal.Gen.k0_pay13 r n q wg wgs wu wus)
    = MlpReferenceIdeal.Gen.k0_pay16 (MlpReferenceIdeal.Gen.k0_pay13 r n q wg wgs wu wus)
        (MlpReferenceIdeal.Gen.k0_pay14 r n q wg wgs wu wus) (Scalar.ofBits .f32 0x00000000#32) := by
  unfold MlpIdeal.Gen.k0_pay41 MlpReferenceIdeal.Gen.k0_pay16
  rw [scale_h]

end Quant

/-! ## The scales by group of forty rows -/

/-- Six rows that are the rows of `G` are `G`. -/
theorem sixRows_eq (G : Vec Ideal MlpIdeal.S6x40 .f32) (a b c d e f : Vec Ideal MlpIdeal.S1x40 .f32)
    (ha : ∀ l, a (ix2 0 l) = G (ix2 0 l)) (hb : ∀ l, b (ix2 0 l) = G (ix2 1 l)) (hc : ∀ l, c (ix2 0 l) = G (ix2 2 l))
    (hd : ∀ l, d (ix2 0 l) = G (ix2 3 l)) (he : ∀ l, e (ix2 0 l) = G (ix2 4 l)) (hf : ∀ l, f (ix2 0 l) = G (ix2 5 l)) :
    sixRows a b c d e f = G := by
  have key : ∀ (r : Fin 6) (w : Vec Ideal MlpIdeal.S1x40 .f32) (inb : ∀ a, (![r.val, 0] : Fin 2 → ℕ) a + MlpIdeal.S1x40.size a ≤ MlpIdeal.S6x40.size a)
      (hw : ∀ l, w (ix2 0 l) = G (ix2 r l)) (x : MlpIdeal.S1x40.Idx),
      w x = G ((Rect.unit (s := MlpIdeal.S6x40) ![r.val, 0] MlpIdeal.S1x40.size inb).emb x) := by
    intro r w inb hw x
    have e1 : x = ix2 0 (x 1) := by
      funext a
      match a with
      | ⟨0, _⟩ => exact Subsingleton.elim (α := Fin 1) _ _
      | ⟨1, _⟩ => rfl
    have e2 : (Rect.unit (s := MlpIdeal.S6x40) ![r.val, 0] MlpIdeal.S1x40.size inb).emb x = ix2 r (x 1) := by
      funext a
      match a with
      | ⟨0, _⟩ =>
        have h0 : (x 0).val < 1 := (x 0).isLt
        exact Fin.ext (by show r.val + 1 * (x 0).val = r.val; omega)
      | ⟨1, _⟩ => exact Fin.ext (by show 0 + 1 * (x 1).val = (x 1).val; omega)
    exact (congrArg w e1).trans ((hw (x 1)).trans (congrArg G e2.symm))
  funext y
  unfold sixRows
  refine View.canon_apply_of_pieces G _ ?_ y ?_
  swap
  · exact View.cover_of_tiled (s := MlpIdeal.S6x40) _ MlpIdeal.S1x40.size rfl y
  intro p hp
  simp only [List.mem_cons, List.not_mem_nil, or_false] at hp
  rcases hp with rfl | rfl | rfl | rfl | rfl | rfl
  · exact key 5 f inb_S6x40_S1x40_5_0 hf
  · exact key 4 e inb_S6x40_S1x40_4_0 he
  · exact key 3 d inb_S6x40_S1x40_3_0 hd
  · exact key 2 c inb_S6x40_S1x40_2_0 hc
  · exact key 1 b inb_S6x40_S1x40_1_0 hb
  · exact key 0 a inb_S6x40_S1x40_0_0 ha

/-- Entry `40 r + l` of a column is place `(r, l)` of the column laid out by groups of forty. -/
theorem groups_apply (s : FVec Ideal MlpIdeal.S240x1 .f32) (h : MlpIdeal.S240x1.ShapeCasts MlpIdeal.S6x40) (r : Fin 6) (l : Fin 40)
    (k : ℕ) (hk : k = r.val * 40 + l.val) (hlt : k < 240) :
    shapeCast MlpIdeal.S6x40 s h (ix2 r l) = s (ix2 ⟨k, hlt⟩ 0) := by
  subst hk
  pointwise

theorem rows_o (o : Vec Ideal MlpIdeal.S240x3072 .f32) (h) :
    rowsO o = shapeCast MlpIdeal.S6x40 (MlpIdeal.Gen.k0_pay14 o) h := by
  unfold rowsO
  refine sixRows_eq _ _ _ _ _ _ _ ?_ ?_ ?_ ?_ ?_ ?_ <;> intro l
  · rw [groups_apply _ h 0 l (0 + l.val) (by simp) (by omega)]
    unfold MlpIdeal.Gen.k0_pay20 MlpIdeal.Gen.k0_pay19; pointwise [TileMath.diagonal]
  · rw [groups_apply _ h 1 l (40 + l.val) (by simp) (by omega)]
    unfold MlpIdeal.Gen.k0_pay21; pointwise [TileMath.diagonal]
  · rw [groups_apply _ h 2 l (80 + l.val) (by simp) (by omega)]
    unfold MlpIdeal.Gen.k0_pay22; pointwise [TileMath.diagonal]
  · rw [groups_apply _ h 3 l (120 + l.val) (by simp) (by omega)]
    unfold MlpIdeal.Gen.k0_pay23; pointwise [TileMath.diagonal]
  · rw [groups_apply _ h 4 l (160 + l.val) (by simp) (by omega)]
    unfold MlpIdeal.Gen.k0_pay1 MlpIdeal.Gen.k0_pay24 MlpIdeal.Gen.k0_pay25; pointwise [TileMath.diagonal]
  · rw [groups_apply _ h 5 l (200 + l.val) (by simp) (by omega)]
    unfold MlpIdeal.Gen.k0_pay2; pointwise [TileMath.diagonal]

theorem rows_a (r : Vec Ideal MlpIdeal.S240x1536 .f32) (w : Vec Ideal MlpIdeal.S1x1536 .f32) (h) :
    rowsA r w = shapeCast MlpIdeal.S6x40 (MlpIdeal.Gen.k0_pay27 r w) h := by
  unfold rowsA
  refine sixRows_eq _ _ _ _ _ _ _ ?_ ?_ ?_ ?_ ?_ ?_ <;> intro l
  · rw [groups_apply _ h 0 l (0 + l.val) (by simp) (by omega)]
    unfold MlpIdeal.Gen.k0_pay32; pointwise [TileMath.diagonal]
  · rw [groups_apply _ h 1 l (40 + l.val) (by simp) (by omega)]
    unfold MlpIdeal.Gen.k0_pay33; pointwise [TileMath.diagonal]
  · rw [groups_apply _ h 2 l (80 + l.val) (by simp) (by omega)]
    unfold MlpIdeal.Gen.k0_pay34; pointwise [TileMath.diagonal]
  · rw [groups_apply _ h 3 l (120 + l.val) (by simp) (by omega)]
    unfold MlpIdeal.Gen.k0_pay5 MlpIdeal.Gen.k0_pay35 MlpIdeal.Gen.k0_pay36; pointwise [TileMath.diagonal]
  · rw [groups_apply _ h 4 l (160 + l.val) (by simp) (by omega)]
    unfold MlpIdeal.Gen.k0_pay6; pointwise [TileMath.diagonal]
  · rw [groups_apply _ h 5 l (200 + l.val) (by simp) (by omega)]
    unfold MlpIdeal.Gen.k0_pay7; pointwise [TileMath.diagonal]

theorem rows_h (v : Vec Ideal MlpIdeal.S240x6144 .f32) (h) :
    rowsH v = shapeCast MlpIdeal.S6x40 (MlpIdeal.Gen.k0_pay40 v) h := by
  unfold rowsH
  refine sixRows_eq _ _ _ _ _ _ _ ?_ ?_ ?_ ?_ ?_ ?_ <;> intro l
  · rw [groups_apply _ h 0 l (0 + l.val) (by simp) (by omega)]
    unfold MlpIdeal.Gen.k0_pay46 MlpIdeal.Gen.k0_pay45; pointwise [TileMath.diagonal]
  · rw [groups_apply _ h 1 l (40 + l.val) (by simp) (by omega)]
    unfold MlpIdeal.Gen.k0_pay47; pointwise [TileMath.diagonal]
  · rw [groups_apply _ h 2 l (80 + l.val) (by simp) (by omega)]
    unfold MlpIdeal.Gen.k0_pay48; pointwise [TileMath.diagonal]
  · rw [groups_apply _ h 3 l (120 + l.val) (by simp) (by omega)]
    unfold MlpIdeal.Gen.k0_pay49; pointwise [TileMath.diagonal]
  · rw [groups_apply _ h 4 l (160 + l.val) (by simp) (by omega)]
    unfold MlpIdeal.Gen.k0_pay9 MlpIdeal.Gen.k0_pay50 MlpIdeal.Gen.k0_pay51; pointwise [TileMath.diagonal]
  · rw [groups_apply _ h 5 l (200 + l.val) (by simp) (by omega)]
    unfold MlpIdeal.Gen.k0_pay10; pointwise [TileMath.diagonal]

/-! ## The products, a block of columns of each -/

theorem op_tile (o : Vec Ideal MlpIdeal.S240x3072 .f32) (wb : Vec Ideal MlpIdeal.S3072x512 .fp8e4m3) (wsb : Vec Ideal MlpIdeal.S1x512 .f32)
    (w : Vec Ideal MlpReferenceIdeal.S3072x1536 .fp8e4m3) (ws : Vec Ideal MlpReferenceIdeal.S1x1536 .f32)
    (i : Fin 240) (j : Fin 512) (l : Fin 1536) (hw : ∀ k, wb (ix2 k j) = w (ix2 k l)) (hs : wsb (ix2 0 j) = ws (ix2 0 l)) :
    MlpIdeal.Gen.k0_pay3 (padO o) wb (MlpIdeal.Gen.k0_pay18 o) wsb (ix2 i j) = MlpReferenceIdeal.Gen.k0_pay4 o w ws (ix2 i l) := by
  unfold MlpIdeal.Gen.k0_pay3 MlpReferenceIdeal.Gen.k0_pay4 MlpIdeal.Gen.k0_pay18
  simp only [shapeCast_id, scale_o]
  refine TileMath.tile_eq (P := 256) (M := 240) (K := 3072) (N := 512) (N' := 1536) _ _ _ _ _ _ _ _ _ _ _ _ i j l (by omega) ?_ hw hs
  intro k
  unfold padO
  refine (TileMath.pad_apply (P := 256) (M := 240) (K := 3072) _ _ _ i k (by omega)).trans ?_
  unfold MlpIdeal.Gen.k0_pay17
  rw [shapeCast_id, codes_o]

section Gated

variable (o : Vec Ideal MlpIdeal.S240x3072 .f32) (wo : Vec Ideal MlpReferenceIdeal.S3072x1536 .fp8e4m3) (wos : Vec Ideal MlpReferenceIdeal.S1x1536 .f32)
  (x : Vec Ideal MlpReferenceIdeal.S240x1536 .bf16) (nw : Vec Ideal MlpReferenceIdeal.S1x1536 .f32)

theorem pad_a (i : Fin 240) (k : Fin 1536) : padA (res o wo wos x) nw (ix2 ⟨i.val, by omega⟩ k)
    = MlpReferenceIdeal.Gen.k0_pay10 (res o wo wos x) (nwt nw) (rms o wo wos x) (ix2 i k) := by
  unfold padA
  refine (TileMath.pad_apply (P := 256) (M := 240) (K := 1536) _ _ _ i k (by omega)).trans ?_
  unfold MlpIdeal.Gen.k0_pay30
  rw [shapeCast_id, codes_a]

theorem gate_tile (wb : Vec Ideal MlpIdeal.S1536x512 .fp8e4m3) (wsb : Vec Ideal MlpIdeal.S1x512 .f32)
    (w : Vec Ideal MlpReferenceIdeal.S1536x6144 .fp8e4m3) (ws : Vec Ideal MlpReferenceIdeal.S1x6144 .f32)
    (i : Fin 240) (j : Fin 512) (l : Fin 6144) (hw : ∀ k, wb (ix2 k j) = w (ix2 k l)) (hs : wsb (ix2 0 j) = ws (ix2 0 l)) :
    MlpIdeal.Gen.k0_pay37 (padA (res o wo wos x) nw) wb (MlpIdeal.Gen.k0_pay31 (MlpIdeal.Gen.k0_pay27 (res o wo wos x) nw)) wsb (ix2 i j)
      = MlpReferenceIdeal.Gen.k0_pay11 (res o wo wos x) (nwt nw) (rms o wo wos x) w ws (ix2 i l) := by
  unfold MlpIdeal.Gen.k0_pay37 MlpReferenceIdeal.Gen.k0_pay11 MlpIdeal.Gen.k0_pay31
  simp only [shapeCast_id, scale_a]
  exact TileMath.tile_eq (P := 256) (M := 240) (K := 1536) (N := 512) (N' := 6144) _ _ _ _ _ _ _ _ _ _ _ _ i j l (by omega)
    (pad_a o wo wos x nw i) hw hs

theorem up_tile (wb : Vec Ideal MlpIdeal.S1536x512 .fp8e4m3) (wsb : Vec Ideal MlpIdeal.S1x512 .f32)
    (w : Vec Ideal MlpReferenceIdeal.S1536x6144 .fp8e4m3) (ws : Vec Ideal MlpReferenceIdeal.S1x6144 .f32)
    (i : Fin 240) (j : Fin 512) (l : Fin 6144) (hw : ∀ k, wb (ix2 k j) = w (ix2 k l)) (hs : wsb (ix2 0 j) = ws (ix2 0 l)) :
    MlpIdeal.Gen.k0_pay38 (padA (res o wo wos x) nw) wb (MlpIdeal.Gen.k0_pay31 (MlpIdeal.Gen.k0_pay27 (res o wo wos x) nw)) wsb (ix2 i j)
      = MlpReferenceIdeal.Gen.k0_pay12 (res o wo wos x) (nwt nw) (rms o wo wos x) w ws (ix2 i l) :=
  gate_tile o wo wos x nw wb wsb w ws i j l hw hs

end Gated

section Down

variable (r : FVec Ideal MlpReferenceIdeal.S240x1536 .f32) (n : FVec Ideal MlpReferenceIdeal.S1x1536 .f32)
  (q : FVec Ideal MlpReferenceIdeal.S240x1 .f32)
  (wg : Vec Ideal MlpReferenceIdeal.S1536x6144 .fp8e4m3) (wgs : Vec Ideal MlpReferenceIdeal.S1x6144 .f32)
  (wu : Vec Ideal MlpReferenceIdeal.S1536x6144 .fp8e4m3) (wus : Vec Ideal MlpReferenceIdeal.S1x6144 .f32)

/-- The reference's hidden layer. -/
abbrev hid : FVec Ideal MlpReferenceIdeal.S240x6144 .f32 := MlpReferenceIdeal.Gen.k0_pay13 r n q wg wgs wu wus
/-- Its row maxima. -/
abbrev hmx : FVec Ideal MlpReferenceIdeal.S240x1 .f32 := MlpReferenceIdeal.Gen.k0_pay14 r n q wg wgs wu wus

theorem down_tile (wb : Vec Ideal MlpIdeal.S6144x256 .fp8e4m3) (wsb : Vec Ideal MlpIdeal.S1x256 .f32)
    (w : Vec Ideal MlpReferenceIdeal.S6144x1536 .fp8e4m3) (ws : Vec Ideal MlpReferenceIdeal.S1x1536 .f32)
    (i : Fin 240) (j : Fin 256) (l : Fin 1536) (hw : ∀ k, wb (ix2 k j) = w (ix2 k l)) (hs : wsb (ix2 0 j) = ws (ix2 0 l)) :
    MlpIdeal.Gen.k0_pay11 (padH (hid r n q wg wgs wu wus)) wb (MlpIdeal.Gen.k0_pay44 (F := Ideal) (hid r n q wg wgs wu wus)) wsb (ix2 i j)
      = MlpReferenceIdeal.Gen.k0_pay17 (hid r n q wg wgs wu wus) (hmx r n q wg wgs wu wus) (Scalar.ofBits .f32 0x00000000#32) w ws (ix2 i l) := by
  unfold MlpIdeal.Gen.k0_pay11 MlpReferenceIdeal.Gen.k0_pay17 MlpIdeal.Gen.k0_pay44
  simp only [shapeCast_id, scale_h]
  refine TileMath.tile_eq (P := 256) (M := 240) (K := 6144) (N := 256) (N' := 1536) _ _ _ _ _ _ _ _ _ _ _ _ i j l (by omega) ?_ hw hs
  intro k
  unfold padH
  refine (TileMath.pad_apply (P := 256) (M := 240) (K := 6144) _ _ _ i k (by omega)).trans ?_
  unfold MlpIdeal.Gen.k0_pay43
  rw [shapeCast_id, codes_h]

end Down

/-- A block of columns of the residual. -/
theorem res_tile (o : Vec Ideal MlpIdeal.S240x3072 .f32) (wb : Vec Ideal MlpIdeal.S3072x512 .fp8e4m3) (wsb : Vec Ideal MlpIdeal.S1x512 .f32)
    (w : Vec Ideal MlpReferenceIdeal.S3072x1536 .fp8e4m3) (ws : Vec Ideal MlpReferenceIdeal.S1x1536 .f32)
    (xb : Vec Ideal MlpIdeal.S240x512 .bf16) (x : Vec Ideal MlpReferenceIdeal.S240x1536 .bf16)
    (i : Fin 240) (j : Fin 512) (l : Fin 1536) (hw : ∀ k, wb (ix2 k j) = w (ix2 k l)) (hs : wsb (ix2 0 j) = ws (ix2 0 l))
    (hx : xb (ix2 i j) = x (ix2 i l)) :
    MlpIdeal.Gen.k0_pay4 (padO o) wb (MlpIdeal.Gen.k0_pay18 o) wsb xb (ix2 i j) = MlpReferenceIdeal.Gen.k0_pay5 o w ws x (ix2 i l) := by
  have ho := op_tile o wb wsb w ws i j l hw hs
  unfold MlpIdeal.Gen.k0_pay4 MlpReferenceIdeal.Gen.k0_pay5
  generalize MlpIdeal.Gen.k0_pay3 (padO o) wb (MlpIdeal.Gen.k0_pay18 o) wsb = A at ho ⊢
  generalize MlpReferenceIdeal.Gen.k0_pay4 o w ws = B at ho ⊢
  simp only [shapeCast_id]
  exact TileMath.add_at (TileMath.ext_at _ hx) ho

/-- A block of columns of the hidden layer. -/
theorem hid_tile (A : Vec Ideal MlpIdeal.S256x1536 .fp8e4m3) (B C : Vec Ideal MlpIdeal.S1536x512 .fp8e4m3)
    (S : Vec Ideal MlpIdeal.S240x1 .f32) (D E : Vec Ideal MlpIdeal.S1x512 .f32)
    (r : FVec Ideal MlpReferenceIdeal.S240x1536 .f32) (n : FVec Ideal MlpReferenceIdeal.S1x1536 .f32)
    (q : FVec Ideal MlpReferenceIdeal.S240x1 .f32)
    (wg : Vec Ideal MlpReferenceIdeal.S1536x6144 .fp8e4m3) (wgs : Vec Ideal MlpReferenceIdeal.S1x6144 .f32)
    (wu : Vec Ideal MlpReferenceIdeal.S1536x6144 .fp8e4m3) (wus : Vec Ideal MlpReferenceIdeal.S1x6144 .f32)
    (i : Fin 240) (j : Fin 512) (l : Fin 6144)
    (hg : MlpIdeal.Gen.k0_pay37 A B S D (ix2 i j) = MlpReferenceIdeal.Gen.k0_pay11 r n q wg wgs (ix2 i l))
    (hu : MlpIdeal.Gen.k0_pay38 A C S E (ix2 i j) = MlpReferenceIdeal.Gen.k0_pay12 r n q wu wus (ix2 i l)) :
    MlpIdeal.Gen.k0_pay8 (MlpIdeal.Gen.k0_pay39 A B S D A C S E) (ix2 i j) = MlpReferenceIdeal.Gen.k0_pay13 r n q wg wgs wu wus (ix2 i l) := by
  unfold MlpIdeal.Gen.k0_pay8 MlpIdeal.Gen.k0_pay39 MlpReferenceIdeal.Gen.k0_pay13
  generalize MlpIdeal.Gen.k0_pay37 A B S D = G at hg ⊢
  generalize MlpIdeal.Gen.k0_pay38 A C S E = U at hu ⊢
  generalize MlpReferenceIdeal.Gen.k0_pay11 r n q wg wgs = G' at hg ⊢
  generalize MlpReferenceIdeal.Gen.k0_pay12 r n q wu wus = U' at hu ⊢
  simp only [shapeCast_id]
  exact TileMath.silu_at hg hu

/-- A block of columns of the result. -/
theorem out_tile (H : Vec Ideal MlpIdeal.S256x6144 .fp8e4m3) (B : Vec Ideal MlpIdeal.S6144x256 .fp8e4m3) (S : Vec Ideal MlpIdeal.S240x1 .f32)
    (D : Vec Ideal MlpIdeal.S1x256 .f32) (xb : Vec Ideal MlpIdeal.S240x256 .f32)
    (r : FVec Ideal MlpReferenceIdeal.S240x1536 .f32) (h : FVec Ideal MlpReferenceIdeal.S240x6144 .f32) (q : FVec Ideal MlpReferenceIdeal.S240x1 .f32)
    (z : Ideal .f32) (w : Vec Ideal MlpReferenceIdeal.S6144x1536 .fp8e4m3) (ws : Vec Ideal MlpReferenceIdeal.S1x1536 .f32)
    (i : Fin 240) (j : Fin 256) (l : Fin 1536) (hx : xb (ix2 i j) = r (ix2 i l))
    (hd : MlpIdeal.Gen.k0_pay11 H B S D (ix2 i j) = MlpReferenceIdeal.Gen.k0_pay17 h q z w ws (ix2 i l)) :
    MlpIdeal.Gen.k0_pay12 H B S D xb (ix2 i j) = MlpReferenceIdeal.Gen.k0_pay18 r h q z w ws (ix2 i l) := by
  unfold MlpIdeal.Gen.k0_pay12 MlpReferenceIdeal.Gen.k0_pay18
  generalize MlpIdeal.Gen.k0_pay11 H B S D = G at hd ⊢
  generalize MlpReferenceIdeal.Gen.k0_pay17 h q z w ws = G' at hd ⊢
  exact TileMath.trunc_at _ (TileMath.add_at hx hd)

/-! ## Reading a block of columns -/

theorem colsX_apply (X : Vec Ideal MlpIdeal.S240x1536 .bf16) (k : ℕ) (i : Fin 240) (j : Fin 512) (l : Fin 1536)
    (hl : l.val = 512 * min k 2 + j.val) : View.ld X (colsX k) (ix2 i j) = X (ix2 i l) := by
  refine congrArg X ?_
  funext a
  match a with
  | ⟨0, _⟩ => exact Fin.ext (by show 0 + 1 * i.val = i.val; omega)
  | ⟨1, _⟩ => exact Fin.ext (by show 512 * min k 2 + 1 * j.val = l.val; omega)

theorem colsR_apply (X : Vec Ideal MlpIdeal.S240x1536 .f32) (k : ℕ) (i : Fin 240) (j : Fin 256) (l : Fin 1536)
    (hl : l.val = 256 * min k 5 + j.val) : View.ld X (colsR k) (ix2 i j) = X (ix2 i l) := by
  refine congrArg X ?_
  funext a
  match a with
  | ⟨0, _⟩ => exact Fin.ext (by show 0 + 1 * i.val = i.val; omega)
  | ⟨1, _⟩ => exact Fin.ext (by show 256 * min k 5 + 1 * j.val = l.val; omega)

end Cert.MlpValue
-- ==== Proof.MlpHost.lean ====
module

public import proofs.«01_k».proof.Proof.Gen.MlpIdeal.Frame
public import proofs.«01_k».proof.Proof.Gen.MlpReferenceIdeal.Frame

@[expose] public section

set_option maxRecDepth 16384

noncomputable section

/-! What the two programs' host operations leave in the arrays that the region reads: the argument with its two leading axes
    swapped and merged, or a vector as one row. -/

namespace Cert.MlpValue.MlpIdealHost

open Cert.MlpIdeal Cert.MlpIdeal.Gen
open Idealize.ShloMosaic Idealize.ShloMosaic.TcCoe Idealize.ShloMosaic.Tactic

variable (m : (ℓ : Loc nD τ sig) → Buf (Elt Ideal) ℓ) (c : Dev nD)

theorem o : (V m c main_v3 : Vec Ideal S240x3072 .f32) = shapeCast S240x3072
    (transpose S6x40x3072 [1, 0, 2] (m ((c.tc : Thread nD τ).loc main_arg0) : Vec Ideal S40x6x3072 .f32) transposes_S40x6x3072_S6x40x3072_1_0_2)
    shapeCasts_S6x40x3072_S240x3072 := by
  entry_read
  rfl

theorem x : (V m c main_v1 : Vec Ideal S240x1536 .bf16) = shapeCast S240x1536
    (transpose S6x40x1536 [1, 0, 2] (m ((c.tc : Thread nD τ).loc main_arg1) : Vec Ideal S40x6x1536 .bf16) transposes_S40x6x1536_S6x40x1536_1_0_2)
    shapeCasts_S6x40x1536_S240x1536 := by
  entry_read
  rfl

theorem v4 : (V m c main_v4 : Vec Ideal S1x1536 .f32) = shapeCast S1x1536
    (m ((c.tc : Thread nD τ).loc main_arg3) : Vec Ideal S1536 .f32) shapeCasts_S1536_S1x1536 := by
  entry_read
  rfl

theorem v5 : (V m c main_v5 : Vec Ideal S1x1536 .f32) = shapeCast S1x1536
    (m ((c.tc : Thread nD τ).loc main_arg4) : Vec Ideal S1536 .f32) shapeCasts_S1536_S1x1536 := by
  entry_read
  rfl

theorem v6 : (V m c main_v6 : Vec Ideal S1x6144 .f32) = shapeCast S1x6144
    (m ((c.tc : Thread nD τ).loc main_arg6) : Vec Ideal S6144 .f32) shapeCasts_S6144_S1x6144 := by
  entry_read
  rfl

theorem v7 : (V m c main_v7 : Vec Ideal S1x6144 .f32) = shapeCast S1x6144
    (m ((c.tc : Thread nD τ).loc main_arg8) : Vec Ideal S6144 .f32) shapeCasts_S6144_S1x6144 := by
  entry_read
  rfl

theorem v8 : (V m c main_v8 : Vec Ideal S1x1536 .f32) = shapeCast S1x1536
    (m ((c.tc : Thread nD τ).loc main_arg10) : Vec Ideal S1536 .f32) shapeCasts_S1536_S1x1536 := by
  entry_read
  rfl

end Cert.MlpValue.MlpIdealHost

namespace Cert.MlpValue.MlpReferenceIdealHost

open Cert.MlpReferenceIdeal Cert.MlpReferenceIdeal.Gen
open Idealize.ShloMosaic Idealize.ShloMosaic.TcCoe Idealize.ShloMosaic.Tactic

variable (m : (ℓ : Loc nD τ sig) → Buf (Elt Ideal) ℓ) (c : Dev nD)

theorem o : (V m c main_v1 : Vec Ideal S240x3072 .f32) = shapeCast S240x3072
    (transpose S6x40x3072 [1, 0, 2] (m ((c.tc : Thread nD τ).loc main_arg0) : Vec Ideal S40x6x3072 .f32) transposes_S40x6x3072_S6x40x3072_1_0_2)
    shapeCasts_S6x40x3072_S240x3072 := by
  entry_read
  rfl

theorem x : (V m c main_v3 : Vec Ideal S240x1536 .bf16) = shapeCast S240x1536
    (transpose S6x40x1536 [1, 0, 2] (m ((c.tc : Thread nD τ).loc main_arg1) : Vec Ideal S40x6x1536 .bf16) transposes_S40x6x1536_S6x40x1536_1_0_2)
    shapeCasts_S6x40x1536_S240x1536 := by
  entry_read
  rfl

theorem v4 : (V m c main_v4 : Vec Ideal S1x1536 .f32) = shapeCast S1x1536
    (m ((c.tc : Thread nD τ).loc main_arg3) : Vec Ideal S1536 .f32) shapeCasts_S1536_S1x1536 := by
  entry_read
  rfl

theorem v5 : (V m c main_v5 : Vec Ideal S1x1536 .f32) = shapeCast S1x1536
    (m ((c.tc : Thread nD τ).loc main_arg4) : Vec Ideal S1536 .f32) shapeCasts_S1536_S1x1536 := by
  entry_read
  rfl

theorem v6 : (V m c main_v6 : Vec Ideal S1x6144 .f32) = shapeCast S1x6144
    (m ((c.tc : Thread nD τ).loc main_arg6) : Vec Ideal S6144 .f32) shapeCasts_S6144_S1x6144 := by
  entry_read
  rfl

theorem v7 : (V m c main_v7 : Vec Ideal S1x6144 .f32) = shapeCast S1x6144
    (m ((c.tc : Thread nD τ).loc main_arg8) : Vec Ideal S6144 .f32) shapeCasts_S6144_S1x6144 := by
  entry_read
  rfl

theorem v8 : (V m c main_v8 : Vec Ideal S1x1536 .f32) = shapeCast S1x1536
    (m ((c.tc : Thread nD τ).loc main_arg10) : Vec Ideal S1536 .f32) shapeCasts_S1536_S1x1536 := by
  entry_read
  rfl

end Cert.MlpValue.MlpReferenceIdealHost
-- ==== Proof.MlpBlocks.lean ====
module

public import proofs.«01_k».proof.Proof.MlpIdealDat
public import proofs.«01_k».proof.Proof.Gen.MlpReferenceIdeal.Frame
public import proofs.«01_k».proof.Proof.MlpHost
public import Idealize.ShloMosaic.Lib.Pipeline.ValueKit.Geometry
public import Idealize.ShloMosaic.Lib.Pointwise

@[expose] public section

set_option maxRecDepth 16384

noncomputable section

/-! The blocks that the kernel reads, as columns of the arrays; and the reference's arrays, which are the same. -/

namespace Cert.MlpValue

open Cert.MlpIdeal Cert.MlpIdeal.Gen Cert.MlpIdeal.Hand
open Idealize.ShloMosaic Idealize.ShloMosaic.TcCoe Idealize.ShloMosaic.Tactic
open Idealize.SL.Sem

variable (m : (ℓ : Loc nD τ sig) → Buf (Elt Ideal) ℓ) (c : Dev nD)

/-! ## The arrays, as the region finds them -/

abbrev aO : Vec Ideal S240x3072 .f32 := V m c main_v3
abbrev aX : Vec Ideal S240x1536 .bf16 := V m c main_v1
abbrev aW : Vec Ideal MlpReferenceIdeal.S3072x1536 .fp8e4m3 := V m c main_arg2
abbrev aWs : Vec Ideal S1x1536 .f32 := V m c main_v4
abbrev aN : Vec Ideal S1x1536 .f32 := V m c main_v5
abbrev aG : Vec Ideal MlpReferenceIdeal.S1536x6144 .fp8e4m3 := V m c main_arg5
abbrev aGs : Vec Ideal MlpReferenceIdeal.S1x6144 .f32 := V m c main_v6
abbrev aU : Vec Ideal MlpReferenceIdeal.S1536x6144 .fp8e4m3 := V m c main_arg7
abbrev aUs : Vec Ideal MlpReferenceIdeal.S1x6144 .f32 := V m c main_v7
abbrev aD : Vec Ideal MlpReferenceIdeal.S6144x1536 .fp8e4m3 := V m c main_arg9
abbrev aDs : Vec Ideal S1x1536 .f32 := V m c main_v8

/-! ## The kernel's blocks -/

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_4 : ∀ t : Fin cfg0.N, win0_4.index t = ![0, 0] := (by decide +kernel : ∀ t : Fin grid0.N, _)
theorem index_2 : ∀ t : Fin cfg0.N, win0_2.index t = ![0, min t.val 2] := (by decide +kernel : ∀ t : Fin grid0.N, _)
theorem index_3 : ∀ t : Fin cfg0.N, win0_3.index t = ![0, min t.val 2] := (by decide +kernel : ∀ t : Fin grid0.N, _)
theorem index_5 : ∀ t : Fin cfg0.N, win0_5.index t = ![0, min (t.val - 3) 11] := (by decide +kernel : ∀ t : Fin grid0.N, _)
theorem index_6 : ∀ t : Fin cfg0.N, win0_6.index t = ![0, min (t.val - 3) 11] := (by decide +kernel : ∀ t : Fin grid0.N, _)
theorem index_7 : ∀ t : Fin cfg0.N, win0_7.index t = ![0, min (t.val - 3) 11] := (by decide +kernel : ∀ t : Fin grid0.N, _)
theorem index_8 : ∀ t : Fin cfg0.N, win0_8.index t = ![0, min (t.val - 3) 11] := (by decide +kernel : ∀ t : Fin grid0.N, _)
theorem index_9 : ∀ t : Fin cfg0.N, win0_9.index t = ![0, t.val - 15] := (by decide +kernel : ∀ t : Fin grid0.N, _)
theorem index_10 : ∀ t : Fin cfg0.N, win0_10.index t = ![0, t.val - 15] := (by decide +kernel : ∀ t : Fin grid0.N, _)

theorem blk_0 (t : Fin cfg0.N) : iblk m c 0 t = aO m c := by
  funext x
  blk_simp [iblk]
  refine congrArg (V m c main_v3) ?_
  blk_ext [index_0]

theorem blk_1 (t : Fin cfg0.N) : iblk m c 1 t = aX m c := by
  funext x
  blk_simp [iblk]
  refine congrArg (V m c main_v1) ?_
  blk_ext [index_1]

theorem blk_4 (t : Fin cfg0.N) : iblk m c 4 t = aN m c := by
  funext x
  blk_simp [iblk]
  refine congrArg (V m c main_v5) ?_
  blk_ext [index_4]

theorem blk_2 (t : Fin cfg0.N) (k : Fin 3072) (j : Fin 512) (l : Fin 1536) (hl : l.val = 512 * min t.val 2 + j.val) :
    iblk m c 2 t (ix2 k j) = aW m c (ix2 k l) := by
  blk_simp [iblk]
  refine congrArg (V m c main_arg2) ?_
  blk_ext [index_2]

theorem blk_3 (t : Fin cfg0.N) (j : Fin 512) (l : Fin 1536) (hl : l.val = 512 * min t.val 2 + j.val) :
    iblk m c 3 t (ix2 0 j) = aWs m c (ix2 0 l) := by
  blk_simp [iblk]
  refine congrArg (V m c main_v4) ?_
  blk_ext [index_3]

theorem blk_5 (t : Fin cfg0.N) (k : Fin 1536) (j : Fin 512) (l : Fin 6144) (hl : l.val = 512 * min (t.val - 3) 11 + j.val) :
    iblk m c 5 t (ix2 k j) = aG m c (ix2 k l) := by
  blk_simp [iblk]
  refine congrArg (V m c main_arg5) ?_
  blk_ext [index_5]

theorem blk_7 (t : Fin cfg0.N) (k : Fin 1536) (j : Fin 512) (l : Fin 6144) (hl : l.val = 512 * min (t.val - 3) 11 + j.val) :
    iblk m c 7 t (ix2 k j) = aU m c (ix2 k l) := by
  blk_simp [iblk]
  refine congrArg (V m c main_arg7) ?_
  blk_ext [index_7]

theorem blk_6 (t : Fin cfg0.N) (j : Fin 512) (l : Fin 6144) (hl : l.val = 512 * min (t.val - 3) 11 + j.val) :
    iblk m c 6 t (ix2 0 j) = aGs m c (ix2 0 l) := by
  blk_simp [iblk]
  refine congrArg (V m c main_v6) ?_
  blk_ext [index_6]

theorem blk_8 (t : Fin cfg0.N) (j : Fin 512) (l : Fin 6144) (hl : l.val = 512 * min (t.val - 3) 11 + j.val) :
    iblk m c 8 t (ix2 0 j) = aUs m c (ix2 0 l) := by
  blk_simp [iblk]
  refine congrArg (V m c main_v7) ?_
  blk_ext [index_8]

theorem blk_9 (t : Fin cfg0.N) (k : Fin 6144) (j : Fin 256) (l : Fin 1536) (hl : l.val = 256 * (t.val - 15) + j.val) :
    iblk m c 9 t (ix2 k j) = aD m c (ix2 k l) := by
  blk_simp [iblk]
  refine congrArg (V m c main_arg9) ?_
  blk_ext [index_9]

theorem blk_10 (t : Fin cfg0.N) (j : Fin 256) (l : Fin 1536) (hl : l.val = 256 * (t.val - 15) + j.val) :
    iblk m c 10 t (ix2 0 j) = aDs m c (ix2 0 l) := by
  blk_simp [iblk]
  refine congrArg (V m c main_v8) ?_
  blk_ext [index_10]

/-! ## The reference's arrays -/

section Reference

variable (m' : (ℓ : Loc MlpReferenceIdeal.nD MlpReferenceIdeal.τ MlpReferenceIdeal.sig) → Buf (Elt Ideal) ℓ)

/-- The two programs are launched with the same arguments. -/
def Same (c : Dev nD) : Prop :=
  m' ((c.tc : Thread MlpReferenceIdeal.nD MlpReferenceIdeal.τ).loc MlpReferenceIdeal.main_arg0) = m ((c.tc : Thread nD τ).loc main_arg0)
  ∧ m' ((c.tc : Thread MlpReferenceIdeal.nD MlpReferenceIdeal.τ).loc MlpReferenceIdeal.main_arg1) = m ((c.tc : Thread nD τ).loc main_arg1)
  ∧ m' ((c.tc : Thread MlpReferenceIdeal.nD MlpReferenceIdeal.τ).loc MlpReferenceIdeal.main_arg2) = m ((c.tc : Thread nD τ).loc main_arg2)
  ∧ m' ((c.tc : Thread MlpReferenceIdeal.nD MlpReferenceIdeal.τ).loc MlpReferenceIdeal.main_arg3) = m ((c.tc : Thread nD τ).loc main_arg3)
  ∧ m' ((c.tc : Thread MlpReferenceIdeal.nD MlpReferenceIdeal.τ).loc MlpReferenceIdeal.main_arg4) = m ((c.tc : Thread nD τ).loc main_arg4)
  ∧ m' ((c.tc : Thread MlpReferenceIdeal.nD MlpReferenceIdeal.τ).loc MlpReferenceIdeal.main_arg5) = m ((c.tc : Thread nD τ).loc main_arg5)
  ∧ m' ((c.tc : Thread MlpReferenceIdeal.nD MlpReferenceIdeal.τ).loc MlpReferenceIdeal.main_arg6) = m ((c.tc : Thread nD τ).loc main_arg6)
  ∧ m' ((c.tc : Thread MlpReferenceIdeal.nD MlpReferenceIdeal.τ).loc MlpReferenceIdeal.main_arg7) = m ((c.tc : Thread nD τ).loc main_arg7)
  ∧ m' ((c.tc : Thread MlpReferenceIdeal.nD MlpReferenceIdeal.τ).loc MlpReferenceIdeal.main_arg8) = m ((c.tc : Thread nD τ).loc main_arg8)
  ∧ m' ((c.tc : Thread MlpReferenceIdeal.nD MlpReferenceIdeal.τ).loc MlpReferenceIdeal.main_arg9) = m ((c.tc : Thread nD τ).loc main_arg9)
  ∧ m' ((c.tc : Thread MlpReferenceIdeal.nD MlpReferenceIdeal.τ).loc MlpReferenceIdeal.main_arg10) = m ((c.tc : Thread nD τ).loc main_arg10)

variable {m m'} {c : Dev nD} (h : Same m m' c)

theorem ref_index_0 : ∀ t : Fin MlpReferenceIdeal.cfg0.N, MlpReferenceIdeal.win0_0.index t = ![0, 0] := (by decide +kernel : ∀ t : Fin MlpReferenceIdeal.grid0.N, _)
theorem ref_index_1 : ∀ t : Fin MlpReferenceIdeal.cfg0.N, MlpReferenceIdeal.win0_1.index t = ![0, 0] := (by decide +kernel : ∀ t : Fin MlpReferenceIdeal.grid0.N, _)
theorem ref_index_2 : ∀ t : Fin MlpReferenceIdeal.cfg0.N, MlpReferenceIdeal.win0_2.index t = ![0, 0] := (by decide +kernel : ∀ t : Fin MlpReferenceIdeal.grid0.N, _)
theorem ref_index_3 : ∀ t : Fin MlpReferenceIdeal.cfg0.N, MlpReferenceIdeal.win0_3.index t = ![0, 0] := (by decide +kernel : ∀ t : Fin MlpReferenceIdeal.grid0.N, _)
theorem ref_index_4 : ∀ t : Fin MlpReferenceIdeal.cfg0.N, MlpReferenceIdeal.win0_4.index t = ![0, 0] := (by decide +kernel : ∀ t : Fin MlpReferenceIdeal.grid0.N, _)
theorem ref_index_5 : ∀ t : Fin MlpReferenceIdeal.cfg0.N, MlpReferenceIdeal.win0_5.index t = ![0, 0] := (by decide +kernel : ∀ t : Fin MlpReferenceIdeal.grid0.N, _)
theorem ref_index_6 : ∀ t : Fin MlpReferenceIdeal.cfg0.N, MlpReferenceIdeal.win0_6.index t = ![0, 0] := (by decide +kernel : ∀ t : Fin MlpReferenceIdeal.grid0.N, _)
theorem ref_index_7 : ∀ t : Fin MlpReferenceIdeal.cfg0.N, MlpReferenceIdeal.win0_7.index t = ![0, 0] := (by decide +kernel : ∀ t : Fin MlpReferenceIdeal.grid0.N, _)
theorem ref_index_8 : ∀ t : Fin MlpReferenceIdeal.cfg0.N, MlpReferenceIdeal.win0_8.index t = ![0, 0] := (by decide +kernel : ∀ t : Fin MlpReferenceIdeal.grid0.N, _)
theorem ref_index_9 : ∀ t : Fin MlpReferenceIdeal.cfg0.N, MlpReferenceIdeal.win0_9.index t = ![0, 0] := (by decide +kernel : ∀ t : Fin MlpReferenceIdeal.grid0.N, _)
theorem ref_index_10 : ∀ t : Fin MlpReferenceIdeal.cfg0.N, MlpReferenceIdeal.win0_10.index t = ![0, 0] := (by decide +kernel : ∀ t : Fin MlpReferenceIdeal.grid0.N, _)

include h

theorem ref_0 (t : Fin MlpReferenceIdeal.cfg0.N) : MlpReferenceIdeal.Gen.iblk m' c 0 t = aO m c := by
  obtain ⟨h0, h1, h2, h3, h4, h5, h6, h7, h8, h9, h10⟩ := h
  refine Eq.trans ?_ ((MlpReferenceIdealHost.o m' c).trans (Eq.trans (by rw [h0]) (MlpIdealHost.o m c).symm))
  funext x
  blk_simp [MlpReferenceIdeal.Gen.iblk]
  refine congrArg (MlpReferenceIdeal.Gen.V m' c MlpReferenceIdeal.main_v1) ?_
  blk_ext [ref_index_0]

theorem ref_1 (t : Fin MlpReferenceIdeal.cfg0.N) : MlpReferenceIdeal.Gen.iblk m' c 1 t = aX m c := by
  obtain ⟨h0, h1, h2, h3, h4, h5, h6, h7, h8, h9, h10⟩ := h
  refine Eq.trans ?_ ((MlpReferenceIdealHost.x m' c).trans (Eq.trans (by rw [h1]) (MlpIdealHost.x m c).symm))
  funext x
  blk_simp [MlpReferenceIdeal.Gen.iblk]
  refine congrArg (MlpReferenceIdeal.Gen.V m' c MlpReferenceIdeal.main_v3) ?_
  blk_ext [ref_index_1]

theorem ref_2 (t : Fin MlpReferenceIdeal.cfg0.N) : MlpReferenceIdeal.Gen.iblk m' c 2 t = aW m c := by
  obtain ⟨h0, h1, h2, h3, h4, h5, h6, h7, h8, h9, h10⟩ := h
  refine Eq.trans ?_ ((MlpReferenceIdeal.Gen.V_main_arg2 m' c).trans (h2.trans (V_main_arg2 m c).symm))
  funext x
  blk_simp [MlpReferenceIdeal.Gen.iblk]
  refine congrArg (MlpReferenceIdeal.Gen.V m' c MlpReferenceIdeal.main_arg2) ?_
  blk_ext [ref_index_2]

theorem ref_3 (t : Fin MlpReferenceIdeal.cfg0.N) : MlpReferenceIdeal.Gen.iblk m' c 3 t = aWs m c := by
  obtain ⟨h0, h1, h2, h3, h4, h5, h6, h7, h8, h9, h10⟩ := h
  refine Eq.trans ?_ ((MlpReferenceIdealHost.v4 m' c).trans (Eq.trans (by rw [h3]) (MlpIdealHost.v4 m c).symm))
  funext x
  blk_simp [MlpReferenceIdeal.Gen.iblk]
  refine congrArg (MlpReferenceIdeal.Gen.V m' c MlpReferenceIdeal.main_v4) ?_
  blk_ext [ref_index_3]

theorem ref_4 (t : Fin MlpReferenceIdeal.cfg0.N) : MlpReferenceIdeal.Gen.iblk m' c 4 t = aN m c := by
  obtain ⟨h0, h1, h2, h3, h4, h5, h6, h7, h8, h9, h10⟩ := h
  refine Eq.trans ?_ ((MlpReferenceIdealHost.v5 m' c).trans (Eq.trans (by rw [h4]) (MlpIdealHost.v5 m c).symm))
  funext x
  blk_simp [MlpReferenceIdeal.Gen.iblk]
  refine congrArg (MlpReferenceIdeal.Gen.V m' c MlpReferenceIdeal.main_v5) ?_
  blk_ext [ref_index_4]

theorem ref_5 (t : Fin MlpReferenceIdeal.cfg0.N) : MlpReferenceIdeal.Gen.iblk m' c 5 t = aG m c := by
  obtain ⟨h0, h1, h2, h3, h4, h5, h6, h7, h8, h9, h10⟩ := h
  refine Eq.trans ?_ ((MlpReferenceIdeal.Gen.V_main_arg5 m' c).trans (h5.trans (V_main_arg5 m c).symm))
  funext x
  blk_simp [MlpReferenceIdeal.Gen.iblk]
  refine congrArg (MlpReferenceIdeal.Gen.V m' c MlpReferenceIdeal.main_arg5) ?_
  blk_ext [ref_index_5]

theorem ref_6 (t : Fin MlpReferenceIdeal.cfg0.N) : MlpReferenceIdeal.Gen.iblk m' c 6 t = aGs m c := by
  obtain ⟨h0, h1, h2, h3, h4, h5, h6, h7, h8, h9, h10⟩ := h
  refine Eq.trans ?_ ((MlpReferenceIdealHost.v6 m' c).trans (Eq.trans (by rw [h6]) (MlpIdealHost.v6 m c).symm))
  funext x
  blk_simp [MlpReferenceIdeal.Gen.iblk]
  refine congrArg (MlpReferenceIdeal.Gen.V m' c MlpReferenceIdeal.main_v6) ?_
  blk_ext [ref_index_6]

theorem ref_7 (t : Fin MlpReferenceIdeal.cfg0.N) : MlpReferenceIdeal.Gen.iblk m' c 7 t = aU m c := by
  obtain ⟨h0, h1, h2, h3, h4, h5, h6, h7, h8, h9, h10⟩ := h
  refine Eq.trans ?_ ((MlpReferenceIdeal.Gen.V_main_arg7 m' c).trans (h7.trans (V_main_arg7 m c).symm))
  funext x
  blk_simp [MlpReferenceIdeal.Gen.iblk]
  refine congrArg (MlpReferenceIdeal.Gen.V m' c MlpReferenceIdeal.main_arg7) ?_
  blk_ext [ref_index_7]

theorem ref_8 (t : Fin MlpReferenceIdeal.cfg0.N) : MlpReferenceIdeal.Gen.iblk m' c 8 t = aUs m c := by
  obtain ⟨h0, h1, h2, h3, h4, h5, h6, h7, h8, h9, h10⟩ := h
  refine Eq.trans ?_ ((MlpReferenceIdealHost.v7 m' c).trans (Eq.trans (by rw [h8]) (MlpIdealHost.v7 m c).symm))
  funext x
  blk_simp [MlpReferenceIdeal.Gen.iblk]
  refine congrArg (MlpReferenceIdeal.Gen.V m' c MlpReferenceIdeal.main_v7) ?_
  blk_ext [ref_index_8]

theorem ref_9 (t : Fin MlpReferenceIdeal.cfg0.N) : MlpReferenceIdeal.Gen.iblk m' c 9 t = aD m c := by
  obtain ⟨h0, h1, h2, h3, h4, h5, h6, h7, h8, h9, h10⟩ := h
  refine Eq.trans ?_ ((MlpReferenceIdeal.Gen.V_main_arg9 m' c).trans (h9.trans (V_main_arg9 m c).symm))
  funext x
  blk_simp [MlpReferenceIdeal.Gen.iblk]
  refine congrArg (MlpReferenceIdeal.Gen.V m' c MlpReferenceIdeal.main_arg9) ?_
  blk_ext [ref_index_9]

theorem ref_10 (t : Fin MlpReferenceIdeal.cfg0.N) : MlpReferenceIdeal.Gen.iblk m' c 10 t = aDs m c := by
  obtain ⟨h0, h1, h2, h3, h4, h5, h6, h7, h8, h9, h10⟩ := h
  refine Eq.trans ?_ ((MlpReferenceIdealHost.v8 m' c).trans (Eq.trans (by rw [h10]) (MlpIdealHost.v8 m c).symm))
  funext x
  blk_simp [MlpReferenceIdeal.Gen.iblk]
  refine congrArg (MlpReferenceIdeal.Gen.V m' c MlpReferenceIdeal.main_v8) ?_
  blk_ext [ref_index_10]

end Reference

end Cert.MlpValue
-- ==== Proof.MlpValue.lean ====
module

public import proofs.«01_k».proof.Proof.MlpMath
public import proofs.«01_k».proof.Proof.MlpBlocks

@[expose] public section

set_option maxRecDepth 16384

noncomputable section

/-! What the kernel's buffers hold, as the reference's functions of the arrays. -/

namespace Cert.MlpValue

open Cert.MlpIdeal Cert.MlpIdeal.Gen Cert.MlpIdeal.Hand
open Idealize.ShloMosaic Idealize.ShloMosaic.TcCoe Idealize.ShloMosaic.Tactic
open Idealize.SL.Sem

variable (m : (ℓ : Loc nD τ sig) → Buf (Elt Ideal) ℓ) (c : Dev nD)

/-! ## The reference's stages, of the arrays -/

/-- The product of `o`. -/
def rOP : FVec Ideal S240x1536 .f32 := MlpReferenceIdeal.Gen.k0_pay4 (aO m c) (aW m c) (aWs m c)
/-- The residual. -/
abbrev rR : FVec Ideal S240x1536 .f32 := res (aO m c) (aW m c) (aWs m c) (aX m c)
/-- The reciprocal root mean square. -/
abbrev rQ : FVec Ideal S240x1 .f32 := rms (aO m c) (aW m c) (aWs m c) (aX m c)
/-- The normalisation weight. -/
abbrev rN : FVec Ideal S1x1536 .f32 := nwt (aN m c)
/-- The gate product. -/
def rG : FVec Ideal S240x6144 .f32 := MlpReferenceIdeal.Gen.k0_pay11 (rR m c) (rN m c) (rQ m c) (aG m c) (aGs m c)
/-- The up product. -/
def rU : FVec Ideal S240x6144 .f32 := MlpReferenceIdeal.Gen.k0_pay12 (rR m c) (rN m c) (rQ m c) (aU m c) (aUs m c)
/-- The hidden layer. -/
abbrev rH : FVec Ideal S240x6144 .f32 := hid (rR m c) (rN m c) (rQ m c) (aG m c) (aGs m c) (aU m c) (aUs m c)
/-- Its row maxima. -/
abbrev rM : FVec Ideal S240x1 .f32 := hmx (rR m c) (rN m c) (rQ m c) (aG m c) (aGs m c) (aU m c) (aUs m c)
/-- The product of the hidden layer. -/
def rD : FVec Ideal S240x1536 .f32 :=
  MlpReferenceIdeal.Gen.k0_pay17 (rH m c) (rM m c) (Scalar.ofBits .f32 0x00000000#32) (aD m c) (aDs m c)
/-- The result. -/
def rOut : FVec Ideal S240x1536 .bf16 :=
  MlpReferenceIdeal.Gen.k0_pay18 (rR m c) (rH m c) (rM m c) (Scalar.ofBits .f32 0x00000000#32) (aD m c) (aDs m c)

/-! ## The kernel's buffers -/

theorem vO_eq : vO m c = aO m c := blk_0 m c _
theorem vW_eq : vW m c = aN m c := blk_4 m c _

theorem pt_le (k : ℕ) (h : k ≤ 20) : (pt k).val = k := Nat.min_eq_left h

theorem vOP_apply (t : Fin cfg0.N) (i : Fin 240) (j : Fin 512) (l : Fin 1536) (hl : l.val = 512 * min t.val 2 + j.val) :
    vOP m c t (ix2 i j) = rOP m c (ix2 i l) := by
  unfold vOP rOP
  rw [vO_eq]
  exact op_tile _ _ _ _ _ i j l (fun k => blk_2 m c t k j l hl) (blk_3 m c t j l hl)

theorem vRb_apply (k : ℕ) (hk : k < 3) (i : Fin 240) (j : Fin 512) (l : Fin 1536) (hl : l.val = 512 * k + j.val) :
    vRb m c k (ix2 i j) = rR m c (ix2 i l) := by
  have hp : min (pt k).val 2 = k := by rw [pt_le k (by omega)]; omega
  unfold vRb rR
  rw [vO_eq, blk_1]
  exact res_tile (aO m c) (iblk m c 2 (pt k)) (iblk m c 3 (pt k)) (aW m c) (aWs m c) (View.ld (aX m c) (colsX k)) (aX m c) i j l
    (fun k' => blk_2 m c (pt k) k' j l (by rw [hp]; exact hl)) (blk_3 m c (pt k) j l (by rw [hp]; exact hl))
    (colsX_apply (aX m c) k i j l (by omega))

theorem vR_eq : vR m c = rR m c := by
  funext x
  have h1 : (x 1).val < 1536 := (x 1).isLt
  refine (vRb_apply m c ((x 1).val / 512) (by omega) (x 0) ⟨(x 1).val % 512, Nat.mod_lt _ (by norm_num)⟩ (x 1)
    (by show (x 1).val = 512 * ((x 1).val / 512) + (x 1).val % 512; omega)).trans ?_
  exact congrArg (rR m c) (eq_ix2 x).symm

theorem vG_apply (t : Fin cfg0.N) (i : Fin 240) (j : Fin 512) (l : Fin 6144) (hl : l.val = 512 * min (t.val - 3) 11 + j.val) :
    vG m c t (ix2 i j) = rG m c (ix2 i l) := by
  unfold vG vA vAs rG
  rw [vR_eq, vW_eq]
  exact gate_tile _ _ _ _ _ _ _ _ _ i j l (fun k => blk_5 m c t k j l hl) (blk_6 m c t j l hl)

theorem vU_apply (t : Fin cfg0.N) (i : Fin 240) (j : Fin 512) (l : Fin 6144) (hl : l.val = 512 * min (t.val - 3) 11 + j.val) :
    vU m c t (ix2 i j) = rU m c (ix2 i l) := by
  unfold vU vA vAs rU
  rw [vR_eq, vW_eq]
  exact up_tile _ _ _ _ _ _ _ _ _ i j l (fun k => blk_7 m c t k j l hl) (blk_8 m c t j l hl)

theorem vHb_apply (k : ℕ) (hk : k < 12) (i : Fin 240) (j : Fin 512) (l : Fin 6144) (hl : l.val = 512 * k + j.val) :
    vHb m c k (ix2 i j) = rH m c (ix2 i l) := by
  have hp : min ((pt (k + 3)).val - 3) 11 = k := by rw [pt_le (k + 3) (by omega)]; omega
  have hg := vG_apply m c (pt (k + 3)) i j l (by rw [hp]; exact hl)
  have hu := vU_apply m c (pt (k + 3)) i j l (by rw [hp]; exact hl)
  unfold vHb rH
  exact hid_tile _ _ _ _ _ _ _ _ _ _ _ _ _ i j l hg hu

theorem vH_eq : vH m c = rH m c := by
  funext x
  have h1 : (x 1).val < 6144 := (x 1).isLt
  refine (vHb_apply m c ((x 1).val / 512) (by omega) (x 0) ⟨(x 1).val % 512, Nat.mod_lt _ (by norm_num)⟩ (x 1)
    (by show (x 1).val = 512 * ((x 1).val / 512) + (x 1).val % 512; omega)).trans ?_
  exact congrArg (rH m c) (eq_ix2 x).symm

theorem vMD_apply (t : Fin cfg0.N) (i : Fin 240) (j : Fin 256) (l : Fin 1536) (hl : l.val = 256 * (t.val - 15) + j.val) :
    vMD m c t (ix2 i j) = rD m c (ix2 i l) := by
  unfold vMD vHc vHs rD
  rw [vH_eq]
  exact down_tile _ _ _ _ _ _ _ _ _ _ _ i j l (fun k => blk_9 m c t k j l hl) (blk_10 m c t j l hl)

theorem vOut_apply (t : Fin cfg0.N) (i : Fin 240) (j : Fin 256) (l : Fin 1536) (hl : l.val = 256 * (t.val - 15) + j.val) :
    vOut m c t (ix2 i j) = rOut m c (ix2 i l) := by
  have ht : t.val < 21 := lt_of_lt_of_eq t.isLt N_0
  have hd := vMD_apply m c t i j l hl
  unfold vOut rOut
  rw [vR_eq]
  exact out_tile _ _ _ _ _ _ _ _ _ _ _ i j l (colsR_apply (rR m c) (t.val - 15) i j l (by omega)) hd

end Cert.MlpValue
-- ==== Proof.MlpFinal.lean ====
module

public import proofs.«01_k».proof.Proof.MlpValue
public import proofs.«01_k».proof.Proof.MlpIdealBody

@[expose] public section

set_option maxRecDepth 16384

noncomputable section

/-! What the kernel's result arrays hold after the run. -/

namespace Cert.MlpValue

open Cert.MlpIdeal Cert.MlpIdeal.Gen Cert.MlpIdeal.Hand
open Idealize.ShloMosaic Idealize.ShloMosaic.TcCoe Idealize.ShloMosaic.Tactic
open Idealize.SL.Sem

variable (m : (ℓ : Loc nD τ sig) → Buf (Elt Ideal) ℓ) (c : Dev nD)

/-! ## The reference's results, of the arrays -/

/-- The codes of `o`. -/
def rOc : FVec Ideal S240x3072 .fp8e4m3 := MlpReferenceIdeal.Gen.k0_pay3 (aO m c)
/-- The scales of `o`. -/
def rOs : FVec Ideal S6x40 .f32 := MlpReferenceIdeal.Gen.k0_pay19 (MlpReferenceIdeal.Gen.k0_pay2 (aO m c))
/-- The codes of the normalised residual. -/
def rAc : FVec Ideal S240x1536 .fp8e4m3 := MlpReferenceIdeal.Gen.k0_pay10 (rR m c) (rN m c) (rQ m c)
/-- The scales of the normalised residual. -/
def rAs : FVec Ideal S6x40 .f32 := MlpReferenceIdeal.Gen.k0_pay20 (MlpReferenceIdeal.Gen.k0_pay9 (rR m c) (rN m c) (rQ m c))
/-- The codes of the hidden layer. -/
def rHc : FVec Ideal S240x6144 .fp8e4m3 := MlpReferenceIdeal.Gen.k0_pay16 (rH m c) (rM m c) (Scalar.ofBits .f32 0x00000000#32)
/-- The scales of the hidden layer. -/
def rHs : FVec Ideal S6x40 .f32 := MlpReferenceIdeal.Gen.k0_pay21 (rM m c) (Scalar.ofBits .f32 0x00000000#32)

/-! ## The whole buffers that the kernel stores once -/

theorem codes_o_eq : k0_pay15 (vO m c) = rOc m c := by
  unfold rOc
  rw [vO_eq, codes_o]

theorem rows_o_eq : rowsO (vO m c) = rOs m c := by
  unfold rOs MlpReferenceIdeal.Gen.k0_pay19
  rw [vO_eq, rows_o _ MlpReferenceIdeal.Gen.shapeCasts_S240x1_S6x40, scale_o]

theorem codes_a_eq : k0_pay28 (vR m c) (vW m c) = rAc m c := by
  unfold rAc
  rw [vR_eq, vW_eq, codes_a]

theorem rows_a_eq : rowsA (vR m c) (vW m c) = rAs m c := by
  unfold rAs MlpReferenceIdeal.Gen.k0_pay20
  rw [vR_eq, vW_eq, rows_a _ _ MlpReferenceIdeal.Gen.shapeCasts_S240x1_S6x40, scale_a]

theorem codes_h_eq : k0_pay41 (vH m c) = rHc m c := by
  unfold rHc
  rw [vH_eq, codes_h]

theorem rows_h_eq : rowsH (vH m c) = rHs m c := by
  unfold rHs MlpReferenceIdeal.Gen.k0_pay21
  rw [vH_eq, rows_h _ MlpReferenceIdeal.Gen.shapeCasts_S240x1_S6x40, scale_h]

/-! ## The arrays -/

theorem final_12 : (dats m 0 c).arrAt 12 cfg0.N = rOc m c := by
  refine (dats m 0 c).arrAt_eq_of_after_last 12 ⟨20, by decide⟩ (by decide +kernel) (rOc m c) fun j => ?_
  rw [after_12, codes_o_eq]
  generalize rOc m c = X
  refine (cast_eq _ _).trans (congrArg X (funext fun a => ?_))
  rfl

theorem final_13 : (dats m 0 c).arrAt 13 cfg0.N = rOs m c := by
  refine (dats m 0 c).arrAt_eq_of_after_last 13 ⟨20, by decide⟩ (by decide +kernel) (rOs m c) fun j => ?_
  rw [after_13, rows_o_eq]
  generalize rOs m c = X
  refine (cast_eq _ _).trans (congrArg X (funext fun a => ?_))
  rfl

theorem final_14 : (dats m 0 c).arrAt 14 cfg0.N = rAc m c := by
  refine (dats m 0 c).arrAt_eq_of_after_last 14 ⟨20, by decide⟩ (by decide +kernel) (rAc m c) fun j => ?_
  rw [after_14, codes_a_eq]
  generalize rAc m c = X
  refine (cast_eq _ _).trans (congrArg X (funext fun a => ?_))
  rfl

theorem final_15 : (dats m 0 c).arrAt 15 cfg0.N = rAs m c := by
  refine (dats m 0 c).arrAt_eq_of_after_last 15 ⟨20, by decide⟩ (by decide +kernel) (rAs m c) fun j => ?_
  rw [after_15, rows_a_eq]
  generalize rAs m c = X
  refine (cast_eq _ _).trans (congrArg X (funext fun a => ?_))
  rfl

theorem final_16 : (dats m 0 c).arrAt 16 cfg0.N = rHc m c := by
  refine (dats m 0 c).arrAt_eq_of_after_last 16 ⟨20, by decide⟩ (by decide +kernel) (rHc m c) fun j => ?_
  rw [after_16, codes_h_eq]
  generalize rHc m c = X
  refine (cast_eq _ _).trans (congrArg X (funext fun a => ?_))
  rfl

theorem final_17 : (dats m 0 c).arrAt 17 cfg0.N = rHs m c := by
  refine (dats m 0 c).arrAt_eq_of_after_last 17 ⟨20, by decide⟩ (by decide +kernel) (rHs m c) fun j => ?_
  rw [after_17, rows_h_eq]
  generalize rHs m c = X
  refine (cast_eq _ _).trans (congrArg X (funext fun a => ?_))
  rfl

theorem index_18 : ∀ t : Fin cfg0.N, win0_18.index t = ![0, min t.val 2] := (by decide +kernel : ∀ t : Fin grid0.N, _)
theorem index_19 : ∀ t : Fin cfg0.N, win0_19.index t = ![0, min (t.val - 3) 11] := (by decide +kernel : ∀ t : Fin grid0.N, _)
theorem index_20 : ∀ t : Fin cfg0.N, win0_20.index t = ![0, min (t.val - 3) 11] := (by decide +kernel : ∀ t : Fin grid0.N, _)
theorem index_11 : ∀ t : Fin cfg0.N, win0_11.index t = ![0, t.val - 15] := (by decide +kernel : ∀ t : Fin grid0.N, _)
theorem index_21 : ∀ t : Fin cfg0.N, win0_21.index t = ![0, t.val - 15] := (by decide +kernel : ∀ t : Fin grid0.N, _)

theorem final_18 : (dats m 0 c).arrAt 18 cfg0.N = rOP m c := by
  refine (dats m 0 c).arrAt_eq_of_covers 18 (rOP m c) (by decide +kernel) fun t hf y => ?_
  have ht : t.val < 21 := lt_of_lt_of_eq t.isLt N_0
  have hp : (pt (min t.val 2)).val = min t.val 2 := pt_le _ (by omega)
  have h1 : (y 1).val < 512 := (y 1).isLt
  blk_simp
  rw [after_18]
  refine (congrArg (vOP m c (pt (min t.val 2))) (eq_ix2 y)).trans
    ((vOP_apply m c (pt (min t.val 2)) (y 0) (y 1) ⟨512 * (min (pt (min t.val 2)).val 2) + (y 1).val, by omega⟩ rfl).trans (congrArg (rOP m c) ?_))
  simp only [hp]
  blk_ext [index_18]

theorem final_19 : (dats m 0 c).arrAt 19 cfg0.N = rG m c := by
  refine (dats m 0 c).arrAt_eq_of_covers 19 (rG m c) (by decide +kernel) fun t hf y => ?_
  have ht : t.val < 21 := lt_of_lt_of_eq t.isLt N_0
  have hp : (pt (min t.val 14)).val = min t.val 14 := pt_le _ (by omega)
  have h1 : (y 1).val < 512 := (y 1).isLt
  blk_simp
  rw [after_19]
  refine (congrArg (vG m c (pt (min t.val 14))) (eq_ix2 y)).trans
    ((vG_apply m c (pt (min t.val 14)) (y 0) (y 1) ⟨512 * (min ((pt (min t.val 14)).val - 3) 11) + (y 1).val, by omega⟩ rfl).trans (congrArg (rG m c) ?_))
  simp only [hp]
  blk_ext [index_19]

theorem final_20 : (dats m 0 c).arrAt 20 cfg0.N = rU m c := by
  refine (dats m 0 c).arrAt_eq_of_covers 20 (rU m c) (by decide +kernel) fun t hf y => ?_
  have ht : t.val < 21 := lt_of_lt_of_eq t.isLt N_0
  have hp : (pt (min t.val 14)).val = min t.val 14 := pt_le _ (by omega)
  have h1 : (y 1).val < 512 := (y 1).isLt
  blk_simp
  rw [after_20]
  refine (congrArg (vU m c (pt (min t.val 14))) (eq_ix2 y)).trans
    ((vU_apply m c (pt (min t.val 14)) (y 0) (y 1) ⟨512 * (min ((pt (min t.val 14)).val - 3) 11) + (y 1).val, by omega⟩ rfl).trans (congrArg (rU m c) ?_))
  simp only [hp]
  blk_ext [index_20]

theorem final_11 : (dats m 0 c).arrAt 11 cfg0.N = rOut m c := by
  refine (dats m 0 c).arrAt_eq_of_covers 11 (rOut m c) (by decide +kernel) fun t hf y => ?_
  have ht : t.val < 21 := lt_of_lt_of_eq t.isLt N_0
  have hp : (pt (max t.val 15)).val = max t.val 15 := pt_le _ (by omega)
  have h1 : (y 1).val < 256 := (y 1).isLt
  blk_simp
  rw [after_11]
  refine (congrArg (vOut m c (pt (max t.val 15))) (eq_ix2 y)).trans
    ((vOut_apply m c (pt (max t.val 15)) (y 0) (y 1) ⟨256 * (((pt (max t.val 15)).val - 15)) + (y 1).val, by omega⟩ rfl).trans (congrArg (rOut m c) ?_))
  simp only [hp]
  blk_ext [index_11]

theorem final_21 : (dats m 0 c).arrAt 21 cfg0.N = rD m c := by
  refine (dats m 0 c).arrAt_eq_of_covers 21 (rD m c) (by decide +kernel) fun t hf y => ?_
  have ht : t.val < 21 := lt_of_lt_of_eq t.isLt N_0
  have hp : (pt (max t.val 15)).val = max t.val 15 := pt_le _ (by omega)
  have h1 : (y 1).val < 256 := (y 1).isLt
  blk_simp
  rw [after_21]
  refine (congrArg (vMD m c (pt (max t.val 15))) (eq_ix2 y)).trans
    ((vMD_apply m c (pt (max t.val 15)) (y 0) (y 1) ⟨256 * (((pt (max t.val 15)).val - 15)) + (y 1).val, by omega⟩ rfl).trans (congrArg (rD m c) ?_))
  simp only [hp]
  blk_ext [index_21]

end Cert.MlpValue
-- ==== Proof.MlpRefFinal.lean ====
module

public import proofs.«01_k».proof.Proof.MlpFinal

@[expose] public section

set_option maxRecDepth 16384

noncomputable section

/-! What the reference's result arrays hold after its run. -/

namespace Cert.MlpValue

open Cert.MlpReferenceIdeal Cert.MlpReferenceIdeal.Gen
open Idealize.ShloMosaic Idealize.ShloMosaic.TcCoe Idealize.ShloMosaic.Tactic
open Idealize.SL.Sem

/-! ## Each result, of the blocks the one point reads -/

section Out

variable (x0 : Vec Ideal S240x3072 .f32) (x1 : Vec Ideal S240x1536 .bf16) (x2 : Vec Ideal S3072x1536 .fp8e4m3) (x3 : Vec Ideal S1x1536 .f32)
  (x4 : Vec Ideal S1x1536 .f32) (x5 : Vec Ideal S1536x6144 .fp8e4m3) (x6 : Vec Ideal S1x6144 .f32) (x7 : Vec Ideal S1536x6144 .fp8e4m3)
  (x8 : Vec Ideal S1x6144 .f32) (x9 : Vec Ideal S6144x1536 .fp8e4m3) (x10 : Vec Ideal S1x1536 .f32)

/-- A load of the whole buffer reads its contents. -/
theorem whole_ld {d : Fin 2 → ℕ} {e : EltTy} (X : Vec Ideal ⟨2, d⟩ e) (inb : ∀ a, (![0, 0] : Fin 2 → ℕ) a + d a ≤ d a) :
    View.ld X (Rect.unit (s := ⟨2, d⟩) ![0, 0] d inb) = X :=
  View.ld_unit_lit (S := ⟨2, d⟩) inb X MlpIdeal.Hand.zero2

/-- A store of the whole buffer leaves what it stores. -/
theorem whole_st {d : Fin 2 → ℕ} {e : EltTy} (w : Vec Ideal ⟨2, d⟩ e) (inb : ∀ a, (![0, 0] : Fin 2 → ℕ) a + d a ≤ d a) :
    View.canon [(⟨Rect.unit (s := ⟨2, d⟩) ![0, 0] d inb, w⟩ : View.Piece (Elt Ideal) (⟨2, d⟩ : Shape) e)] = w :=
  View.canon_unit_zero (S := ⟨2, d⟩) (funext MlpIdeal.Hand.zero2) inb w

theorem ld_0 : View.ld x0 r0_0 = x0 := whole_ld x0 _
theorem ld_1 : View.ld x1 r0_3 = x1 := whole_ld x1 _
theorem ld_2 : View.ld x2 r0_1 = x2 := whole_ld x2 _
theorem ld_3 : View.ld x3 r0_2 = x3 := whole_ld x3 _
theorem ld_5 : View.ld x5 r0_4 = x5 := whole_ld x5 _
theorem ld_6 : View.ld x6 r0_5 = x6 := whole_ld x6 _
theorem ld_9 : View.ld x9 r0_6 = x9 := whole_ld x9 _

theorem pay22_eq : k0_pay22 x0 x1 x2 x3 x4 x5 x6 x7 x8 x9 x10 = res x0 x2 x3 x1 := by
  unfold k0_pay22
  rw [ld_0, ld_1, ld_2, ld_3]
theorem pay23_eq : k0_pay23 x0 x1 x2 x3 x4 x5 x6 x7 x8 x9 x10 = nwt x4 := by
  unfold k0_pay23
  rw [ld_3]
theorem pay24_eq : k0_pay24 x0 x1 x2 x3 x4 x5 x6 x7 x8 x9 x10 = rms x0 x2 x3 x1 := by
  unfold k0_pay24
  rw [ld_0, ld_1, ld_2, ld_3]
theorem pay25_eq : k0_pay25 x0 x1 x2 x3 x4 x5 x6 x7 x8 x9 x10 = hid (res x0 x2 x3 x1) (nwt x4) (rms x0 x2 x3 x1) x5 x6 x7 x8 := by
  unfold k0_pay25
  rw [pay22_eq, pay23_eq, pay24_eq, ld_5, ld_5, ld_6, ld_6]
theorem pay26_eq : k0_pay26 x0 x1 x2 x3 x4 x5 x6 x7 x8 x9 x10 = hmx (res x0 x2 x3 x1) (nwt x4) (rms x0 x2 x3 x1) x5 x6 x7 x8 := by
  unfold k0_pay26
  rw [pay22_eq, pay23_eq, pay24_eq, ld_5, ld_5, ld_6, ld_6]

theorem out_11 : out0_11 x0 x1 x2 x3 x4 x5 x6 x7 x8 x9 x10 = k0_pay18 (res x0 x2 x3 x1) (hid (res x0 x2 x3 x1) (nwt x4) (rms x0 x2 x3 x1) x5 x6 x7 x8) (hmx (res x0 x2 x3 x1) (nwt x4) (rms x0 x2 x3 x1) x5 x6 x7 x8) (Scalar.ofBits .f32 0x00000000#32) x9 x10 := by
  unfold out0_11
  rw [pay22_eq, pay25_eq, pay26_eq, ld_9, ld_3]
  exact whole_st _ _

theorem out_12 : out0_12 x0 x1 x2 x3 x4 x5 x6 x7 x8 x9 x10 = k0_pay3 x0 := by
  unfold out0_12
  rw [ld_0]
  exact whole_st _ _

theorem out_13 : out0_13 x0 x1 x2 x3 x4 x5 x6 x7 x8 x9 x10 = k0_pay19 (k0_pay2 x0) := by
  unfold out0_13
  rw [ld_0]
  exact whole_st _ _

theorem out_14 : out0_14 x0 x1 x2 x3 x4 x5 x6 x7 x8 x9 x10 = k0_pay10 (res x0 x2 x3 x1) (nwt x4) (rms x0 x2 x3 x1) := by
  unfold out0_14
  rw [pay22_eq, pay23_eq, pay24_eq]
  exact whole_st _ _

theorem out_15 : out0_15 x0 x1 x2 x3 x4 x5 x6 x7 x8 x9 x10 = k0_pay20 (k0_pay9 (res x0 x2 x3 x1) (nwt x4) (rms x0 x2 x3 x1)) := by
  unfold out0_15
  rw [pay22_eq, pay23_eq, pay24_eq]
  exact whole_st _ _

theorem out_16 : out0_16 x0 x1 x2 x3 x4 x5 x6 x7 x8 x9 x10 = k0_pay16 (hid (res x0 x2 x3 x1) (nwt x4) (rms x0 x2 x3 x1) x5 x6 x7 x8) (hmx (res x0 x2 x3 x1) (nwt x4) (rms x0 x2 x3 x1) x5 x6 x7 x8) (Scalar.ofBits .f32 0x00000000#32) := by
  unfold out0_16
  rw [pay25_eq, pay26_eq]
  exact whole_st _ _

theorem out_17 : out0_17 x0 x1 x2 x3 x4 x5 x6 x7 x8 x9 x10 = k0_pay21 (hmx (res x0 x2 x3 x1) (nwt x4) (rms x0 x2 x3 x1) x5 x6 x7 x8) (Scalar.ofBits .f32 0x00000000#32) := by
  unfold out0_17
  rw [pay26_eq]
  exact whole_st _ _

theorem out_18 : out0_18 x0 x1 x2 x3 x4 x5 x6 x7 x8 x9 x10 = k0_pay4 x0 x2 x3 := by
  unfold out0_18
  rw [ld_0, ld_2, ld_3]
  exact whole_st _ _

theorem out_19 : out0_19 x0 x1 x2 x3 x4 x5 x6 x7 x8 x9 x10 = k0_pay11 (res x0 x2 x3 x1) (nwt x4) (rms x0 x2 x3 x1) x5 x6 := by
  unfold out0_19
  rw [pay22_eq, pay23_eq, pay24_eq, ld_5, ld_6]
  exact whole_st _ _

theorem out_20 : out0_20 x0 x1 x2 x3 x4 x5 x6 x7 x8 x9 x10 = k0_pay12 (res x0 x2 x3 x1) (nwt x4) (rms x0 x2 x3 x1) x7 x8 := by
  unfold out0_20
  rw [pay22_eq, pay23_eq, pay24_eq, ld_5, ld_6]
  exact whole_st _ _

theorem out_21 : out0_21 x0 x1 x2 x3 x4 x5 x6 x7 x8 x9 x10 = k0_pay17 (hid (res x0 x2 x3 x1) (nwt x4) (rms x0 x2 x3 x1) x5 x6 x7 x8) (hmx (res x0 x2 x3 x1) (nwt x4) (rms x0 x2 x3 x1) x5 x6 x7 x8) (Scalar.ofBits .f32 0x00000000#32) x9 x10 := by
  unfold out0_21
  rw [pay25_eq, pay26_eq, ld_9, ld_3]
  exact whole_st _ _

end Out

/-! ## The arrays -/

section Final

variable (m : (ℓ : Loc MlpIdeal.nD MlpIdeal.τ MlpIdeal.sig) → Buf (Elt Ideal) ℓ) (c : Dev MlpIdeal.nD)
  (m' : (ℓ : Loc nD τ sig) → Buf (Elt Ideal) ℓ) (h : Same m m' c)

include h

theorem ref_final_11 : (dats m' 0 c).arrAt 11 cfg0.N = rOut m c := by
  have e : (dats m' 0 c).after 11 ⟨0, by decide⟩ = rOut m c := by
    rw [after0_11, ref_0 h, ref_1 h, ref_2 h, ref_3 h, ref_4 h, ref_5 h, ref_6 h,
      ref_7 h, ref_8 h, ref_9 h, ref_10 h, out_11]
    rfl
  refine (dats m' 0 c).arrAt_eq_of_after_last 11 ⟨0, by decide⟩ (by decide +kernel) (rOut m c) fun j => ?_
  rw [e]
  generalize rOut m c = X
  refine (cast_eq _ _).trans (congrArg X (funext fun a => ?_))
  rfl

theorem ref_final_12 : (dats m' 0 c).arrAt 12 cfg0.N = rOc m c := by
  have e : (dats m' 0 c).after 12 ⟨0, by decide⟩ = rOc m c := by
    rw [after0_12, ref_0 h, ref_1 h, ref_2 h, ref_3 h, ref_4 h, ref_5 h, ref_6 h,
      ref_7 h, ref_8 h, ref_9 h, ref_10 h, out_12]
    rfl
  refine (dats m' 0 c).arrAt_eq_of_after_last 12 ⟨0, by decide⟩ (by decide +kernel) (rOc m c) fun j => ?_
  rw [e]
  generalize rOc m c = X
  refine (cast_eq _ _).trans (congrArg X (funext fun a => ?_))
  rfl

theorem ref_final_13 : (dats m' 0 c).arrAt 13 cfg0.N = rOs m c := by
  have e : (dats m' 0 c).after 13 ⟨0, by decide⟩ = rOs m c := by
    rw [after0_13, ref_0 h, ref_1 h, ref_2 h, ref_3 h, ref_4 h, ref_5 h, ref_6 h,
      ref_7 h, ref_8 h, ref_9 h, ref_10 h, out_13]
    rfl
  refine (dats m' 0 c).arrAt_eq_of_after_last 13 ⟨0, by decide⟩ (by decide +kernel) (rOs m c) fun j => ?_
  rw [e]
  generalize rOs m c = X
  refine (cast_eq _ _).trans (congrArg X (funext fun a => ?_))
  rfl

theorem ref_final_14 : (dats m' 0 c).arrAt 14 cfg0.N = rAc m c := by
  have e : (dats m' 0 c).after 14 ⟨0, by decide⟩ = rAc m c := by
    rw [after0_14, ref_0 h, ref_1 h, ref_2 h, ref_3 h, ref_4 h, ref_5 h, ref_6 h,
      ref_7 h, ref_8 h, ref_9 h, ref_10 h, out_14]
    rfl
  refine (dats m' 0 c).arrAt_eq_of_after_last 14 ⟨0, by decide⟩ (by decide +kernel) (rAc m c) fun j => ?_
  rw [e]
  generalize rAc m c = X
  refine (cast_eq _ _).trans (congrArg X (funext fun a => ?_))
  rfl

theorem ref_final_15 : (dats m' 0 c).arrAt 15 cfg0.N = rAs m c := by
  have e : (dats m' 0 c).after 15 ⟨0, by decide⟩ = rAs m c := by
    rw [after0_15, ref_0 h, ref_1 h, ref_2 h, ref_3 h, ref_4 h, ref_5 h, ref_6 h,
      ref_7 h, ref_8 h, ref_9 h, ref_10 h, out_15]
    rfl
  refine (dats m' 0 c).arrAt_eq_of_after_last 15 ⟨0, by decide⟩ (by decide +kernel) (rAs m c) fun j => ?_
  rw [e]
  generalize rAs m c = X
  refine (cast_eq _ _).trans (congrArg X (funext fun a => ?_))
  rfl

theorem ref_final_16 : (dats m' 0 c).arrAt 16 cfg0.N = rHc m c := by
  have e : (dats m' 0 c).after 16 ⟨0, by decide⟩ = rHc m c := by
    rw [after0_16, ref_0 h, ref_1 h, ref_2 h, ref_3 h, ref_4 h, ref_5 h, ref_6 h,
      ref_7 h, ref_8 h, ref_9 h, ref_10 h, out_16]
    rfl
  refine (dats m' 0 c).arrAt_eq_of_after_last 16 ⟨0, by decide⟩ (by decide +kernel) (rHc m c) fun j => ?_
  rw [e]
  generalize rHc m c = X
  refine (cast_eq _ _).trans (congrArg X (funext fun a => ?_))
  rfl

theorem ref_final_17 : (dats m' 0 c).arrAt 17 cfg0.N = rHs m c := by
  have e : (dats m' 0 c).after 17 ⟨0, by decide⟩ = rHs m c := by
    rw [after0_17, ref_0 h, ref_1 h, ref_2 h, ref_3 h, ref_4 h, ref_5 h, ref_6 h,
      ref_7 h, ref_8 h, ref_9 h, ref_10 h, out_17]
    rfl
  refine (dats m' 0 c).arrAt_eq_of_after_last 17 ⟨0, by decide⟩ (by decide +kernel) (rHs m c) fun j => ?_
  rw [e]
  generalize rHs m c = X
  refine (cast_eq _ _).trans (congrArg X (funext fun a => ?_))
  rfl

theorem ref_final_18 : (dats m' 0 c).arrAt 18 cfg0.N = rOP m c := by
  have e : (dats m' 0 c).after 18 ⟨0, by decide⟩ = rOP m c := by
    rw [after0_18, ref_0 h, ref_1 h, ref_2 h, ref_3 h, ref_4 h, ref_5 h, ref_6 h,
      ref_7 h, ref_8 h, ref_9 h, ref_10 h, out_18]
    rfl
  refine (dats m' 0 c).arrAt_eq_of_after_last 18 ⟨0, by decide⟩ (by decide +kernel) (rOP m c) fun j => ?_
  rw [e]
  generalize rOP m c = X
  refine (cast_eq _ _).trans (congrArg X (funext fun a => ?_))
  rfl

theorem ref_final_19 : (dats m' 0 c).arrAt 19 cfg0.N = rG m c := by
  have e : (dats m' 0 c).after 19 ⟨0, by decide⟩ = rG m c := by
    rw [after0_19, ref_0 h, ref_1 h, ref_2 h, ref_3 h, ref_4 h, ref_5 h, ref_6 h,
      ref_7 h, ref_8 h, ref_9 h, ref_10 h, out_19]
    rfl
  refine (dats m' 0 c).arrAt_eq_of_after_last 19 ⟨0, by decide⟩ (by decide +kernel) (rG m c) fun j => ?_
  rw [e]
  generalize rG m c = X
  refine (cast_eq _ _).trans (congrArg X (funext fun a => ?_))
  rfl

theorem ref_final_20 : (dats m' 0 c).arrAt 20 cfg0.N = rU m c := by
  have e : (dats m' 0 c).after 20 ⟨0, by decide⟩ = rU m c := by
    rw [after0_20, ref_0 h, ref_1 h, ref_2 h, ref_3 h, ref_4 h, ref_5 h, ref_6 h,
      ref_7 h, ref_8 h, ref_9 h, ref_10 h, out_20]
    rfl
  refine (dats m' 0 c).arrAt_eq_of_after_last 20 ⟨0, by decide⟩ (by decide +kernel) (rU m c) fun j => ?_
  rw [e]
  generalize rU m c = X
  refine (cast_eq _ _).trans (congrArg X (funext fun a => ?_))
  rfl

theorem ref_final_21 : (dats m' 0 c).arrAt 21 cfg0.N = rD m c := by
  have e : (dats m' 0 c).after 21 ⟨0, by decide⟩ = rD m c := by
    rw [after0_21, ref_0 h, ref_1 h, ref_2 h, ref_3 h, ref_4 h, ref_5 h, ref_6 h,
      ref_7 h, ref_8 h, ref_9 h, ref_10 h, out_21]
    rfl
  refine (dats m' 0 c).arrAt_eq_of_after_last 21 ⟨0, by decide⟩ (by decide +kernel) (rD m c) fun j => ?_
  rw [e]
  generalize rD m c = X
  refine (cast_eq _ _).trans (congrArg X (funext fun a => ?_))
  rfl

end Final

end Cert.MlpValue
-- ==== Proof.MlpAlgebraic.lean ====
module

public import proofs.«01_k».proof.Defs
public import proofs.«01_k».proof.Proof.MlpRefFinal

@[expose] public section

set_option maxRecDepth 16384

noncomputable section

/-! Kernel and reference, launched with the same arguments, end with the same eleven results. -/

namespace Cert.MlpValue

open Idealize.ShloMosaic Idealize.ShloMosaic.TcCoe Idealize.ShloMosaic.Tactic
open Idealize.SL.Sem

set_option maxHeartbeats 1600000 in
theorem algebraic : algebraic_MlpIdeal_MlpReferenceIdeal (hMlpIdeal := Cert.MlpIdeal.Gen.facts) (hMlpReferenceIdeal := Cert.MlpReferenceIdeal.Gen.facts) := by
  intro m g m' g' _ hs
  have same : ∀ c, Same m m' c := hs
  refine ⟨rOut m, rOc m, rOs m, rAc m, rAs m, rHc m, rHs m, rOP m, rG m, rU m, rD m, ?_, ?_⟩
  · refine θ_run_mono (θ_run_and (Cert.MlpIdeal.Hand.run_main m g) (Cert.MlpIdeal.Hand.frame m g)) ?_
    intro r hr c
    exact ⟨(hr.1.out_eq c 11).trans (final_11 m c),
      (hr.1.out_eq c 12).trans (final_12 m c),
      (hr.1.out_eq c 13).trans (final_13 m c),
      (hr.1.out_eq c 14).trans (final_14 m c),
      (hr.1.out_eq c 15).trans (final_15 m c),
      (hr.1.out_eq c 16).trans (final_16 m c),
      (hr.1.out_eq c 17).trans (final_17 m c),
      (hr.1.out_eq c 18).trans (final_18 m c),
      (hr.1.out_eq c 19).trans (final_19 m c),
      (hr.1.out_eq c 20).trans (final_20 m c),
      (hr.1.out_eq c 21).trans (final_21 m c),
      hr.2.1 c⟩
  · refine θ_run_mono (θ_run_and (Cert.MlpReferenceIdeal.Gen.run_main m' g') (Cert.MlpReferenceIdeal.Gen.frame m' g')) ?_
    intro r hr c
    exact ⟨(hr.1.out_eq c 11).trans (ref_final_11 m c m' (same c)),
      (hr.1.out_eq c 12).trans (ref_final_12 m c m' (same c)),
      (hr.1.out_eq c 13).trans (ref_final_13 m c m' (same c)),
      (hr.1.out_eq c 14).trans (ref_final_14 m c m' (same c)),
      (hr.1.out_eq c 15).trans (ref_final_15 m c m' (same c)),
      (hr.1.out_eq c 16).trans (ref_final_16 m c m' (same c)),
      (hr.1.out_eq c 17).trans (ref_final_17 m c m' (same c)),
      (hr.1.out_eq c 18).trans (ref_final_18 m c m' (same c)),
      (hr.1.out_eq c 19).trans (ref_final_19 m c m' (same c)),
      (hr.1.out_eq c 20).trans (ref_final_20 m c m' (same c)),
      (hr.1.out_eq c 21).trans (ref_final_21 m c m' (same c)),
      hr.2.1 c⟩

end Cert.MlpValue
-- ==== Proof.InProjRun.lean ====
module

public import proofs.«01_k».proof.Proof.Gen.InProj.Launch
public import proofs.«01_k».proof.Proof.Gen.InProj.Skeleton
public import proofs.«01_k».proof.Proof.Gen.InProj.Points
public import proofs.«01_k».proof.Proof.Gen.InProj.Frame
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the kernel stores, as functions of what it loads -/

/-- Six rows of forty, stored one by one. -/
def sixRows (a b c d e f : Vec F S1x40 .f32) : Vec F S6x40 .f32 :=
  View.canon [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]

/-- The codes of the normalised input, padded with zero rows to 256 rows. -/
def padA (x : Vec F S240x1536 .bf16) (w : Vec F S1x1536 .f32) : Vec F S256x1536 .fp8e4m3 :=
  View.canon [⟨Rect.unit (s := S256x1536) ![0, 0] S240x1536.size inb_S256x1536_S240x1536_0_0, k0_pay9 (k0_pay7 x w)⟩,
    ⟨Rect.unit (s := S256x1536) ![0, 0] S256x1536.size inb_S256x1536_S256x1536_0_0, k0_pay8⟩]

/-- The scales of the normalised input by group of forty rows. -/
def rowsA (x : Vec F S240x1536 .bf16) (w : Vec F S1x1536 .f32) : Vec F S6x40 .f32 :=
  sixRows (k0_pay11 (k0_pay6 x w)) (k0_pay12 (k0_pay6 x w)) (k0_pay13 (k0_pay6 x w))
    (k0_pay1 (k0_pay14 (k0_pay6 x w)) (iota .tc S40x40 32 [0] iota_S40x40_d0_w32)) (k0_pay2 (k0_pay6 x w)) (k0_pay3 (k0_pay6 x w))

/-! ## Reading a buffer back -/

section Read

theorem zero2 (a : Fin 2) : (![0, 0] : Fin 2 → ℕ) a = 0 := by revert a; decide

variable {d : Fin 2 → ℕ} {sp : Space} {e : EltTy} (v : View sig .tc sp (⟨2, d⟩ : Shape) e)

/-- A load of the whole buffer reads its contents. -/
theorem readAt_whole (f : v.ty.Contents (Elt F)) (inb : ∀ a, (![0, 0] : Fin 2 → ℕ) a + d a ≤ d a) :
    v.readAt (Elt F) (Rect.unit (s := ⟨2, d⟩) ![0, 0] d inb).toLoadRect f = v.read (Elt F) f :=
  View.ld_unit_lit inb _ zero2

/-- A load of the whole buffer reads what the stores before it left. -/
theorem readCov_whole (L : List (View.Piece (Elt F) (⟨2, d⟩ : Shape) e)) (inb : ∀ a, (![0, 0] : Fin 2 → ℕ) a + d a ≤ d a) :
    v.readCov L (Rect.unit (s := ⟨2, d⟩) ![0, 0] d inb).toLoadRect = View.canon L := by
  rw [View.readCov_eq_canon']
  exact View.ld_unit_lit (S := ⟨2, d⟩) inb (View.canon L) zero2

/-- After a store to the whole buffer, and any stores since, it holds what the stores leave. -/
theorem read_writes_whole (f : v.ty.Contents (Elt F)) (L : List (View.Piece (Elt F) (⟨2, d⟩ : Shape) e))
    (inb : ∀ a, (![0, 0] : Fin 2 → ℕ) a + d a ≤ d a) (w : (Rect.unit (s := ⟨2, d⟩) ![0, 0] d inb).shape.Idx → Elt F e)
    (h : (⟨Rect.unit (s := ⟨2, d⟩) ![0, 0] d inb, w⟩ : View.Piece (Elt F) (⟨2, d⟩ : Shape) e) ∈ L) :
    v.read (Elt F) (v.writes (Elt F) f L) = View.canon L := by
  refine View.read_writes_eq_canon _ _ _ fun y => ⟨_, h, ?_⟩
  rw [Rect.mem_set_unit]
  intro a
  have := (y a).isLt
  have h0 := zero2 a
  rw [h0]
  exact ⟨Nat.zero_le _, by rw [Nat.zero_add]; exact this⟩

/-- One store to the whole buffer leaves its payload. -/
theorem read_write_whole (f : v.ty.Contents (Elt F))
    (inb : ∀ a, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w :=
  (read_writes_whole v f _ inb w (List.mem_singleton_self _)).trans (View.canon_unit_zero (S := ⟨2, d⟩) (funext zero2) inb w)

/-- A store through a rectangle replaces the contents there. -/
theorem read_write_rect (f : v.ty.Contents (Elt F)) (r : Rect (⟨2, d⟩ : Shape)) (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · rw [r.overlay_of_not_mem _ _ hy]
    exact View.read_writes_apply_of_forall_not_mem v f y _ (by simpa using hy)

omit v in
/-- One store to the whole of a buffer is all it holds. -/
theorem canon_whole (inb : ∀ a, (![0, 0] : Fin 2 → ℕ) a + d a ≤ d a) (w : (⟨2, d⟩ : Shape).Idx → Elt F e) :
    View.canon [(⟨Rect.unit (s := ⟨2, d⟩) ![0, 0] d inb, w⟩ : View.Piece (Elt F) (⟨2, d⟩ : Shape) e)] = w :=
  View.canon_unit_zero (S := ⟨2, d⟩) (funext zero2) inb w

end Read

/-- Stores to the six rows leave the rows. -/
theorem read_sixRows {sp : Space} (v : View sig .tc sp S6x40 .f32) (g : v.ty.Contents (Elt F)) (a b c d e f : Vec F S1x40 .f32) :
    v.read (Elt F) (v.writes (Elt F) g [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]) = sixRows a b c d e f :=
  View.read_writes_eq_canon _ _ _ (View.cover_of_tiled _ S1x40.size (by rfl))

/-! ## The kernel body, at the first point and at the others -/

variable (c : Dev nD) (E : Set ℕ) (i : grid0.Coords)
  (arg1 : Memref sig .tc .vmem S240x1536 .bf16) (harg1 : arg1.IsWhole)
  (arg2 : Memref sig .tc .vmem S1x1536 .f32) (harg2 : arg2.IsWhole)
  (arg3 : Memref sig .tc .vmem S1024x1536 .fp8e4m3) (harg3 : arg3.IsWhole)
  (arg4 : Memref sig .tc .vmem S1x1024 .f32) (harg4 : arg4.IsWhole)
  (arg5 : Memref sig .tc .vmem S240x1024 .f32) (harg5 : arg5.IsWhole)
  (arg6 : Memref sig .tc .vmem S240x1536 .fp8e4m3) (harg6 : arg6.IsWhole)
  (arg7 : Memref sig .tc .vmem S6x40 .f32) (harg7 : arg7.IsWhole)
  (arg8 : Memref sig .tc .vmem S256x1536 .fp8e4m3) (harg8 : arg8.IsWhole)
  (arg9 : Memref sig .tc .vmem S240x1 .f32) (harg9 : arg9.IsWhole)

set_option maxHeartbeats 1000000 in
/-- The first point: normalise and quantise the input, then the first block of columns of the product. -/
theorem run_first (h1 : k0_cond1 i = 1#1)
    (x1 : Vec F S240x1536 .bf16) (x2 : Vec F S1x1536 .f32) (x3 : Vec F S1024x1536 .fp8e4m3) (x4 : Vec F S1x1024 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare (k0_pay4 (padA x1 x2) x3 (k0_pay10 (k0_pay6 x1 x2)) x4)
        ∗ owns (c : Thread nD τ) arg6 fullShare (k0_pay7 x1 x2)
        ∗ owns (c : Thread nD τ) arg7 fullShare (rowsA x1 x2)
        ∗ owns (c : Thread nD τ) arg8 fullShare (padA x1 x2)
        ∗ owns (c : Thread nD τ) arg9 fullShare (k0_pay10 (k0_pay6 x1 x2))) -∗ K ⟨⟩))
      ⊢ wp frame (wpE (defs₀ (F := F)) Variants.none c none) E
        (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [dif_pos h1]
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_write_whole (F := F) _ _ _ _
  isplitl [H6]
  · iexists _; isplitr; swap; · iexact H6
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_write_whole (F := F) _ _ _ _
  isplitl [H7]
  · iexists _; isplitr; swap; · iexact H7
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_sixRows (F := F) _ _ _ _ _ _ _ _
  isplitl [H8]
  · iexists _; isplitr; swap; · iexact H8
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_writes_whole (F := F) _ _ _ _ _ (List.mem_cons_of_mem _ (List.mem_singleton_self _))
  iexists _; isplitr; swap; · iexact H9
  ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
  simp only [readAt_whole, readCov_whole, canon_whole, padA, rowsA]
  try simp only [View.readAt_eq_ld]
  exact read_write_whole (F := F) _ _ _ _

set_option maxHeartbeats 1000000 in
/-- A later block of columns of the product. -/
theorem run_rest (h1 : ¬ k0_cond1 i = 1#1)
    (x3 : Vec F S1024x1536 .fp8e4m3) (x4 : Vec F S1x1024 .f32) (x8 : Vec F S256x1536 .fp8e4m3) (x9 : Vec F S240x1 .f32) (K : PUnit → sProp 𝕄) :
    iprop(owns (c : Thread nD τ) arg3 fullShare x3
      ∗ owns (c : Thread nD τ) arg4 fullShare x4
      ∗ (∃ d, owns (c : Thread nD τ) arg5 fullShare d)
      ∗ owns (c : Thread nD τ) arg8 fullShare x8
      ∗ owns (c : Thread nD τ) arg9 fullShare x9
      ∗ (iprop(owns (c : Thread nD τ) arg3 fullShare x3
        ∗ owns (c : Thread nD τ) arg4 fullShare x4
        ∗ owns (c : Thread nD τ) arg8 fullShare x8
        ∗ owns (c : Thread nD τ) arg9 fullShare x9
        ∗ owns (c : Thread nD τ) arg5 fullShare (k0_pay4 x8 x3 x9 x4)) -∗ K ⟨⟩))
      ⊢ wp frame (wpE (defs₀ (F := F)) Variants.none c none) E
        (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [dif_neg h1]
  unfold owns
  iintro ⟨⟨%f3, %hf3, H3⟩, ⟨%f4, %hf4, H4⟩, ⟨%d5, %f5, -, H5⟩, ⟨%f8, %hf8, H8⟩, ⟨%f9, %hf9, H9⟩, Hk⟩
  subst hf3 hf4 hf8 hf9
  sl_exec
  sl_step
  iapply Hk
  isplitl [H3]
  · iexists f3; isplitr; · ipureintro; rfl
    iexact H3
  isplitl [H4]
  · iexists f4; isplitr; · ipureintro; rfl
    iexact H4
  isplitl [H8]
  · iexists f8; isplitr; · ipureintro; rfl
    iexact H8
  isplitl [H9]
  · iexists f9; isplitr; · ipureintro; rfl
    iexact H9
  iexists _; isplitr; swap; · iexact H5
  ipureintro
  simp only [readAt_whole, readCov_whole, canon_whole, padA, rowsA]
  try simp only [View.readAt_eq_ld]
  exact read_write_whole (F := F) _ _ _ _

end Cert.InProj.Hand
-- ==== Proof.InProjBody.lean ====
module

public import proofs.«01_k».proof.Proof.Gen.InProj.Launch
public import proofs.«01_k».proof.Proof.Gen.InProj.Skeleton
public import proofs.«01_k».proof.Proof.Gen.InProj.Points
public import proofs.«01_k».proof.Proof.Gen.InProj.Frame
public import proofs.«01_k».proof.Proof.InProjRun
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.InProj.Hand

open Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What each buffer holds, from the arrays the region finds -/

theorem cond1 : ∀ t : Fin grid0.N, k0_cond1 (grid0.coords t) = 1#1 ↔ t.val = 0 := by decide

/-- The first point. -/
abbrev p0 : Fin cfg0.N := ⟨0, by decide⟩

/-- The input, as the first point finds it. -/
def vX : Vec F S240x1536 .bf16 := iblk m c 0 p0
/-- The normalisation's weight, as the first point finds it. -/
def vN : Vec F S1x1536 .f32 := iblk m c 1 p0
/-- The normalised input's codes, padded. -/
def vA : Vec F S256x1536 .fp8e4m3 := padA (vX m c) (vN m c)
/-- The normalised input's scales. -/
def vS : Vec F S240x1 .f32 := k0_pay10 (k0_pay6 (vX m c) (vN m c))
/-- The weight's rows in the buffer at point `t`: the array's where the block lies inside it, `d` elsewhere. -/
def vB (t : Fin cfg0.N) (d : Vec F S1024x1536 .fp8e4m3) : Vec F S1024x1536 .fp8e4m3 :=
  (cfg0.win 2).fill (cfg0.grid.coords t) d (iblk m c 2 t)
/-- The weight's scales in the buffer at point `t`, likewise. -/
def vC (t : Fin cfg0.N) (d : Vec F S1x1024 .f32) : Vec F S1x1024 .f32 :=
  (cfg0.win 3).fill (cfg0.grid.coords t) d (iblk m c 3 t)
/-- The block of columns of the product point `t` stores. -/
def vP (t : Fin cfg0.N) (d : Vec F S1024x1536 .fp8e4m3) (d' : Vec F S1x1024 .f32) : Vec F S240x1024 .f32 :=
  k0_pay4 (vA m c) (vB m c t d) (vS m c) (vC m c t d')

/-- Some rows. -/
def anyB : Vec F S1024x1536 .fp8e4m3 := broadcast S1024x1536 (Scalar.ofBits .fp8e4m3 0x00#8)
/-- Some scales. -/
def anyC : Vec F S1x1024 .f32 := broadcast S1x1024 (Scalar.ofBits .f32 0x00000000#32)

/-- The kernel's own buffers before point `n`, and the core's generator register. -/
def Keep (n : ℕ) : sProp 𝕄 :=
  iprop(∃ s0 s1, ⌜1 ≤ n → s0 = vA m c ∧ s1 = vS m c⌝
    ∗ owns (c : Thread nD τ) (Memref.whole cc0_scratch0) fullShare s0 ∗ owns (c : Thread nD τ) (Memref.whole cc0_scratch1) fullShare s1
    ∗ ∃ r, prngReg c r)

/-- The proof data: the arrays as the region finds them, and after the body at point `t` each input's buffer at its
    block and each output's at what the kernel last stored there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => vB m c t anyB
    | ⟨3, _⟩ => vC m c t anyC
    | ⟨4, _⟩ => vP m c t anyB anyC
    | ⟨5, _⟩ => k0_pay7 (vX m c) (vN m c)
    | ⟨6, _⟩ => rowsA (vX m c) (vN m c)
    | ⟨_ + 7, h⟩ => absurd h (Nat.not_lt.2 (Nat.le_add_left _ _))
  Φ n := Keep m c n.val
  q _ := fullShare
  owed _ := 0

/-- The proof data, the product's block constrained only up to what lies past the ends of the arrays. -/
def rdat (c : Dev nD) : RDat τ (Elt F) Unit ℕ (UR sig nD τ) ℕ cfg0 c :=
  (dats m 0 c).toR.override fun w => match w with
    | ⟨4, _⟩ => some fun t _ X => ∃ d d', X = vP m c t d d'
    | ⟨5, _⟩ => some fun _ _ X => X = k0_pay7 (vX m c) (vN m c)
    | ⟨6, _⟩ => some fun _ _ X => X = rowsA (vX m c) (vN m c)
    | _ => none

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = vB m c t anyB := by dsimp only [dats]
theorem after_3 (t : Fin cfg0.N) : (dats m 0 c).after 3 t = vC m c t anyC := by dsimp only [dats]
theorem after_4 (t : Fin cfg0.N) : (dats m 0 c).after 4 t = vP m c t anyB anyC := by dsimp only [dats]
theorem after_5 (t : Fin cfg0.N) : (dats m 0 c).after 5 t = k0_pay7 (vX m c) (vN m c) := by dsimp only [dats]
theorem after_6 (t : Fin cfg0.N) : (dats m 0 c).after 6 t = rowsA (vX m c) (vN m c) := by dsimp only [dats]

/-! ## What a point finds, and what it leaves -/

variable {m c}

theorem rel_4 {t : Fin cfg0.N} {Y X} : (rdat m c).after 4 t Y X ↔ ∃ d d', X = vP m c t d d' := by
  rw [rdat, RDat.override_after_of_eq_some (dats m 0 c).toR (w := 4) (R := fun t _ X => ∃ d d', X = vP m c t d d') rfl]

theorem rel_5 {t : Fin cfg0.N} {Y X} : (rdat m c).after 5 t Y X ↔ X = k0_pay7 (vX m c) (vN m c) := by
  rw [rdat, RDat.override_after_of_eq_some (dats m 0 c).toR (w := 5) (R := fun _ _ X => X = k0_pay7 (vX m c) (vN m c)) rfl]

theorem rel_6 {t : Fin cfg0.N} {Y X} : (rdat m c).after 6 t Y X ↔ X = rowsA (vX m c) (vN m c) := by
  rw [rdat, RDat.override_after_of_eq_some (dats m 0 c).toR (w := 6) (R := fun _ _ X => X = rowsA (vX m c) (vN m c)) rfl]

theorem rel_none {w : Fin 7} (hw : w.val < 4) : (rdat m c).after w = (dats m 0 c).toR.after w := by
  unfold rdat
  refine RDat.override_after_of_eq_none (dats m 0 c).toR (w := w) ?_
  match w, hw with
  | ⟨0, _⟩, _ => exact rfl
  | ⟨1, _⟩, _ => exact rfl
  | ⟨2, _⟩, _ => exact rfl
  | ⟨3, _⟩, _ => exact rfl
  | ⟨n + 4, _⟩, h => exact absurd h (Nat.not_lt.mpr (Nat.le_add_left 4 n))

theorem finds_none {w : Fin 7} (hw : w.val < 4) {t : Fin cfg0.N} {Y} (h : (rdat m c).Finds w t Y) : ∃ d, Y = (dats m 0 c).before w t d := by
  refine (dats m 0 c).toR_finds w t Y ((RDat.override_finds _ ?_ t Y).mp h)
  clear h
  match w, hw with
  | ⟨0, _⟩, _ => exact rfl
  | ⟨1, _⟩, _ => exact rfl
  | ⟨2, _⟩, _ => exact rfl
  | ⟨3, _⟩, _ => exact rfl
  | ⟨n + 4, _⟩, h => exact absurd h (Nat.not_lt.mpr (Nat.le_add_left 4 n))

theorem found_0 {t : Fin cfg0.N} {Y} (h : (rdat m c).Finds 0 t Y) : Y = iblk m c 0 t :=
  (finds_none (by decide) h).elim fun d e => e.trans (before0_0_of m (dats m 0 c) (A_eq m c _) (after_0 m c) t d)
theorem found_1 {t : Fin cfg0.N} {Y} (h : (rdat m c).Finds 1 t Y) : Y = iblk m c 1 t :=
  (finds_none (by decide) h).elim fun d e => e.trans (before0_1_of m (dats m 0 c) (A_eq m c _) (after_1 m c) t d)
theorem found_2 {t : Fin cfg0.N} {Y} (h : (rdat m c).Finds 2 t Y) : ∃ d, Y = vB m c t d :=
  (finds_none (by decide) h).imp fun d e => e.trans ((dats m 0 c).before_fetched 2 t (fetch0_2 t) d)
theorem found_3 {t : Fin cfg0.N} {Y} (h : (rdat m c).Finds 3 t Y) : ∃ d, Y = vC m c t d :=
  (finds_none (by decide) h).imp fun d e => e.trans ((dats m 0 c).before_fetched 3 t (fetch0_3 t) d)

theorem flush_5 {t : Fin cfg0.N} (h : t.val % 9 ≠ 8) : (cfg0.win 5).flush t = false := eq_false_of_ne_true fun h' => h ((flush0_5 t).mp h')
theorem flush_6 {t : Fin cfg0.N} (h : t.val % 9 ≠ 8) : (cfg0.win 6).flush t = false := eq_false_of_ne_true fun h' => h ((flush0_6 t).mp h')

theorem lt9 (t : Fin cfg0.N) : t.val < 9 := lt_of_lt_of_eq t.isLt N_0

theorem found_5 {t : Fin cfg0.N} (ht : t.val ≠ 0) {Y} (h : (rdat m c).Finds 5 t Y) : Y = k0_pay7 (vX m c) (vN m c) := by
  rw [RDat.finds_of_pos _ (((cfg0.win 5).fetch_out rfl t)) ht] at h
  rcases h with h | ⟨Z, -, h⟩
  · rw [flush_5 (by have := lt9 t; show (t.val - 1) % 9 ≠ 8; omega)] at h; exact absurd h (by decide)
  · exact rel_5.mp h
theorem found_6 {t : Fin cfg0.N} (ht : t.val ≠ 0) {Y} (h : (rdat m c).Finds 6 t Y) : Y = rowsA (vX m c) (vN m c) := by
  rw [RDat.finds_of_pos _ (((cfg0.win 6).fetch_out rfl t)) ht] at h
  rcases h with h | ⟨Z, -, h⟩
  · rw [flush_6 (by have := lt9 t; show (t.val - 1) % 9 ≠ 8; omega)] at h; exact absurd h (by decide)
  · exact rel_6.mp h

theorem leave_0 (t : Fin cfg0.N) (Y) {X} (hX : X = iblk m c 0 t) : (rdat m c).after 0 t Y X := by
  rw [rel_none (by decide), hX]; exact (after_0 m c t).symm
theorem leave_1 (t : Fin cfg0.N) (Y) {X} (hX : X = iblk m c 1 t) : (rdat m c).after 1 t Y X := by
  rw [rel_none (by decide), hX]; exact (after_1 m c t).symm
theorem leave_2 (t : Fin cfg0.N) (Y) (d) : (rdat m c).after 2 t Y (vB m c t d) := by
  rw [rel_none (by decide)]
  refine ⟨d, ?_⟩
  rw [after_2]; unfold vB; rw [Window.cut_fill]
theorem leave_3 (t : Fin cfg0.N) (Y) (d) : (rdat m c).after 3 t Y (vC m c t d) := by
  rw [rel_none (by decide)]
  refine ⟨d, ?_⟩
  rw [after_3]; unfold vC; rw [Window.cut_fill]
/-! ## The body obligation -/

variable (m c)

/-- What the body is handed at point `t`, the windows one by one; -/
def bodyPre (t : Fin cfg0.N) (Y : (w : Fin cfg0.W) → (cfg0.win w).block.Idx → Elt F (cfg0.win w).elt) : sProp 𝕄 :=
  iprop(Keep m c t.val ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- and what it returns. -/
def bodyPost (t : Fin cfg0.N) (Y : (w : Fin cfg0.W) → (cfg0.win w).block.Idx → Elt F (cfg0.win w).elt) : sProp 𝕄 :=
  iprop(Keep m c (t.val + 1) ∗ (rdat m c).owesAt () t.castSucc
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X))

variable {m c} {t : Fin cfg0.N} {Y : (w : Fin cfg0.W) → (cfg0.win w).block.Idx → Elt F (cfg0.win w).elt}

/-- The first point. -/
theorem body_first (ht : t.val = 0) (hY : ∀ w, (rdat m c).Finds w t (Y w)) :
    bodyPre m c t Y ⊢ wp frame (wpE (defs₀ (F := F)) Variants.none c none) Set.univ (bodyAt0 t) (fun _ => bodyPost m c t Y) := by
  have h1 : k0_cond1 (grid0.coords t) = 1#1 := (cond1 t).mpr ht
  have hp : (p0 : Fin cfg0.N) = t := Fin.ext ht.symm
  have e0' : vX m c = iblk m c 0 t := by unfold vX; rw [hp]
  have e1' : vN m c = iblk m c 1 t := by unfold vN; rw [hp]
  have e0 := (found_0 (hY 0)).trans e0'.symm
  have e1 := (found_1 (hY 1)).trans e1'.symm
  obtain ⟨d2, e2⟩ := found_2 (hY 2)
  obtain ⟨d3, e3⟩ := found_3 (hY 3)
  unfold bodyPre bodyPost bodyAt0 Keep
  rw [e0, e1, e2, e3]
  iintro ⟨⟨%s0, %s1, %hI, S0, S1, Hr⟩, Ho, H0, H1, H2, H3, H4, H5, H6⟩
  iapply (run_first c Set.univ _ _ _ _ _ _ _ _ _ _ _ _ _ _ _ _ _ _ _ h1 (vX m c) (vN m c) (vB m c t d2) (vC m c t d3))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [S0]; · iexists _; iexact S0
  isplitl [S1]; · iexists _; iexact S1
  iintro ⟨H0, H1, H2, H3, H4, H5, H6, S0, S1⟩
  isplitl [S0 S1 Hr]
  · iexists _, _; isplitr; swap
    · isplitl [S0]; · iexact S0
      isplitl [S1]; · iexact S1
      iexact Hr
    ipureintro; exact fun _ => ⟨rfl, rfl⟩
  isplitl [Ho]; · iexact Ho
  isplitl [H0]
  · iexists _; isplitr; swap; · iexact H0
    ipureintro; exact leave_0 t _ e0'
  isplitl [H1]
  · iexists _; isplitr; swap; · iexact H1
    ipureintro; exact leave_1 t _ e1'
  isplitl [H2]
  · iexists _; isplitr; swap; · iexact H2
    ipureintro; exact leave_2 t _ d2
  isplitl [H3]
  · iexists _; isplitr; swap; · iexact H3
    ipureintro; exact leave_3 t _ d3
  isplitl [H4]
  · iexists _; isplitr; swap; · iexact H4
    ipureintro; exact rel_4.mpr ⟨d2, d3, rfl⟩
  isplitl [H5]
  · iexists _; isplitr; swap; · iexact H5
    ipureintro; exact rel_5.mpr rfl
  iexists _; isplitr; swap; · iexact H6
  ipureintro; exact rel_6.mpr rfl

/-- A later point. -/
theorem body_rest (ht : t.val ≠ 0) (hY : ∀ w, (rdat m c).Finds w t (Y w)) :
    bodyPre m c t Y ⊢ wp frame (wpE (defs₀ (F := F)) Variants.none c none) Set.univ (bodyAt0 t) (fun _ => bodyPost m c t Y) := by
  have h1 : ¬ k0_cond1 (grid0.coords t) = 1#1 := fun h => ht ((cond1 t).mp h)
  have e0 := found_0 (hY 0)
  have e1 := found_1 (hY 1)
  obtain ⟨d2, e2⟩ := found_2 (hY 2)
  obtain ⟨d3, e3⟩ := found_3 (hY 3)
  have e5 := found_5 ht (hY 5)
  have e6 := found_6 ht (hY 6)
  unfold bodyPre bodyPost bodyAt0 Keep
  rw [e0, e1, e2, e3, e5, e6]
  iintro ⟨⟨%s0, %s1, %hI, S0, S1, Hr⟩, Ho, H0, H1, H2, H3, H4, H5, H6⟩
  obtain ⟨i0, i1⟩ := hI (by omega)
  subst i0 i1
  iapply (run_rest c Set.univ _ _ _ _ _ _ _ _ _ _ _ _ _ _ _ _ _ _ _ h1 (vB m c t d2) (vC m c t d3) (vA m c) (vS m c))
  isplitl [H2]; · iexact H2
  isplitl [H3]; · iexact H3
  isplitl [H4]; · iexists _; iexact H4
  isplitl [S0]; · iexact S0
  isplitl [S1]; · iexact S1
  iintro ⟨H2, H3, S0, S1, H4⟩
  isplitl [S0 S1 Hr]
  · iexists _, _; isplitr; swap
    · isplitl [S0]; · iexact S0
      isplitl [S1]; · iexact S1
      iexact Hr
    ipureintro; exact fun _ => ⟨rfl, rfl⟩
  isplitl [Ho]; · iexact Ho
  isplitl [H0]
  · iexists _; isplitr; swap; · iexact H0
    ipureintro; exact leave_0 t _ rfl
  isplitl [H1]
  · iexists _; isplitr; swap; · iexact H1
    ipureintro; exact leave_1 t _ rfl
  isplitl [H2]
  · iexists _; isplitr; swap; · iexact H2
    ipureintro; exact leave_2 t _ d2
  isplitl [H3]
  · iexists _; isplitr; swap; · iexact H3
    ipureintro; exact leave_3 t _ d3
  isplitl [H4]
  · iexists _; isplitr; swap; · iexact H4
    ipureintro; exact rel_4.mpr ⟨d2, d3, rfl⟩
  isplitl [H5]
  · iexists _; isplitr; swap; · iexact H5
    ipureintro; exact rel_5.mpr rfl
  iexists _; isplitr; swap; · iexact H6
  ipureintro; exact rel_6.mpr rfl

/-- The body at every point. -/
theorem sound_body (hY : ∀ w, (rdat m c).Finds w t (Y w)) :
    bodyPre m c t Y ⊢ wp frame (wpE (defs₀ (F := F)) Variants.none c none) Set.univ (bodyAt0 t) (fun _ => bodyPost m c t Y) := by
  by_cases h : t.val = 0
  · exact body_first h hY
  · exact body_rest h hY

variable (m c)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation : (rdat (F := F) m c).BodyObligation defs₀ Variants.none () Set.univ := fun t Y hY => by
  rw [bigSep_W0, bigSep_W0, defs₀_row]
  exact triple_restated (sound_body hY) rfl .rfl fun _ => .rfl

/-! ## The run and the frame -/

/-- The kernel's own buffers at the region's entry. -/
theorem keep_in : Pipeline.ΦA spec0 c ⊢ (Keep m c 0 : sProp 𝕄) := by
  unfold Pipeline.ΦA Keep
  rw [scopedRest0_eq]
  simp only [owns_whole]
  iintro ⟨⟨⟨%f0, H0⟩, ⟨%f1, H1⟩⟩, Hr⟩
  iexists f0, f1
  isplitr
  · ipureintro
    exact fun h => by omega
  isplitl [H0]; · iexact H0
  isplitl [H1]; · iexact H1
  iexact Hr

/-- The kernel's own buffers after the last point. -/
theorem keep_out (n : ℕ) : (Keep m c n : sProp 𝕄) ⊢ Pipeline.ΦA spec0 c := by
  unfold Pipeline.ΦA Keep
  rw [scopedRest0_eq]
  simp only [owns_whole]
  iintro ⟨%f0, %f1, -, H0, H1, Hr⟩
  isplitl [H0 H1]
  · isplitl [H0]; · iexists f0; iexact H0
    iexists f1; iexact H1
  iexact Hr

set_option backward.isDefEq.respectTransparency.types false in
set_option maxHeartbeats 800000 in
/-- The launch: every weakly fair run ends, every array at some contents the proof data allows, every other unscoped
    buffer as the region found it, and every semaphore counter at zero. -/
theorem run_main_quiescent : θ_run defs (onTc (τ := τ) (main (F := F))) (s₀ m ρ) (fun r => Pipeline.RDat.FramePost cfg0 (rdat m) (V m) r ∧ r.2.sem = fun _ => 0) :=
  Pipeline.RDat.θ_run_frame_track cfgs (0 : Fin 1) launch0 defs₀ Variants.none (rdat m) m ρ main
    (body_obligation m) (fun c => (dats m 0 c).share_full fun _ => rfl)
    (fun _ _ => rfl) (V m) (hmain m Variants.none) (A_eq m) (fun c => keep_in m c) (fun c => keep_out m c _) _
    (fun r h => h)

/-- The frame: every weakly fair run ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main_quiescent m ρ)

end Cert.InProj.Hand
-- ==== Proof.InProjIdealRun.lean ====
module

public import proofs.«01_k».proof.Proof.Gen.InProjIdeal.Launch
public import proofs.«01_k».proof.Proof.Gen.InProjIdeal.Skeleton
public import proofs.«01_k».proof.Proof.Gen.InProjIdeal.Points
public import proofs.«01_k».proof.Proof.Gen.InProjIdeal.Frame
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the kernel stores, as functions of what it loads -/

/-- Six rows of forty, stored one by one. -/
def sixRows (a b c d e f : Vec F S1x40 .f32) : Vec F S6x40 .f32 :=
  View.canon [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]

/-- The codes of the normalised input, padded with zero rows to 256 rows. -/
def padA (x : Vec F S240x1536 .bf16) (w : Vec F S1x1536 .f32) : Vec F S256x1536 .fp8e4m3 :=
  View.canon [⟨Rect.unit (s := S256x1536) ![0, 0] S240x1536.size inb_S256x1536_S240x1536_0_0, k0_pay9 (k0_pay7 x w)⟩,
    ⟨Rect.unit (s := S256x1536) ![0, 0] S256x1536.size inb_S256x1536_S256x1536_0_0, k0_pay8⟩]

/-- The scales of the normalised input by group of forty rows. -/
def rowsA (x : Vec F S240x1536 .bf16) (w : Vec F S1x1536 .f32) : Vec F S6x40 .f32 :=
  sixRows (k0_pay11 (k0_pay6 x w)) (k0_pay12 (k0_pay6 x w)) (k0_pay13 (k0_pay6 x w))
    (k0_pay1 (k0_pay14 (k0_pay6 x w)) (iota .tc S40x40 32 [0] iota_S40x40_d0_w32)) (k0_pay2 (k0_pay6 x w)) (k0_pay3 (k0_pay6 x w))

/-! ## Reading a buffer back -/

section Read

theorem zero2 (a : Fin 2) : (![0, 0] : Fin 2 → ℕ) a = 0 := by revert a; decide

variable {d : Fin 2 → ℕ} {sp : Space} {e : EltTy} (v : View sig .tc sp (⟨2, d⟩ : Shape) e)

/-- A load of the whole buffer reads its contents. -/
theorem readAt_whole (f : v.ty.Contents (Elt F)) (inb : ∀ a, (![0, 0] : Fin 2 → ℕ) a + d a ≤ d a) :
    v.readAt (Elt F) (Rect.unit (s := ⟨2, d⟩) ![0, 0] d inb).toLoadRect f = v.read (Elt F) f :=
  View.ld_unit_lit inb _ zero2

/-- A load of the whole buffer reads what the stores before it left. -/
theorem readCov_whole (L : List (View.Piece (Elt F) (⟨2, d⟩ : Shape) e)) (inb : ∀ a, (![0, 0] : Fin 2 → ℕ) a + d a ≤ d a) :
    v.readCov L (Rect.unit (s := ⟨2, d⟩) ![0, 0] d inb).toLoadRect = View.canon L := by
  rw [View.readCov_eq_canon']
  exact View.ld_unit_lit (S := ⟨2, d⟩) inb (View.canon L) zero2

/-- After a store to the whole buffer, and any stores since, it holds what the stores leave. -/
theorem read_writes_whole (f : v.ty.Contents (Elt F)) (L : List (View.Piece (Elt F) (⟨2, d⟩ : Shape) e))
    (inb : ∀ a, (![0, 0] : Fin 2 → ℕ) a + d a ≤ d a) (w : (Rect.unit (s := ⟨2, d⟩) ![0, 0] d inb).shape.Idx → Elt F e)
    (h : (⟨Rect.unit (s := ⟨2, d⟩) ![0, 0] d inb, w⟩ : View.Piece (Elt F) (⟨2, d⟩ : Shape) e) ∈ L) :
    v.read (Elt F) (v.writes (Elt F) f L) = View.canon L := by
  refine View.read_writes_eq_canon _ _ _ fun y => ⟨_, h, ?_⟩
  rw [Rect.mem_set_unit]
  intro a
  have := (y a).isLt
  have h0 := zero2 a
  rw [h0]
  exact ⟨Nat.zero_le _, by rw [Nat.zero_add]; exact this⟩

/-- One store to the whole buffer leaves its payload. -/
theorem read_write_whole (f : v.ty.Contents (Elt F))
    (inb : ∀ a, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w :=
  (read_writes_whole v f _ inb w (List.mem_singleton_self _)).trans (View.canon_unit_zero (S := ⟨2, d⟩) (funext zero2) inb w)

/-- A store through a rectangle replaces the contents there. -/
theorem read_write_rect (f : v.ty.Contents (Elt F)) (r : Rect (⟨2, d⟩ : Shape)) (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · rw [r.overlay_of_not_mem _ _ hy]
    exact View.read_writes_apply_of_forall_not_mem v f y _ (by simpa using hy)

omit v in
/-- One store to the whole of a buffer is all it holds. -/
theorem canon_whole (inb : ∀ a, (![0, 0] : Fin 2 → ℕ) a + d a ≤ d a) (w : (⟨2, d⟩ : Shape).Idx → Elt F e) :
    View.canon [(⟨Rect.unit (s := ⟨2, d⟩) ![0, 0] d inb, w⟩ : View.Piece (Elt F) (⟨2, d⟩ : Shape) e)] = w :=
  View.canon_unit_zero (S := ⟨2, d⟩) (funext zero2) inb w

end Read

/-- Stores to the six rows leave the rows. -/
theorem read_sixRows {sp : Space} (v : View sig .tc sp S6x40 .f32) (g : v.ty.Contents (Elt F)) (a b c d e f : Vec F S1x40 .f32) :
    v.read (Elt F) (v.writes (Elt F) g [⟨Rect.unit (s := S6x40) ![5, 0] S1x40.size inb_S6x40_S1x40_5_0, f⟩,
    ⟨Rect.unit (s := S6x40) ![4, 0] S1x40.size inb_S6x40_S1x40_4_0, e⟩,
    ⟨Rect.unit (s := S6x40) ![3, 0] S1x40.size inb_S6x40_S1x40_3_0, d⟩,
    ⟨Rect.unit (s := S6x40) ![2, 0] S1x40.size inb_S6x40_S1x40_2_0, c⟩,
    ⟨Rect.unit (s := S6x40) ![1, 0] S1x40.size inb_S6x40_S1x40_1_0, b⟩,
    ⟨Rect.unit (s := S6x40) ![0, 0] S1x40.size inb_S6x40_S1x40_0_0, a⟩]) = sixRows a b c d e f :=
  View.read_writes_eq_canon _ _ _ (View.cover_of_tiled _ S1x40.size (by rfl))

/-! ## The kernel body, at the first point and at the others -/

variable (c : Dev nD) (E : Set ℕ) (i : grid0.Coords)
  (arg1 : Memref sig .tc .vmem S240x1536 .bf16) (harg1 : arg1.IsWhole)
  (arg2 : Memref sig .tc .vmem S1x1536 .f32) (harg2 : arg2.IsWhole)
  (arg3 : Memref sig .tc .vmem S1024x1536 .fp8e4m3) (harg3 : arg3.IsWhole)
  (arg4 : Memref sig .tc .vmem S1x1024 .f32) (harg4 : arg4.IsWhole)
  (arg5 : Memref sig .tc .vmem S240x1024 .f32) (harg5 : arg5.IsWhole)
  (arg6 : Memref sig .tc .vmem S240x1536 .fp8e4m3) (harg6 : arg6.IsWhole)
  (arg7 : Memref sig .tc .vmem S6x40 .f32) (harg7 : arg7.IsWhole)
  (arg8 : Memref sig .tc .vmem S256x1536 .fp8e4m3) (harg8 : arg8.IsWhole)
  (arg9 : Memref sig .tc .vmem S240x1 .f32) (harg9 : arg9.IsWhole)

set_option maxHeartbeats 1000000 in
/-- The first point: normalise and quantise the input, then the first block of columns of the product. -/
theorem run_first (h1 : k0_cond1 i = 1#1)
    (x1 : Vec F S240x1536 .bf16) (x2 : Vec F S1x1536 .f32) (x3 : Vec F S1024x1536 .fp8e4m3) (x4 : Vec F S1x1024 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare (k0_pay4 (padA x1 x2) x3 (k0_pay10 (k0_pay6 x1 x2)) x4)
        ∗ owns (c : Thread nD τ) arg6 fullShare (k0_pay7 x1 x2)
        ∗ owns (c : Thread nD τ) arg7 fullShare (rowsA x1 x2)
        ∗ owns (c : Thread nD τ) arg8 fullShare (padA x1 x2)
        ∗ owns (c : Thread nD τ) arg9 fullShare (k0_pay10 (k0_pay6 x1 x2))) -∗ K ⟨⟩))
      ⊢ wp frame (wpE (defs₀ (F := F)) Variants.none c none) E
        (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [dif_pos h1]
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_write_whole (F := F) _ _ _ _
  isplitl [H6]
  · iexists _; isplitr; swap; · iexact H6
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_write_whole (F := F) _ _ _ _
  isplitl [H7]
  · iexists _; isplitr; swap; · iexact H7
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_sixRows (F := F) _ _ _ _ _ _ _ _
  isplitl [H8]
  · iexists _; isplitr; swap; · iexact H8
    ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
    simp only [readAt_whole, readCov_whole, canon_whole, padA, rowsA]
    try simp only [View.readAt_eq_ld]
    exact read_writes_whole (F := F) _ _ _ _ _ (List.mem_cons_of_mem _ (List.mem_singleton_self _))
  iexists _; isplitr; swap; · iexact H9
  ipureintro; repeat (first | delta run_first.sl.v3 | delta run_first.sl.v8 | delta run_first.sl.H8_1 | delta run_first.sl.H8_2 | delta run_first.sl.H9_1 | delta run_first.sl.r | delta run_first.sl.r_1 | delta run_first.sl.r_2 | delta run_first.sl.H6_1 | delta run_first.sl.H7_1 | delta run_first.sl.v94 | delta run_first.sl.v93)
  simp only [readAt_whole, readCov_whole, canon_whole, padA, rowsA]
  try simp only [View.readAt_eq_ld]
  exact read_write_whole (F := F) _ _ _ _

set_option maxHeartbeats 1000000 in
/-- A later block of columns of the product. -/
theorem run_rest (h1 : ¬ k0_cond1 i = 1#1)
    (x3 : Vec F S1024x1536 .fp8e4m3) (x4 : Vec F S1x1024 .f32) (x8 : Vec F S256x1536 .fp8e4m3) (x9 : Vec F S240x1 .f32) (K : PUnit → sProp 𝕄) :
    iprop(owns (c : Thread nD τ) arg3 fullShare x3
      ∗ owns (c : Thread nD τ) arg4 fullShare x4
      ∗ (∃ d, owns (c : Thread nD τ) arg5 fullShare d)
      ∗ owns (c : Thread nD τ) arg8 fullShare x8
      ∗ owns (c : Thread nD τ) arg9 fullShare x9
      ∗ (iprop(owns (c : Thread nD τ) arg3 fullShare x3
        ∗ owns (c : Thread nD τ) arg4 fullShare x4
        ∗ owns (c : Thread nD τ) arg8 fullShare x8
        ∗ owns (c : Thread nD τ) arg9 fullShare x9
        ∗ owns (c : Thread nD τ) arg5 fullShare (k0_pay4 x8 x3 x9 x4)) -∗ K ⟨⟩))
      ⊢ wp frame (wpE (defs₀ (F := F)) Variants.none c none) E
        (cc0_in_proj i arg1 harg1 arg2 harg2 arg3 harg3 arg4 harg4 arg5 harg5 arg6 harg6 arg7 harg7 arg8 harg8 arg9 harg9) K := by
  simp only [cc0_in_proj_eq_skeleton]; unfold cc0_in_proj_skel
  simp only [dif_neg h1]
  unfold owns
  iintro ⟨⟨%f3, %hf3, H3⟩, ⟨%f4, %hf4, H4⟩, ⟨%d5, %f5, -, H5⟩, ⟨%f8, %hf8, H8⟩, ⟨%f9, %hf9, H9⟩, Hk⟩
  subst hf3 hf4 hf8 hf9
  sl_exec
  sl_step
  iapply Hk
  isplitl [H3]
  · iexists f3; isplitr; · ipureintro; rfl
    iexact H3
  isplitl [H4]
  · iexists f4; isplitr; · ipureintro; rfl
    iexact H4
  isplitl [H8]
  · iexists f8; isplitr; · ipureintro; rfl
    iexact H8
  isplitl [H9]
  · iexists f9; isplitr; · ipureintro; rfl
    iexact H9
  iexists _; isplitr; swap; · iexact H5
  ipureintro
  simp only [readAt_whole, readCov_whole, canon_whole, padA, rowsA]
  try simp only [View.readAt_eq_ld]
  exact read_write_whole (F := F) _ _ _ _

end Cert.InProjIdeal.Hand
-- ==== Proof.InProjIdealBody.lean ====
module

public import proofs.«01_k».proof.Proof.Gen.InProjIdeal.Launch
public import proofs.«01_k».proof.Proof.Gen.InProjIdeal.Skeleton
public import proofs.«01_k».proof.Proof.Gen.InProjIdeal.Points
public import proofs.«01_k».proof.Proof.Gen.InProjIdeal.Frame
public import proofs.«01_k».proof.Proof.InProjIdealRun
public import Idealize.ShloMosaic.Lib.Pipeline.ValueKit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.InProjIdeal.Hand

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## What each buffer holds, from the arrays the region finds -/

theorem cond1 : ∀ t : Fin grid0.N, k0_cond1 (grid0.coords t) = 1#1 ↔ t.val = 0 := by decide

/-- The first point. -/
abbrev p0 : Fin cfg0.N := ⟨0, by decide⟩

/-- The input, as the first point finds it. -/
def vX : Vec F S240x1536 .bf16 := iblk m c 0 p0
/-- The normalisation's weight, as the first point finds it. -/
def vN : Vec F S1x1536 .f32 := iblk m c 1 p0
/-- The normalised input's codes, padded. -/
def vA : Vec F S256x1536 .fp8e4m3 := padA (vX m c) (vN m c)
/-- The normalised input's scales. -/
def vS : Vec F S240x1 .f32 := k0_pay10 (k0_pay6 (vX m c) (vN m c))
/-- The weight's rows in the buffer at point `t`: the array's where the block lies inside it, `d` elsewhere. -/
def vB (t : Fin cfg0.N) (d : Vec F S1024x1536 .fp8e4m3) : Vec F S1024x1536 .fp8e4m3 :=
  (cfg0.win 2).fill (cfg0.grid.coords t) d (iblk m c 2 t)
/-- The weight's scales in the buffer at point `t`, likewise. -/
def vC (t : Fin cfg0.N) (d : Vec F S1x1024 .f32) : Vec F S1x1024 .f32 :=
  (cfg0.win 3).fill (cfg0.grid.coords t) d (iblk m c 3 t)
/-- The block of columns of the product point `t` stores. -/
def vP (t : Fin cfg0.N) (d : Vec F S1024x1536 .fp8e4m3) (d' : Vec F S1x1024 .f32) : Vec F S240x1024 .f32 :=
  k0_pay4 (vA m c) (vB m c t d) (vS m c) (vC m c t d')

/-- Some rows. -/
def anyB : Vec F S1024x1536 .fp8e4m3 := broadcast S1024x1536 (Scalar.ofBits .fp8e4m3 0x00#8)
/-- Some scales. -/
def anyC : Vec F S1x1024 .f32 := broadcast S1x1024 (Scalar.ofBits .f32 0x00000000#32)

/-- The kernel's own buffers before point `n`, and the core's generator register. -/
def Keep (n : ℕ) : sProp 𝕄 :=
  iprop(∃ s0 s1, ⌜1 ≤ n → s0 = vA m c ∧ s1 = vS m c⌝
    ∗ owns (c : Thread nD τ) (Memref.whole cc0_scratch0) fullShare s0 ∗ owns (c : Thread nD τ) (Memref.whole cc0_scratch1) fullShare s1
    ∗ ∃ r, prngReg c r)

/-- The proof data: the arrays as the region finds them, and after the body at point `t` each input's buffer at its
    block and each output's at what the kernel last stored there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => vB m c t anyB
    | ⟨3, _⟩ => vC m c t anyC
    | ⟨4, _⟩ => vP m c t anyB anyC
    | ⟨5, _⟩ => k0_pay7 (vX m c) (vN m c)
    | ⟨6, _⟩ => rowsA (vX m c) (vN m c)
    | ⟨_ + 7, h⟩ => absurd h (Nat.not_lt.2 (Nat.le_add_left _ _))
  Φ n := Keep m c n.val
  q _ := fullShare
  owed _ := 0

/-- The proof data, the product's block constrained only up to what lies past the ends of the arrays. -/
def rdat (c : Dev nD) : RDat τ (Elt F) Unit ℕ (UR sig nD τ) ℕ cfg0 c :=
  (dats m 0 c).toR.override fun w => match w with
    | ⟨4, _⟩ => some fun t _ X => ∃ d d', X = vP m c t d d'
    | ⟨5, _⟩ => some fun _ _ X => X = k0_pay7 (vX m c) (vN m c)
    | ⟨6, _⟩ => some fun _ _ X => X = rowsA (vX m c) (vN m c)
    | _ => none

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = vB m c t anyB := by dsimp only [dats]
theorem after_3 (t : Fin cfg0.N) : (dats m 0 c).after 3 t = vC m c t anyC := by dsimp only [dats]
theorem after_4 (t : Fin cfg0.N) : (dats m 0 c).after 4 t = vP m c t anyB anyC := by dsimp only [dats]
theorem after_5 (t : Fin cfg0.N) : (dats m 0 c).after 5 t = k0_pay7 (vX m c) (vN m c) := by dsimp only [dats]
theorem after_6 (t : Fin cfg0.N) : (dats m 0 c).after 6 t = rowsA (vX m c) (vN m c) := by dsimp only [dats]

/-! ## What a point finds, and what it leaves -/

variable {m c}

theorem rel_4 {t : Fin cfg0.N} {Y X} : (rdat m c).after 4 t Y X ↔ ∃ d d', X = vP m c t d d' := by
  rw [rdat, RDat.override_after_of_eq_some (dats m 0 c).toR (w := 4) (R := fun t _ X => ∃ d d', X = vP m c t d d') rfl]

theorem rel_5 {t : Fin cfg0.N} {Y X} : (rdat m c).after 5 t Y X ↔ X = k0_pay7 (vX m c) (vN m c) := by
  rw [rdat, RDat.override_after_of_eq_some (dats m 0 c).toR (w := 5) (R := fun _ _ X => X = k0_pay7 (vX m c) (vN m c)) rfl]

theorem rel_6 {t : Fin cfg0.N} {Y X} : (rdat m c).after 6 t Y X ↔ X = rowsA (vX m c) (vN m c) := by
  rw [rdat, RDat.override_after_of_eq_some (dats m 0 c).toR (w := 6) (R := fun _ _ X => X = rowsA (vX m c) (vN m c)) rfl]

theorem rel_none {w : Fin 7} (hw : w.val < 4) : (rdat m c).after w = (dats m 0 c).toR.after w := by
  unfold rdat
  refine RDat.override_after_of_eq_none (dats m 0 c).toR (w := w) ?_
  match w, hw with
  | ⟨0, _⟩, _ => exact rfl
  | ⟨1, _⟩, _ => exact rfl
  | ⟨2, _⟩, _ => exact rfl
  | ⟨3, _⟩, _ => exact rfl
  | ⟨n + 4, _⟩, h => exact absurd h (Nat.not_lt.mpr (Nat.le_add_left 4 n))

theorem finds_none {w : Fin 7} (hw : w.val < 4) {t : Fin cfg0.N} {Y} (h : (rdat m c).Finds w t Y) : ∃ d, Y = (dats m 0 c).before w t d := by
  refine (dats m 0 c).toR_finds w t Y ((RDat.override_finds _ ?_ t Y).mp h)
  clear h
  match w, hw with
  | ⟨0, _⟩, _ => exact rfl
  | ⟨1, _⟩, _ => exact rfl
  | ⟨2, _⟩, _ => exact rfl
  | ⟨3, _⟩, _ => exact rfl
  | ⟨n + 4, _⟩, h => exact absurd h (Nat.not_lt.mpr (Nat.le_add_left 4 n))

theorem found_0 {t : Fin cfg0.N} {Y} (h : (rdat m c).Finds 0 t Y) : Y = iblk m c 0 t :=
  (finds_none (by decide) h).elim fun d e => e.trans (before0_0_of m (dats m 0 c) (A_eq m c _) (after_0 m c) t d)
theorem found_1 {t : Fin cfg0.N} {Y} (h : (rdat m c).Finds 1 t Y) : Y = iblk m c 1 t :=
  (finds_none (by decide) h).elim fun d e => e.trans (before0_1_of m (dats m 0 c) (A_eq m c _) (after_1 m c) t d)
theorem found_2 {t : Fin cfg0.N} {Y} (h : (rdat m c).Finds 2 t Y) : ∃ d, Y = vB m c t d :=
  (finds_none (by decide) h).imp fun d e => e.trans ((dats m 0 c).before_fetched 2 t (fetch0_2 t) d)
theorem found_3 {t : Fin cfg0.N} {Y} (h : (rdat m c).Finds 3 t Y) : ∃ d, Y = vC m c t d :=
  (finds_none (by decide) h).imp fun d e => e.trans ((dats m 0 c).before_fetched 3 t (fetch0_3 t) d)

theorem flush_5 {t : Fin cfg0.N} (h : t.val % 9 ≠ 8) : (cfg0.win 5).flush t = false := eq_false_of_ne_true fun h' => h ((flush0_5 t).mp h')
theorem flush_6 {t : Fin cfg0.N} (h : t.val % 9 ≠ 8) : (cfg0.win 6).flush t = false := eq_false_of_ne_true fun h' => h ((flush0_6 t).mp h')

theorem lt9 (t : Fin cfg0.N) : t.val < 9 := lt_of_lt_of_eq t.isLt N_0

theorem found_5 {t : Fin cfg0.N} (ht : t.val ≠ 0) {Y} (h : (rdat m c).Finds 5 t Y) : Y = k0_pay7 (vX m c) (vN m c) := by
  rw [RDat.finds_of_pos _ (((cfg0.win 5).fetch_out rfl t)) ht] at h
  rcases h with h | ⟨Z, -, h⟩
  · rw [flush_5 (by have := lt9 t; show (t.val - 1) % 9 ≠ 8; omega)] at h; exact absurd h (by decide)
  · exact rel_5.mp h
theorem found_6 {t : Fin cfg0.N} (ht : t.val ≠ 0) {Y} (h : (rdat m c).Finds 6 t Y) : Y = rowsA (vX m c) (vN m c) := by
  rw [RDat.finds_of_pos _ (((cfg0.win 6).fetch_out rfl t)) ht] at h
  rcases h with h | ⟨Z, -, h⟩
  · rw [flush_6 (by have := lt9 t; show (t.val - 1) % 9 ≠ 8; omega)] at h; exact absurd h (by decide)
  · exact rel_6.mp h

theorem leave_0 (t : Fin cfg0.N) (Y) {X} (hX : X = iblk m c 0 t) : (rdat m c).after 0 t Y X := by
  rw [rel_none (by decide), hX]; exact (after_0 m c t).symm
theorem leave_1 (t : Fin cfg0.N) (Y) {X} (hX : X = iblk m c 1 t) : (rdat m c).after 1 t Y X := by
  rw [rel_none (by decide), hX]; exact (after_1 m c t).symm
theorem leave_2 (t : Fin cfg0.N) (Y) (d) : (rdat m c).after 2 t Y (vB m c t d) := by
  rw [rel_none (by decide)]
  refine ⟨d, ?_⟩
  rw [after_2]; unfold vB; rw [Window.cut_fill]
theorem leave_3 (t : Fin cfg0.N) (Y) (d) : (rdat m c).after 3 t Y (vC m c t d) := by
  rw [rel_none (by decide)]
  refine ⟨d, ?_⟩
  rw [after_3]; unfold vC; rw [Window.cut_fill]
/-! ## The body obligation -/

variable (m c)

/-- What the body is handed at point `t`, the windows one by one; -/
def bodyPre (t : Fin cfg0.N) (Y : (w : Fin cfg0.W) → (cfg0.win w).block.Idx → Elt F (cfg0.win w).elt) : sProp 𝕄 :=
  iprop(Keep m c t.val ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- and what it returns. -/
def bodyPost (t : Fin cfg0.N) (Y : (w : Fin cfg0.W) → (cfg0.win w).block.Idx → Elt F (cfg0.win w).elt) : sProp 𝕄 :=
  iprop(Keep m c (t.val + 1) ∗ (rdat m c).owesAt () t.castSucc
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X))

variable {m c} {t : Fin cfg0.N} {Y : (w : Fin cfg0.W) → (cfg0.win w).block.Idx → Elt F (cfg0.win w).elt}

/-- The first point. -/
theorem body_first (ht : t.val = 0) (hY : ∀ w, (rdat m c).Finds w t (Y w)) :
    bodyPre m c t Y ⊢ wp frame (wpE (defs₀ (F := F)) Variants.none c none) Set.univ (bodyAt0 t) (fun _ => bodyPost m c t Y) := by
  have h1 : k0_cond1 (grid0.coords t) = 1#1 := (cond1 t).mpr ht
  have hp : (p0 : Fin cfg0.N) = t := Fin.ext ht.symm
  have e0' : vX m c = iblk m c 0 t := by unfold vX; rw [hp]
  have e1' : vN m c = iblk m c 1 t := by unfold vN; rw [hp]
  have e0 := (found_0 (hY 0)).trans e0'.symm
  have e1 := (found_1 (hY 1)).trans e1'.symm
  obtain ⟨d2, e2⟩ := found_2 (hY 2)
  obtain ⟨d3, e3⟩ := found_3 (hY 3)
  unfold bodyPre bodyPost bodyAt0 Keep
  rw [e0, e1, e2, e3]
  iintro ⟨⟨%s0, %s1, %hI, S0, S1, Hr⟩, Ho, H0, H1, H2, H3, H4, H5, H6⟩
  iapply (run_first c Set.univ _ _ _ _ _ _ _ _ _ _ _ _ _ _ _ _ _ _ _ h1 (vX m c) (vN m c) (vB m c t d2) (vC m c t d3))
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [S0]; · iexists _; iexact S0
  isplitl [S1]; · iexists _; iexact S1
  iintro ⟨H0, H1, H2, H3, H4, H5, H6, S0, S1⟩
  isplitl [S0 S1 Hr]
  · iexists _, _; isplitr; swap
    · isplitl [S0]; · iexact S0
      isplitl [S1]; · iexact S1
      iexact Hr
    ipureintro; exact fun _ => ⟨rfl, rfl⟩
  isplitl [Ho]; · iexact Ho
  isplitl [H0]
  · iexists _; isplitr; swap; · iexact H0
    ipureintro; exact leave_0 t _ e0'
  isplitl [H1]
  · iexists _; isplitr; swap; · iexact H1
    ipureintro; exact leave_1 t _ e1'
  isplitl [H2]
  · iexists _; isplitr; swap; · iexact H2
    ipureintro; exact leave_2 t _ d2
  isplitl [H3]
  · iexists _; isplitr; swap; · iexact H3
    ipureintro; exact leave_3 t _ d3
  isplitl [H4]
  · iexists _; isplitr; swap; · iexact H4
    ipureintro; exact rel_4.mpr ⟨d2, d3, rfl⟩
  isplitl [H5]
  · iexists _; isplitr; swap; · iexact H5
    ipureintro; exact rel_5.mpr rfl
  iexists _; isplitr; swap; · iexact H6
  ipureintro; exact rel_6.mpr rfl

/-- A later point. -/
theorem body_rest (ht : t.val ≠ 0) (hY : ∀ w, (rdat m c).Finds w t (Y w)) :
    bodyPre m c t Y ⊢ wp frame (wpE (defs₀ (F := F)) Variants.none c none) Set.univ (bodyAt0 t) (fun _ => bodyPost m c t Y) := by
  have h1 : ¬ k0_cond1 (grid0.coords t) = 1#1 := fun h => ht ((cond1 t).mp h)
  have e0 := found_0 (hY 0)
  have e1 := found_1 (hY 1)
  obtain ⟨d2, e2⟩ := found_2 (hY 2)
  obtain ⟨d3, e3⟩ := found_3 (hY 3)
  have e5 := found_5 ht (hY 5)
  have e6 := found_6 ht (hY 6)
  unfold bodyPre bodyPost bodyAt0 Keep
  rw [e0, e1, e2, e3, e5, e6]
  iintro ⟨⟨%s0, %s1, %hI, S0, S1, Hr⟩, Ho, H0, H1, H2, H3, H4, H5, H6⟩
  obtain ⟨i0, i1⟩ := hI (by omega)
  subst i0 i1
  iapply (run_rest c Set.univ _ _ _ _ _ _ _ _ _ _ _ _ _ _ _ _ _ _ _ h1 (vB m c t d2) (vC m c t d3) (vA m c) (vS m c))
  isplitl [H2]; · iexact H2
  isplitl [H3]; · iexact H3
  isplitl [H4]; · iexists _; iexact H4
  isplitl [S0]; · iexact S0
  isplitl [S1]; · iexact S1
  iintro ⟨H2, H3, S0, S1, H4⟩
  isplitl [S0 S1 Hr]
  · iexists _, _; isplitr; swap
    · isplitl [S0]; · iexact S0
      isplitl [S1]; · iexact S1
      iexact Hr
    ipureintro; exact fun _ => ⟨rfl, rfl⟩
  isplitl [Ho]; · iexact Ho
  isplitl [H0]
  · iexists _; isplitr; swap; · iexact H0
    ipureintro; exact leave_0 t _ rfl
  isplitl [H1]
  · iexists _; isplitr; swap; · iexact H1
    ipureintro; exact leave_1 t _ rfl
  isplitl [H2]
  · iexists _; isplitr; swap; · iexact H2
    ipureintro; exact leave_2 t _ d2
  isplitl [H3]
  · iexists _; isplitr; swap; · iexact H3
    ipureintro; exact leave_3 t _ d3
  isplitl [H4]
  · iexists _; isplitr; swap; · iexact H4
    ipureintro; exact rel_4.mpr ⟨d2, d3, rfl⟩
  isplitl [H5]
  · iexists _; isplitr; swap; · iexact H5
    ipureintro; exact rel_5.mpr rfl
  iexists _; isplitr; swap; · iexact H6
  ipureintro; exact rel_6.mpr rfl

/-- The body at every point. -/
theorem sound_body (hY : ∀ w, (rdat m c).Finds w t (Y w)) :
    bodyPre m c t Y ⊢ wp frame (wpE (defs₀ (F := F)) Variants.none c none) Set.univ (bodyAt0 t) (fun _ => bodyPost m c t Y) := by
  by_cases h : t.val = 0
  · exact body_first h hY
  · exact body_rest h hY

variable (m c)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation : (rdat (F := F) m c).BodyObligation defs₀ Variants.none () Set.univ := fun t Y hY => by
  rw [bigSep_W0, bigSep_W0, defs₀_row]
  exact triple_restated (sound_body hY) rfl .rfl fun _ => .rfl

/-! ## The run and the frame -/

/-- The kernel's own buffers at the region's entry. -/
theorem keep_in : Pipeline.ΦA spec0 c ⊢ (Keep m c 0 : sProp 𝕄) := by
  unfold Pipeline.ΦA Keep
  rw [scopedRest0_eq]
  simp only [owns_whole]
  iintro ⟨⟨⟨%f0, H0⟩, ⟨%f1, H1⟩⟩, Hr⟩
  iexists f0, f1
  isplitr
  · ipureintro
    exact fun h => by omega
  isplitl [H0]; · iexact H0
  isplitl [H1]; · iexact H1
  iexact Hr

/-- The kernel's own buffers after the last point. -/
theorem keep_out (n : ℕ) : (Keep m c n : sProp 𝕄) ⊢ Pipeline.ΦA spec0 c := by
  unfold Pipeline.ΦA Keep
  rw [scopedRest0_eq]
  simp only [owns_whole]
  iintro ⟨%f0, %f1, -, H0, H1, Hr⟩
  isplitl [H0 H1]
  · isplitl [H0]; · iexists f0; iexact H0
    iexists f1; iexact H1
  iexact Hr

set_option backward.isDefEq.respectTransparency.types false in
set_option maxHeartbeats 800000 in
/-- The launch: every weakly fair run ends, every array at some contents the proof data allows, every other unscoped
    buffer as the region found it, and every semaphore counter at zero. -/
theorem run_main_quiescent : θ_run defs (onTc (τ := τ) (main (F := F))) (s₀ m ρ) (fun r => Pipeline.RDat.FramePost cfg0 (rdat m) (V m) r ∧ r.2.sem = fun _ => 0) :=
  Pipeline.RDat.θ_run_frame_track cfgs (0 : Fin 1) launch0 defs₀ Variants.none (rdat m) m ρ main
    (body_obligation m) (fun c => (dats m 0 c).share_full fun _ => rfl)
    (fun _ _ => rfl) (V m) (hmain m Variants.none) (A_eq m) (fun c => keep_in m c) (fun c => keep_out m c _) _
    (fun r h => h)

/-- The frame: every weakly fair run ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main_quiescent m ρ)

end Cert.InProjIdeal.Hand
-- ==== Proof.InProjMath.lean ====
module

public import proofs.«01_k».proof.Proof.InProjIdealRun
public import proofs.«01_k».proof.Proof.TileMath
public import proofs.«01_k».proof.Proof.Gen.InProjReferenceIdeal.Skeleton

@[expose] public section

set_option maxRecDepth 16384

noncomputable section

/-! What each stage of the kernel computes, against the same stage of the reference, over the extended reals. -/

namespace Cert.InProjValue

open Cert.InProjIdeal Cert.InProjIdeal.Gen Cert.InProjIdeal.Hand
open Idealize.ShloMosaic Idealize.ShloMosaic.TcCoe
open Idealize.SL.Sem

/-- The kernel's constant is the reciprocal of 448. -/
theorem named_inv : (Named.named Cert.InProjIdeal.κ "inv_448" 0x3B124925#32 : Ideal .f32) = ((1 / 448 : ℝ) : EReal) :=
  IdealRules.named_const.ideal_named_scalar _ _ _ _ rfl

variable (x : Vec Ideal InProjIdeal.S240x1536 .bf16) (nw : Vec Ideal InProjIdeal.S1x1536 .f32)

/-! ## The quantiser -/

theorem norm : InProjIdeal.Gen.k0_pay5 x nw = InProjReferenceIdeal.Gen.k0_pay2 x nw := rfl

theorem scale : InProjIdeal.Gen.k0_pay6 x nw = InProjReferenceIdeal.Gen.k0_pay3 x nw := by
  unfold InProjIdeal.Gen.k0_pay6 InProjReferenceIdeal.Gen.k0_pay3
  rw [norm]
  exact TileMath.scale_eq _ _ _ _ named_inv

theorem codes : InProjIdeal.Gen.k0_pay7 x nw = InProjReferenceIdeal.Gen.k0_pay4 x nw := by
  unfold InProjIdeal.Gen.k0_pay7 InProjReferenceIdeal.Gen.k0_pay4
  rw [scale, norm]

/-! ## The scales by group of forty rows -/

/-- Six rows that are the rows of `G` are `G`. -/
theorem sixRows_eq (G : Vec Ideal InProjIdeal.S6x40 .f32) (a b c d e f : Vec Ideal InProjIdeal.S1x40 .f32)
    (ha : ∀ l, a (ix2 0 l) = G (ix2 0 l)) (hb : ∀ l, b (ix2 0 l) = G (ix2 1 l)) (hc : ∀ l, c (ix2 0 l) = G (ix2 2 l))
    (hd : ∀ l, d (ix2 0 l) = G (ix2 3 l)) (he : ∀ l, e (ix2 0 l) = G (ix2 4 l)) (hf : ∀ l, f (ix2 0 l) = G (ix2 5 l)) :
    sixRows a b c d e f = G := by
  have key : ∀ (r : Fin 6) (w : Vec Ideal InProjIdeal.S1x40 .f32) (inb : ∀ a, (![r.val, 0] : Fin 2 → ℕ) a + InProjIdeal.S1x40.size a ≤ InProjIdeal.S6x40.size a)
      (hw : ∀ l, w (ix2 0 l) = G (ix2 r l)) (x : InProjIdeal.S1x40.Idx),
      w x = G ((Rect.unit (s := InProjIdeal.S6x40) ![r.val, 0] InProjIdeal.S1x40.size inb).emb x) := by
    intro r w inb hw x
    have e1 : x = ix2 0 (x 1) := by
      funext a
      match a with
      | ⟨0, _⟩ => exact Subsingleton.elim (α := Fin 1) _ _
      | ⟨1, _⟩ => rfl
    have e2 : (Rect.unit (s := InProjIdeal.S6x40) ![r.val, 0] InProjIdeal.S1x40.size inb).emb x = ix2 r (x 1) := by
      funext a
      match a with
      | ⟨0, _⟩ =>
        have h0 : (x 0).val < 1 := (x 0).isLt
        exact Fin.ext (by show r.val + 1 * (x 0).val = r.val; omega)
      | ⟨1, _⟩ => exact Fin.ext (by show 0 + 1 * (x 1).val = (x 1).val; omega)
    exact (congrArg w e1).trans ((hw (x 1)).trans (congrArg G e2.symm))
  funext y
  unfold sixRows
  refine View.canon_apply_of_pieces G _ ?_ y ?_
  swap
  · exact View.cover_of_tiled (s := InProjIdeal.S6x40) _ InProjIdeal.S1x40.size rfl y
  intro p hp
  simp only [List.mem_cons, List.not_mem_nil, or_false] at hp
  rcases hp with rfl | rfl | rfl | rfl | rfl | rfl
  · exact key 5 f inb_S6x40_S1x40_5_0 hf
  · exact key 4 e inb_S6x40_S1x40_4_0 he
  · exact key 3 d inb_S6x40_S1x40_3_0 hd
  · exact key 2 c inb_S6x40_S1x40_2_0 hc
  · exact key 1 b inb_S6x40_S1x40_1_0 hb
  · exact key 0 a inb_S6x40_S1x40_0_0 ha

/-- Entry `40 r + l` of a column is place `(r, l)` of the column laid out by groups of forty. -/
theorem groups_apply (s : FVec Ideal InProjIdeal.S240x1 .f32) (h : InProjIdeal.S240x1.ShapeCasts InProjIdeal.S6x40) (r : Fin 6) (l : Fin 40)
    (k : ℕ) (hk : k = r.val * 40 + l.val) (hlt : k < 240) :
    shapeCast InProjIdeal.S6x40 s h (ix2 r l) = s (ix2 ⟨k, hlt⟩ 0) := by
  subst hk
  pointwise

theorem rows (h) : rowsA x nw = shapeCast InProjIdeal.S6x40 (InProjIdeal.Gen.k0_pay6 x nw) h := by
  unfold rowsA
  refine sixRows_eq _ _ _ _ _ _ _ ?_ ?_ ?_ ?_ ?_ ?_ <;> intro l
  · rw [groups_apply _ h 0 l (0 + l.val) (by simp) (by omega)]
    unfold InProjIdeal.Gen.k0_pay11; pointwise [TileMath.diagonal]
  · rw [groups_apply _ h 1 l (40 + l.val) (by simp) (by omega)]
    unfold InProjIdeal.Gen.k0_pay12; pointwise [TileMath.diagonal]
  · rw [groups_apply _ h 2 l (80 + l.val) (by simp) (by omega)]
    unfold InProjIdeal.Gen.k0_pay13; pointwise [TileMath.diagonal]
  · rw [groups_apply _ h 3 l (120 + l.val) (by simp) (by omega)]
    unfold InProjIdeal.Gen.k0_pay1 InProjIdeal.Gen.k0_pay14; pointwise [TileMath.diagonal]
  · rw [groups_apply _ h 4 l (160 + l.val) (by simp) (by omega)]
    unfold InProjIdeal.Gen.k0_pay2; pointwise [TileMath.diagonal]
  · rw [groups_apply _ h 5 l (200 + l.val) (by simp) (by omega)]
    unfold InProjIdeal.Gen.k0_pay3; pointwise [TileMath.diagonal]

theorem groups : rowsA x nw = InProjReferenceIdeal.Gen.k0_pay1 (InProjReferenceIdeal.Gen.k0_pay3 x nw) := by
  unfold InProjReferenceIdeal.Gen.k0_pay1
  rw [rows _ _ InProjReferenceIdeal.Gen.shapeCasts_S240x1_S6x40, scale]

/-! ## The product, a block of columns of it -/

/-- The scaled product of padded rows with a block of rows of the transposed weight, at an index of the rows kept. -/
theorem rowsTile_apply {P M K N : ℕ} {φ₁ φ₂ : FTy} (A : FVec Ideal ⟨2, ![P, K]⟩ φ₁) (B : FVec Ideal ⟨2, ![N, K]⟩ φ₂)
    (s : FVec Ideal ⟨2, ![M, 1]⟩ .f32) (ws : FVec Ideal ⟨2, ![1, N]⟩ .f32) (h0 h1 h2) (i : Fin M) (j : Fin N) (hi : i.val < P) :
    mulf (mulf (extractStridedSlice ⟨2, ![M, N]⟩ ![0, 0]
        (matmul (DotDims.transposedRhs P K N) none A B (constant ⟨2, ![P, N]⟩ .f32 0x00000000#32)) h0) (broadcastTo ⟨2, ![M, N]⟩ s h1))
      (broadcastTo ⟨2, ![M, N]⟩ ws h2) (ix2 i j)
      = (∑ k, A (ix2 ⟨i.val, hi⟩ k) * B (ix2 j k)) * s (ix2 i 0) * ws (ix2 0 j) := by
  rw [mulf_apply, mulf_apply, TileMath.column_apply, TileMath.row_apply]
  rw [extractStridedSlice_apply _ _ _ _ (ix2 ⟨i.val, hi⟩ j) (by
    intro a
    match a with
    | ⟨0, _⟩ => exact (Nat.zero_add _).symm
    | ⟨1, _⟩ => exact (Nat.zero_add _).symm)]
  have h := Ideal.matmul_transposedRhs_apply none A B (constant ⟨2, ![P, N]⟩ .f32 0x00000000#32) ⟨i.val, hi⟩ j
  rw [constant_apply, Ideal.ofBits_def, Ideal.ofBits_zero_f32, zero_add] at h
  exact congrArg (fun x : EReal => x * s (ix2 i 0) * ws (ix2 0 j)) h

/-- The padded codes hold the codes in the rows kept. -/
theorem pad (i : Fin 240) (k : Fin 1536) : padA x nw (ix2 ⟨i.val, by omega⟩ k) = InProjReferenceIdeal.Gen.k0_pay4 x nw (ix2 i k) := by
  unfold padA
  refine (TileMath.pad_apply (P := 256) (M := 240) (K := 1536) _ _ _ i k (by omega)).trans ?_
  unfold InProjIdeal.Gen.k0_pay9
  rw [shapeCast_id, codes]

theorem tile (wb : Vec Ideal InProjIdeal.S1024x1536 .fp8e4m3) (wsb : Vec Ideal InProjIdeal.S1x1024 .f32)
    (w : Vec Ideal InProjReferenceIdeal.S1536x8416 .fp8e4m3) (ws : Vec Ideal InProjReferenceIdeal.S1x8416 .f32)
    (i : Fin 240) (j : Fin 1024) (l : Fin 8416) (hw : ∀ k, wb (ix2 j k) = w (ix2 k l)) (hs : wsb (ix2 0 j) = ws (ix2 0 l)) :
    InProjIdeal.Gen.k0_pay4 (padA x nw) wb (InProjIdeal.Gen.k0_pay10 (InProjIdeal.Gen.k0_pay6 x nw)) wsb (ix2 i j)
      = InProjReferenceIdeal.Gen.k0_pay5 x nw w ws (ix2 i l) := by
  unfold InProjIdeal.Gen.k0_pay4 InProjReferenceIdeal.Gen.k0_pay5 InProjIdeal.Gen.k0_pay10
  simp only [shapeCast_id, scale]
  refine (rowsTile_apply (φ₁ := .fp8e4m3) (φ₂ := .fp8e4m3) (P := 256) (M := 240) (K := 1536) (N := 1024) _ _ _ _ _ _ _ i j (by omega)).trans
    (Eq.trans ?_ (TileMath.whole_apply (φ₁ := .fp8e4m3) (φ₂ := .fp8e4m3) (M := 240) (K := 1536) (N := 8416) _ _ _ _ _ _ i l).symm)
  rw [hs, Finset.sum_congr rfl fun k _ => by rw [pad x nw i k, hw k]]

end Cert.InProjValue
-- ==== Proof.InProjBlocks.lean ====
module

public import proofs.«01_k».proof.Proof.InProjIdealBody
public import proofs.«01_k».proof.Proof.InProjMath
public import proofs.«01_k».proof.Proof.Gen.InProjReferenceIdeal.Frame
public import Idealize.ShloMosaic.Lib.Pipeline.ValueKit.Geometry
public import Idealize.ShloMosaic.Lib.Pointwise

@[expose] public section

set_option maxRecDepth 16384

noncomputable section

/-! What the two programs' host operations leave in the arrays that the region reads, the kernel's blocks of them, and the
    reference's arrays, which are the same. -/

namespace Cert.InProjValue.KernelHost

open Cert.InProjIdeal Cert.InProjIdeal.Gen
open Idealize.ShloMosaic Idealize.ShloMosaic.TcCoe Idealize.ShloMosaic.Tactic

variable (m : (ℓ : Loc nD τ sig) → Buf (Elt Ideal) ℓ) (c : Dev nD)

theorem x : (V m c main_v1 : Vec Ideal S240x1536 .bf16) = shapeCast S240x1536
    (transpose S6x40x1536 [1, 0, 2] (m ((c.tc : Thread nD τ).loc main_arg0) : Vec Ideal S40x6x1536 .bf16) transposes_S40x6x1536_S6x40x1536_1_0_2)
    shapeCasts_S6x40x1536_S240x1536 := by
  entry_read
  rfl

theorem w : (V m c main_v2 : Vec Ideal S8416x1536 .fp8e4m3) = transpose S8416x1536 [1, 0]
    (m ((c.tc : Thread nD τ).loc main_arg2) : Vec Ideal S1536x8416 .fp8e4m3) transposes_S1536x8416_S8416x1536_1_0 := by
  entry_read
  rfl

theorem n : (V m c main_v3 : Vec Ideal S1x1536 .f32) = shapeCast S1x1536
    (m ((c.tc : Thread nD τ).loc main_arg1) : Vec Ideal S1536 .f32) shapeCasts_S1536_S1x1536 := by
  entry_read
  rfl

theorem s : (V m c main_v4 : Vec Ideal S1x8416 .f32) = shapeCast S1x8416
    (m ((c.tc : Thread nD τ).loc main_arg3) : Vec Ideal S8416 .f32) shapeCasts_S8416_S1x8416 := by
  entry_read
  rfl

end Cert.InProjValue.KernelHost

namespace Cert.InProjValue.ReferenceHost

open Cert.InProjReferenceIdeal Cert.InProjReferenceIdeal.Gen
open Idealize.ShloMosaic Idealize.ShloMosaic.TcCoe Idealize.ShloMosaic.Tactic

variable (m : (ℓ : Loc nD τ sig) → Buf (Elt Ideal) ℓ) (c : Dev nD)

theorem x : (V m c main_v1 : Vec Ideal S240x1536 .bf16) = shapeCast S240x1536
    (transpose S6x40x1536 [1, 0, 2] (m ((c.tc : Thread nD τ).loc main_arg0) : Vec Ideal S40x6x1536 .bf16) transposes_S40x6x1536_S6x40x1536_1_0_2)
    shapeCasts_S6x40x1536_S240x1536 := by
  entry_read
  rfl

theorem n : (V m c main_v2 : Vec Ideal S1x1536 .f32) = shapeCast S1x1536
    (m ((c.tc : Thread nD τ).loc main_arg1) : Vec Ideal S1536 .f32) shapeCasts_S1536_S1x1536 := by
  entry_read
  rfl

theorem s : (V m c main_v3 : Vec Ideal S1x8416 .f32) = shapeCast S1x8416
    (m ((c.tc : Thread nD τ).loc main_arg3) : Vec Ideal S8416 .f32) shapeCasts_S8416_S1x8416 := by
  entry_read
  rfl

end Cert.InProjValue.ReferenceHost

namespace Cert.InProjValue

open Cert.InProjIdeal Cert.InProjIdeal.Gen Cert.InProjIdeal.Hand
open Idealize.ShloMosaic Idealize.ShloMosaic.TcCoe Idealize.ShloMosaic.Tactic
open Idealize.SL.Sem
open Idealize.ShloMosaic.Pipeline (Window)

variable (m : (ℓ : Loc nD τ sig) → Buf (Elt Ideal) ℓ) (c : Dev nD)

/-! ## The arrays, as the region finds them -/

abbrev aX : Vec Ideal S240x1536 .bf16 := V m c main_v1
abbrev aN : Vec Ideal S1x1536 .f32 := V m c main_v3
abbrev aT : Vec Ideal S8416x1536 .fp8e4m3 := V m c main_v2
abbrev aS : Vec Ideal S1x8416 .f32 := V m c main_v4
/-- The weight, as the program is given it. -/
abbrev aW : Vec Ideal S1536x8416 .fp8e4m3 := m ((c.tc : Thread nD τ).loc main_arg2)

theorem aT_apply (l : Fin 8416) (k : Fin 1536) : aT m c (ix2 l k) = aW m c (ix2 k l) := by
  refine (congrFun (KernelHost.w m c) _).trans ?_
  pointwise

/-! ## The kernel's blocks -/

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, t.val] := (by decide +kernel : ∀ t : Fin grid0.N, _)
theorem index_4 : ∀ t : Fin cfg0.N, win0_4.index t = ![0, t.val] := (by decide +kernel : ∀ t : Fin grid0.N, _)

theorem size_2 : ∀ t : Fin cfg0.N, ∀ a, win0_2.xsize (cfg0.grid.coords t) a = (![min 1024 (8416 - 1024 * t.val), 1536] : Fin 2 → ℕ) a :=
  (by decide +kernel : ∀ t : Fin grid0.N, _)
theorem size_3 : ∀ t : Fin cfg0.N, ∀ a, win0_3.xsize (cfg0.grid.coords t) a = (![1, min 1024 (8416 - 1024 * t.val)] : Fin 2 → ℕ) a :=
  (by decide +kernel : ∀ t : Fin grid0.N, _)
theorem size_4 : ∀ t : Fin cfg0.N, ∀ a, win0_4.xsize (cfg0.grid.coords t) a = (![240, min 1024 (8416 - 1024 * t.val)] : Fin 2 → ℕ) a :=
  (by decide +kernel : ∀ t : Fin grid0.N, _)

theorem blk_0 (t : Fin cfg0.N) : iblk m c 0 t = aX m c := by
  funext x
  blk_simp [iblk]
  refine congrArg (V m c main_v1) ?_
  blk_ext [index_0]

theorem blk_1 (t : Fin cfg0.N) : iblk m c 1 t = aN m c := by
  funext x
  blk_simp [iblk]
  refine congrArg (V m c main_v3) ?_
  blk_ext [index_1]

theorem vB_apply (t : Fin cfg0.N) (d : Vec Ideal S1024x1536 .fp8e4m3) (j : Fin 1024) (k : Fin 1536) (l : Fin 8416)
    (hl : l.val = 1024 * t.val + j.val) : vB m c t d (ix2 j k) = aT m c (ix2 l k) := by
  have hm : (cfg0.win 2).moved (cfg0.grid.coords t) (ix2 j k) = true := ((cfg0.win 2).moved_iff _ _).mpr fun a => by
    have hs := size_2 t a
    match a with
    | ⟨0, _⟩ => exact lt_of_lt_of_eq (by show j.val < min 1024 (8416 - 1024 * t.val); omega) hs.symm
    | ⟨1, _⟩ => exact lt_of_lt_of_eq k.isLt hs.symm
  unfold vB Window.fill
  rw [dif_pos hm]
  blk_simp [iblk]
  refine congrArg (V m c main_v2) ?_
  blk_ext [index_2]

theorem vC_apply (t : Fin cfg0.N) (d : Vec Ideal S1x1024 .f32) (j : Fin 1024) (l : Fin 8416)
    (hl : l.val = 1024 * t.val + j.val) : vC m c t d (ix2 0 j) = aS m c (ix2 0 l) := by
  have hm : (cfg0.win 3).moved (cfg0.grid.coords t) (ix2 0 j) = true := ((cfg0.win 3).moved_iff _ _).mpr fun a => by
    have hs := size_3 t a
    match a with
    | ⟨0, _⟩ => exact lt_of_lt_of_eq (by show 0 < 1; omega) hs.symm
    | ⟨1, _⟩ => exact lt_of_lt_of_eq (by show j.val < min 1024 (8416 - 1024 * t.val); omega) hs.symm
  unfold vC Window.fill
  rw [dif_pos hm]
  blk_simp [iblk]
  refine congrArg (V m c main_v4) ?_
  blk_ext [index_3]

/-! ## The reference's arrays -/

section Reference

variable (m' : (ℓ : Loc InProjReferenceIdeal.nD InProjReferenceIdeal.τ InProjReferenceIdeal.sig) → Buf (Elt Ideal) ℓ)

/-- The two programs are launched with the same arguments. -/
def Same (c : Dev nD) : Prop :=
  m' ((c.tc : Thread InProjReferenceIdeal.nD InProjReferenceIdeal.τ).loc InProjReferenceIdeal.main_arg0) = m ((c.tc : Thread nD τ).loc main_arg0)
  ∧ m' ((c.tc : Thread InProjReferenceIdeal.nD InProjReferenceIdeal.τ).loc InProjReferenceIdeal.main_arg1) = m ((c.tc : Thread nD τ).loc main_arg1)
  ∧ m' ((c.tc : Thread InProjReferenceIdeal.nD InProjReferenceIdeal.τ).loc InProjReferenceIdeal.main_arg2) = m ((c.tc : Thread nD τ).loc main_arg2)
  ∧ m' ((c.tc : Thread InProjReferenceIdeal.nD InProjReferenceIdeal.τ).loc InProjReferenceIdeal.main_arg3) = m ((c.tc : Thread nD τ).loc main_arg3)

variable {m m'} {c : Dev nD} (h : Same m m' c)

theorem ref_index_0 : ∀ t : Fin InProjReferenceIdeal.cfg0.N, InProjReferenceIdeal.win0_0.index t = ![0, 0] := (by decide +kernel : ∀ t : Fin InProjReferenceIdeal.grid0.N, _)
theorem ref_index_1 : ∀ t : Fin InProjReferenceIdeal.cfg0.N, InProjReferenceIdeal.win0_1.index t = ![0, 0] := (by decide +kernel : ∀ t : Fin InProjReferenceIdeal.grid0.N, _)
theorem ref_index_2 : ∀ t : Fin InProjReferenceIdeal.cfg0.N, InProjReferenceIdeal.win0_2.index t = ![0, 0] := (by decide +kernel : ∀ t : Fin InProjReferenceIdeal.grid0.N, _)
theorem ref_index_3 : ∀ t : Fin InProjReferenceIdeal.cfg0.N, InProjReferenceIdeal.win0_3.index t = ![0, 0] := (by decide +kernel : ∀ t : Fin InProjReferenceIdeal.grid0.N, _)

include h

theorem ref_0 (t : Fin InProjReferenceIdeal.cfg0.N) : InProjReferenceIdeal.Gen.iblk m' c 0 t = aX m c := by
  obtain ⟨h0, h1, h2, h3⟩ := h
  refine Eq.trans ?_ ((ReferenceHost.x m' c).trans (Eq.trans (by rw [h0]) (KernelHost.x m c).symm))
  funext x
  blk_simp [InProjReferenceIdeal.Gen.iblk]
  refine congrArg (InProjReferenceIdeal.Gen.V m' c InProjReferenceIdeal.main_v1) ?_
  blk_ext [ref_index_0]

theorem ref_1 (t : Fin InProjReferenceIdeal.cfg0.N) : InProjReferenceIdeal.Gen.iblk m' c 1 t = aN m c := by
  obtain ⟨h0, h1, h2, h3⟩ := h
  refine Eq.trans ?_ ((ReferenceHost.n m' c).trans (Eq.trans (by rw [h1]) (KernelHost.n m c).symm))
  funext x
  blk_simp [InProjReferenceIdeal.Gen.iblk]
  refine congrArg (InProjReferenceIdeal.Gen.V m' c InProjReferenceIdeal.main_v2) ?_
  blk_ext [ref_index_1]

theorem ref_2 (t : Fin InProjReferenceIdeal.cfg0.N) : InProjReferenceIdeal.Gen.iblk m' c 2 t = aW m c := by
  obtain ⟨h0, h1, h2, h3⟩ := h
  refine Eq.trans ?_ ((InProjReferenceIdeal.Gen.V_main_arg2 m' c).trans h2)
  funext x
  blk_simp [InProjReferenceIdeal.Gen.iblk]
  refine congrArg (InProjReferenceIdeal.Gen.V m' c InProjReferenceIdeal.main_arg2) ?_
  blk_ext [ref_index_2]

theorem ref_3 (t : Fin InProjReferenceIdeal.cfg0.N) : InProjReferenceIdeal.Gen.iblk m' c 3 t = aS m c := by
  obtain ⟨h0, h1, h2, h3⟩ := h
  refine Eq.trans ?_ ((ReferenceHost.s m' c).trans (Eq.trans (by rw [h3]) (KernelHost.s m c).symm))
  funext x
  blk_simp [InProjReferenceIdeal.Gen.iblk]
  refine congrArg (InProjReferenceIdeal.Gen.V m' c InProjReferenceIdeal.main_v3) ?_
  blk_ext [ref_index_3]

end Reference

end Cert.InProjValue
-- ==== Proof.RelCut.lean ====
module

public import proofs.«01_k».proof.Proof.Rel

@[expose] public section

noncomputable section

namespace Cert.Rel

open Idealize.ShloMosaic Idealize.ShloMosaic.TcCoe Idealize.ShloMosaic.Pipeline
open Idealize.SL Idealize.SL.RA

variable {nD : Nat} {τ : Topo} {sig : RefSig} {Val : EltTy → Type} {Λ₀ : Idealize.SL.Sem.Labels}
variable {U : Type} [URA U] {cfg : Cfg sig Λ₀} {c : Dev nD} [∀ e, Nonempty (Val e)]

/-- If at every point that writes an output back the body has left what the exact data names, in the part of the block
    that lies inside the array, the array ends as the exact data says. -/
theorem cut_arrAt (dat : Dat τ Val Unit ℕ U ℕ cfg c) (R : RDat τ Val Unit ℕ U ℕ cfg c) {w : Fin cfg.W}
    (h0 : ∀ G, R.ArrAt w 0 G → G = dat.arrAt w 0)
    (hX : ∀ (t : Fin cfg.N) Z X, (cfg.win w).flush t = true → R.after w t Z X →
      (cfg.win w).cut (cfg.grid.coords t) X = (cfg.win w).cut (cfg.grid.coords t) (dat.after w t)) :
    ∀ (t : Nat) (G : Buf Val ((cfg.win w).arr.view.loc (c.tc : Thread nD τ))), R.ArrAt w t G → G = dat.arrAt w t
  | 0, G, hG => h0 G hG
  | t + 1, G, hG => by
    by_cases ht : t < cfg.N
    · have hR := R.ArrAt_succ w ⟨t, ht⟩
      have hD := dat.arrAt_succ w ⟨t, ht⟩
      dsimp only at hR hD
      rw [hR] at hG; rw [hD]
      by_cases hf : (cfg.win w).flush ⟨t, ht⟩ = true
      · rw [if_pos hf] at hG ⊢
        obtain ⟨G₀, X, hG₀, ⟨Z, -, hA⟩, rfl⟩ := hG
        rw [cut_arrAt dat R h0 hX t G₀ hG₀, hX _ _ _ hf hA]
      · rw [if_neg hf] at hG ⊢; exact cut_arrAt dat R h0 hX t G hG
    · have hN : cfg.N ≤ t := Nat.not_lt.mp ht
      rw [dat.arrAt_stable w (t + 1) (by omega), ← dat.arrAt_stable w t hN]
      exact cut_arrAt dat R h0 hX t G (by unfold RDat.ArrAt at hG; rw [dif_neg ht] at hG; exact hG)

end Cert.Rel
-- ==== Proof.InProjFinal.lean ====
module

public import proofs.«01_k».proof.Proof.InProjBlocks
public import proofs.«01_k».proof.Proof.RelCut

@[expose] public section

set_option maxRecDepth 16384

noncomputable section

/-! What the two programs' result arrays hold after their runs. -/

namespace Cert.InProjValue

section Kernel

open Cert.InProjIdeal Cert.InProjIdeal.Gen Cert.InProjIdeal.Hand
open Idealize.ShloMosaic Idealize.ShloMosaic.TcCoe Idealize.ShloMosaic.Tactic
open Idealize.SL.Sem
open Idealize.ShloMosaic.Pipeline (Window)

variable (m : (ℓ : Loc nD τ sig) → Buf (Elt Ideal) ℓ) (c : Dev nD)

/-! ## The reference's results, of the arrays -/

/-- The product. -/
def rP : FVec Ideal InProjReferenceIdeal.S240x8416 .f32 := InProjReferenceIdeal.Gen.k0_pay5 (aX m c) (aN m c) (aW m c) (aS m c)
/-- The codes of the normalised input. -/
def rC : FVec Ideal S240x1536 .fp8e4m3 := InProjReferenceIdeal.Gen.k0_pay4 (aX m c) (aN m c)
/-- Its scales. -/
def rS : FVec Ideal S6x40 .f32 := InProjReferenceIdeal.Gen.k0_pay1 (InProjReferenceIdeal.Gen.k0_pay3 (aX m c) (aN m c))

/-! ## The kernel's result arrays -/

theorem vX_eq : vX m c = aX m c := blk_0 m c _
theorem vN_eq : vN m c = aN m c := blk_1 m c _

theorem vP_apply (t : Fin cfg0.N) (d : Vec Ideal S1024x1536 .fp8e4m3) (d' : Vec Ideal S1x1024 .f32) (i : Fin 240) (j : Fin 1024)
    (l : Fin 8416) (hl : l.val = 1024 * t.val + j.val) : vP m c t d d' (ix2 i j) = rP m c (ix2 i l) := by
  unfold vP vA vS rP
  rw [vX_eq, vN_eq]
  exact tile _ _ _ _ _ _ i j l (fun k => (vB_apply m c t d j k l hl).trans (aT_apply m c l k)) (vC_apply m c t d' j l hl)

/-- Where a block of the product lies inside the array, the column it is of. -/
theorem col_4 (t : Fin cfg0.N) (y : ((cfg0.win 4).xblock (cfg0.grid.coords t)).Idx) :
    (y 0).val < 240 ∧ (y 1).val < 1024 ∧ 1024 * t.val + (y 1).val < 8416 := by
  have h0 : (y 0).val < 240 := lt_of_lt_of_eq (y 0).isLt (size_4 t 0)
  have h1 : (y 1).val < min 1024 (8416 - 1024 * t.val) := lt_of_lt_of_eq (y 1).isLt (size_4 t 1)
  omega

theorem vP_at (t : Fin cfg0.N) (d : Vec Ideal S1024x1536 .fp8e4m3) (d' : Vec Ideal S1x1024 .f32)
    (y : ((cfg0.win 4).xblock (cfg0.grid.coords t)).Idx) :
    vP m c t d d' ((cfg0.win 4).xinj (cfg0.grid.coords t) y)
      = rP m c (ix2 ⟨(y 0).val, (col_4 t y).1⟩ ⟨1024 * t.val + (y 1).val, (col_4 t y).2.2⟩) := by
  refine Eq.trans (congrArg (vP m c t d d') ?_)
    (vP_apply m c t d d' ⟨(y 0).val, (col_4 t y).1⟩ ⟨(y 1).val, (col_4 t y).2.1⟩ ⟨1024 * t.val + (y 1).val, (col_4 t y).2.2⟩ rfl)
  funext a
  match a with
  | ⟨0, _⟩ => rfl
  | ⟨1, _⟩ => rfl

theorem exact_4 : (dats m 0 c).arrAt 4 cfg0.N = rP m c := by
  refine (dats m 0 c).arrAt_eq_of_covers 4 (rP m c) (by decide +kernel) fun t hf y => ?_
  rw [after_4]
  refine (cast_eq _ _).trans ((vP_at m c t _ _ y).trans (congrArg (rP m c) ?_))
  blk_ext [index_4]

theorem final_4 (G) (h : (rdat m c).ArrAt 4 cfg0.N G) : G = rP m c := by
  refine (Cert.Rel.cut_arrAt (dats m 0 c) (rdat m c) (w := 4) (fun _ h => h) (fun t Z X _ hX => ?_) _ G h).trans (exact_4 m c)
  obtain ⟨d, d', rfl⟩ := rel_4.mp hX
  rw [after_4]
  funext y
  exact (vP_at m c t _ _ y).trans (vP_at m c t _ _ y).symm

theorem exact_5 : (dats m 0 c).arrAt 5 cfg0.N = rC m c := by
  refine (dats m 0 c).arrAt_eq_of_after_last 5 ⟨8, by decide⟩ (by decide +kernel) (rC m c) fun j => ?_
  rw [after_5, vX_eq, vN_eq, codes]
  rw [show InProjReferenceIdeal.Gen.k0_pay4 (aX m c) (aN m c) = rC m c from rfl]
  generalize rC m c = X
  refine (cast_eq _ _).trans (congrArg X (funext fun a => ?_))
  rfl

theorem final_5 (G) (h : (rdat m c).ArrAt 5 cfg0.N G) : G = rC m c := by
  refine (Cert.Rel.cut_arrAt (dats m 0 c) (rdat m c) (w := 5) (fun _ h => h) (fun t Z X _ hX => ?_) _ G h).trans (exact_5 m c)
  rw [rel_5.mp hX, after_5]

theorem exact_6 : (dats m 0 c).arrAt 6 cfg0.N = rS m c := by
  refine (dats m 0 c).arrAt_eq_of_after_last 6 ⟨8, by decide⟩ (by decide +kernel) (rS m c) fun j => ?_
  rw [after_6, vX_eq, vN_eq, groups]
  rw [show InProjReferenceIdeal.Gen.k0_pay1 (InProjReferenceIdeal.Gen.k0_pay3 (aX m c) (aN m c)) = rS m c from rfl]
  generalize rS m c = X
  refine (cast_eq _ _).trans (congrArg X (funext fun a => ?_))
  rfl

theorem final_6 (G) (h : (rdat m c).ArrAt 6 cfg0.N G) : G = rS m c := by
  refine (Cert.Rel.cut_arrAt (dats m 0 c) (rdat m c) (w := 6) (fun _ h => h) (fun t Z X _ hX => ?_) _ G h).trans (exact_6 m c)
  rw [rel_6.mp hX, after_6]

end Kernel

/-! ## The reference's result arrays -/

section Reference

open Cert.InProjReferenceIdeal Cert.InProjReferenceIdeal.Gen
open Idealize.ShloMosaic Idealize.ShloMosaic.TcCoe Idealize.ShloMosaic.Tactic
open Idealize.SL.Sem

/-- A load of the whole buffer reads its contents. -/
theorem whole_ld {d : Fin 2 → ℕ} {e : EltTy} (X : Vec Ideal ⟨2, d⟩ e) (inb : ∀ a, (![0, 0] : Fin 2 → ℕ) a + d a ≤ d a) :
    View.ld X (Rect.unit (s := ⟨2, d⟩) ![0, 0] d inb) = X :=
  View.ld_unit_lit (S := ⟨2, d⟩) inb X InProjIdeal.Hand.zero2

/-- A store of the whole buffer leaves what it stores. -/
theorem whole_st {d : Fin 2 → ℕ} {e : EltTy} (w : Vec Ideal ⟨2, d⟩ e) (inb : ∀ a, (![0, 0] : Fin 2 → ℕ) a + d a ≤ d a) :
    View.canon [(⟨Rect.unit (s := ⟨2, d⟩) ![0, 0] d inb, w⟩ : View.Piece (Elt Ideal) (⟨2, d⟩ : Shape) e)] = w :=
  View.canon_unit_zero (S := ⟨2, d⟩) (funext InProjIdeal.Hand.zero2) inb w

variable (x0 : Vec Ideal S240x1536 .bf16) (x1 : Vec Ideal S1x1536 .f32) (x2 : Vec Ideal S1536x8416 .fp8e4m3) (x3 : Vec Ideal S1x8416 .f32)

theorem ld_0 : View.ld x0 r0_0 = x0 := whole_ld x0 _
theorem ld_1 : View.ld x1 r0_1 = x1 := whole_ld x1 _
theorem ld_2 : View.ld x2 r0_2 = x2 := whole_ld x2 _
theorem ld_3 : View.ld x3 r0_3 = x3 := whole_ld x3 _

theorem out_4 : out0_4 x0 x1 x2 x3 = k0_pay5 x0 x1 x2 x3 := by
  unfold out0_4
  rw [ld_0, ld_1, ld_2, ld_3]
  exact whole_st _ _

theorem out_5 : out0_5 x0 x1 x2 x3 = k0_pay4 x0 x1 := by
  unfold out0_5
  rw [ld_0, ld_1]
  exact whole_st _ _

theorem out_6 : out0_6 x0 x1 x2 x3 = k0_pay1 (k0_pay3 x0 x1) := by
  unfold out0_6
  rw [ld_0, ld_1]
  exact whole_st _ _

variable (m : (ℓ : Loc InProjIdeal.nD InProjIdeal.τ InProjIdeal.sig) → Buf (Elt Ideal) ℓ) (c : Dev InProjIdeal.nD)
  (m' : (ℓ : Loc nD τ sig) → Buf (Elt Ideal) ℓ) (h : Same m m' c)

include h

theorem ref_final_4 : (dats m' 0 c).arrAt 4 cfg0.N = rP m c := by
  have e : (dats m' 0 c).after 4 ⟨0, by decide⟩ = rP m c := by
    rw [after0_4, ref_0 h, ref_1 h, ref_2 h, ref_3 h, out_4]
    rfl
  refine (dats m' 0 c).arrAt_eq_of_after_last 4 ⟨0, by decide⟩ (by decide +kernel) (rP m c) fun j => ?_
  rw [e]
  generalize rP m c = X
  refine (cast_eq _ _).trans (congrArg X (funext fun a => ?_))
  rfl

theorem ref_final_5 : (dats m' 0 c).arrAt 5 cfg0.N = rC m c := by
  have e : (dats m' 0 c).after 5 ⟨0, by decide⟩ = rC m c := by
    rw [after0_5, ref_0 h, ref_1 h, ref_2 h, ref_3 h, out_5]
    rfl
  refine (dats m' 0 c).arrAt_eq_of_after_last 5 ⟨0, by decide⟩ (by decide +kernel) (rC m c) fun j => ?_
  rw [e]
  generalize rC m c = X
  refine (cast_eq _ _).trans (congrArg X (funext fun a => ?_))
  rfl

theorem ref_final_6 : (dats m' 0 c).arrAt 6 cfg0.N = rS m c := by
  have e : (dats m' 0 c).after 6 ⟨0, by decide⟩ = rS m c := by
    rw [after0_6, ref_0 h, ref_1 h, ref_2 h, ref_3 h, out_6]
    rfl
  refine (dats m' 0 c).arrAt_eq_of_after_last 6 ⟨0, by decide⟩ (by decide +kernel) (rS m c) fun j => ?_
  rw [e]
  generalize rS m c = X
  refine (cast_eq _ _).trans (congrArg X (funext fun a => ?_))
  rfl

end Reference

end Cert.InProjValue
-- ==== Proof.InProjAlgebraic.lean ====
module

public import proofs.«01_k».proof.Defs
public import proofs.«01_k».proof.Proof.InProjFinal

@[expose] public section

set_option maxRecDepth 16384

noncomputable section

/-! Kernel and reference, launched with the same arguments, end with the same three results. -/

namespace Cert.InProjValue

open Idealize.ShloMosaic Idealize.ShloMosaic.TcCoe Idealize.ShloMosaic.Tactic
open Idealize.SL.Sem

set_option maxHeartbeats 1600000 in
theorem algebraic : algebraic_InProjIdeal_InProjReferenceIdeal (hInProjIdeal := Cert.InProjIdeal.Gen.facts) (hInProjReferenceIdeal := Cert.InProjReferenceIdeal.Gen.facts) := by
  intro m g m' g' _ hs
  have same : ∀ c, Same m m' c := hs
  refine ⟨rP m, rC m, rS m, ?_, ?_⟩
  · refine θ_run_mono (θ_run_and (Cert.InProjIdeal.Hand.run_main_quiescent m g) (Cert.InProjIdeal.Hand.frame m g)) ?_
    intro r hr c
    exact ⟨final_4 m c _ ((hr.1.1 c).1 4),
      final_5 m c _ ((hr.1.1 c).1 5),
      final_6 m c _ ((hr.1.1 c).1 6),
      hr.2.1 c⟩
  · refine θ_run_mono (θ_run_and (Cert.InProjReferenceIdeal.Gen.run_main m' g') (Cert.InProjReferenceIdeal.Gen.frame m' g')) ?_
    intro r hr c
    exact ⟨(hr.1.out_eq c 4).trans (ref_final_4 m c m' (same c)),
      (hr.1.out_eq c 5).trans (ref_final_5 m c m' (same c)),
      (hr.1.out_eq c 6).trans (ref_final_6 m c m' (same c)),
      hr.2.1 c⟩

end Cert.InProjValue
-- ==== Proof.lean ====
/- The claims about the kernel, put together from the proofs under Proof/. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Skeleton
public import proofs.«01_k».proof.Proof.Gen.MlpReferenceIdeal.Launch
public import proofs.«01_k».proof.Proof.Gen.MlpReferenceIdeal.Points
public import proofs.«01_k».proof.Proof.Gen.MlpReferenceIdeal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Skeleton
public import proofs.«01_k».proof.Proof.Gen.InProjReferenceIdeal.Launch
public import proofs.«01_k».proof.Proof.Gen.InProjReferenceIdeal.Points
public import proofs.«01_k».proof.Proof.Gen.InProjReferenceIdeal.Frame
public import proofs.«01_k».proof.Proof.MlpBody
public import proofs.«01_k».proof.Proof.MlpIdealBody
public import proofs.«01_k».proof.Proof.MlpAlgebraic
public import proofs.«01_k».proof.Proof.InProjBody
public import proofs.«01_k».proof.Proof.InProjIdealBody
public import proofs.«01_k».proof.Proof.InProjAlgebraic
public import Idealize.ShloMosaic.Adequacy
public import Idealize.ShloMosaic.Init

@[expose] public section

noncomputable section

namespace Cert.Proof

open Idealize.ShloMosaic Idealize.SL.Sem Cert.Mlp

/-- Every claim of the certificate. -/
theorem claim : Cert.Claim := ⟨Cert.Mlp.Gen.facts, Cert.MlpIdeal.Gen.facts, Cert.MlpReferenceIdeal.Gen.facts,
  Cert.InProj.Gen.facts, Cert.InProjIdeal.Gen.facts, Cert.InProjReferenceIdeal.Gen.facts,
  fun m g _ => Cert.Mlp.Hand.frame m g, fun m g _ => Cert.MlpIdeal.Hand.frame m g, fun m g _ => Cert.MlpReferenceIdeal.Gen.frame m g,
  fun m g _ => Cert.InProj.Hand.frame m g, fun m g _ => Cert.InProjIdeal.Hand.frame m g, fun m g _ => Cert.InProjReferenceIdeal.Gen.frame m g,
  IdealRules.named_const.statement Cert.MlpIdeal.κ "inv_448" .f32 0x3B124925#32 ((1 / 448 : ℝ) : EReal) rfl,
  Cert.MlpValue.algebraic,
  IdealRules.named_const.statement Cert.InProjIdeal.κ "inv_448" .f32 0x3B124925#32 ((1 / 448 : ℝ) : EReal) rfl,
  Cert.InProjValue.algebraic⟩

end Cert.Proof

end
